-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v49_0)) (v1 : (c : Dev Cert.Kernel2Ideal.nD) → Buf (Elt Ideal) ((c.tc : Thread Cert.Kernel2Ideal.nD Cert.Kernel2Ideal.τ).loc Cert.Kernel2Ideal.main_v49_1)) (v2 : (c : Dev Cert.Kernel2Ideal.nD) → Buf (Elt Ideal) ((c.tc : Thread Cert.Kernel2Ideal.nD Cert.Kernel2Ideal.τ).loc Cert.Kernel2Ideal.main_v49_2)) (v3 : (c : Dev Cert.Kernel2Ideal.nD) → Buf (Elt Ideal) ((c.tc : Thread Cert.Kernel2Ideal.nD Cert.Kernel2Ideal.τ).loc Cert.Kernel2Ideal.main_v49_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v49_0) = v0 c
          ∧ r.2.mem ((c.tc : Thread Cert.Kernel2Ideal.nD Cert.Kernel2Ideal.τ).loc Cert.Kernel2Ideal.main_v49_1) = v1 c
          ∧ r.2.mem ((c.tc : Thread Cert.Kernel2Ideal.nD Cert.Kernel2Ideal.τ).loc Cert.Kernel2Ideal.main_v49_2) = v2 c
          ∧ r.2.mem ((c.tc : Thread Cert.Kernel2Ideal.nD Cert.Kernel2Ideal.τ).loc Cert.Kernel2Ideal.main_v49_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v80) = v1 c
          ∧ r.2.mem ((c.tc : Thread Cert.Reference2Ideal.nD Cert.Reference2Ideal.τ).loc Cert.Reference2Ideal.main_v81) = v2 c
          ∧ r.2.mem ((c.tc : Thread Cert.Reference2Ideal.nD Cert.Reference2Ideal.τ).loc Cert.Reference2Ideal.main_v82) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v15) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_rows (hKernelIdeal := hKernelIdeal) (hReferenceIdeal := hReferenceIdeal) (hPre_finite_rows := hPre_finite_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_rows.lean ====
abbrev S32768x1024 : Shape := ⟨2, ![32768, 1024]⟩
abbrev S1024x32768 : Shape := ⟨2, ![1024, 32768]⟩
abbrev S32768x2048 : Shape := ⟨2, ![32768, 2048]⟩
abbrev S2048 : Shape := ⟨1, ![2048]⟩
abbrev S2048x1024 : Shape := ⟨2, ![2048, 1024]⟩
abbrev S1024 : Shape := ⟨1, ![1024]⟩
abbrev S_ : Shape := ⟨0, ![]⟩

class Facts : Prop where
  bitsLt_bf16_f32 : FTy.bits .bf16 < FTy.bits .f32
  transposes_S1024x32768_S32768x1024_1_0 : S1024x32768.Transposes [1, 0] S32768x1024
  slices_S32768x2048_S32768x1024_0_0 : S32768x2048.Slices ![0, 0] S32768x1024
  slices_S32768x2048_S32768x1024_0_1024 : S32768x2048.Slices ![0, 1024] S32768x1024
  bcast_S_S32768x1024 : S_.BroadcastsInDim S32768x1024 (![] : Fin 0 → Fin S32768x1024.rank)

variable [Facts]

def fn_part1 {F : FTy → Type} [FloatOps F] (main_v16 : IVec S32768x1024 1) (main_v19 : IVec S32768x1024 1) : IVec S32768x1024 1 :=
  let main_v20 : IVec S32768x1024 1 := andi main_v16 main_v19
  main_v20

def fn {F : FTy → Type} [FloatOps F] (main_arg0 : FVec F S32768x1024 .bf16) (main_arg1 : FVec F S1024x32768 .bf16) (main_arg2 : FVec F S32768x2048 .bf16) (main_arg3 : FVec F S32768x2048 .bf16) (main_arg4 : FVec F S32768x1024 .f32) (main_arg5 : FVec F S2048 .f32) (main_arg6 : FVec F S2048 .f32) (main_arg7 : FVec F S2048x1024 .f32) (main_arg8 : FVec F S1024 .f32) : IVec S32768x1024 1 :=
  let main_v0 : FVec F S32768x1024 .f32 := (extf .f32 · bitsLt_bf16_f32) main_arg0
  let main_v1 : FVec F S1024x32768 .f32 := (extf .f32 · bitsLt_bf16_f32) main_arg1
  let main_v2 : FVec F S32768x1024 .f32 := (transpose S32768x1024 [1, 0] · transposes_S1024x32768_S32768x1024_1_0) main_v1
  let main_v3 : FVec F S32768x2048 .f32 := (extf .f32 · bitsLt_bf16_f32) main_arg2
  let main_v4 : FVec F S32768x1024 .f32 := (extractStridedSlice S32768x1024 ![0, 0] · slices_S32768x2048_S32768x1024_0_0) main_v3
  let main_v5 : FVec F S32768x1024 .f32 := (extractStridedSlice S32768x1024 ![0, 1024] · slices_S32768x2048_S32768x1024_0_1024) main_v3
  let main_v6 : FVec F S32768x1024 .f32 := subf main_v0 main_v0
  let main_cst : FVec F S_ .f32 := constant S_ .f32 0x00000000#32
  let main_v7 : FVec F S32768x1024 .f32 := broadcastInDim S32768x1024 ![] bcast_S_S32768x1024 main_cst
  let main_v8 : IVec S32768x1024 1 := cmpf .oeq main_v6 main_v7
  let main_v9 : FVec F S32768x1024 .f32 := subf main_v2 main_v2
  let main_cst_0 : FVec F S_ .f32 := constant S_ .f32 0x00000000#32
  let main_v10 : FVec F S32768x1024 .f32 := broadcastInDim S32768x1024 ![] bcast_S_S32768x1024 main_cst_0
  let main_v11 : IVec S32768x1024 1 := cmpf .oeq main_v9 main_v10
  let main_v12 : IVec S32768x1024 1 := andi main_v8 main_v11
  let main_v13 : FVec F S32768x1024 .f32 := subf main_v4 main_v4
  let main_cst_1 : FVec F S_ .f32 := constant S_ .f32 0x00000000#32
  let main_v14 : FVec F S32768x1024 .f32 := broadcastInDim S32768x1024 ![] bcast_S_S32768x1024 main_cst_1
  let main_v15 : IVec S32768x1024 1 := cmpf .oeq main_v13 main_v14
  let main_v16 : IVec S32768x1024 1 := andi main_v12 main_v15
  let main_v17 : FVec F S32768x1024 .f32 := subf main_v5 main_v5
  let main_cst_2 : FVec F S_ .f32 := constant S_ .f32 0x00000000#32
  let main_v18 : FVec F S32768x1024 .f32 := broadcastInDim S32768x1024 ![] bcast_S_S32768x1024 main_cst_2
  let main_v19 : IVec S32768x1024 1 := cmpf .oeq main_v17 main_v18
  fn_part1 (F := F) main_v16 main_v19
-- ==== Kernel.lean ====
abbrev S32768x1024 : Shape := ⟨2, ![32768, 1024]⟩
abbrev S1024x32768 : Shape := ⟨2, ![1024, 32768]⟩
abbrev S32768x2048 : Shape := ⟨2, ![32768, 2048]⟩
abbrev S2048 : Shape := ⟨1, ![2048]⟩
abbrev S2048x1024 : Shape := ⟨2, ![2048, 1024]⟩
abbrev S1024 : Shape := ⟨1, ![1024]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x1x256 : Shape := ⟨3, ![4, 1, 256]⟩
abbrev S4x1x512 : Shape := ⟨3, ![4, 1, 512]⟩
abbrev S1x2048 : Shape := ⟨2, ![1, 2048]⟩
abbrev S1x1024 : Shape := ⟨2, ![1, 1024]⟩
abbrev S2x16384x1024 : Shape := ⟨3, ![2, 16384, 1024]⟩
abbrev S2x16384x2048 : Shape := ⟨3, ![2, 16384, 2048]⟩
abbrev S2x256x1024 : Shape := ⟨3, ![2, 256, 1024]⟩
abbrev S1024x256 : Shape := ⟨2, ![1024, 256]⟩
abbrev S2x256x2048 : Shape := ⟨3, ![2, 256, 2048]⟩
abbrev S8x256x512 : Shape := ⟨3, ![8, 256, 512]⟩
abbrev S1x256x1024 : Shape := ⟨3, ![1, 256, 1024]⟩
abbrev S256x1024 : Shape := ⟨2, ![256, 1024]⟩
abbrev S1x256x2048 : Shape := ⟨3, ![1, 256, 2048]⟩
abbrev S256x2048 : Shape := ⟨2, ![256, 2048]⟩
abbrev S256x512 : Shape := ⟨2, ![256, 512]⟩
abbrev S4x256x512 : Shape := ⟨3, ![4, 256, 512]⟩
abbrev S1x256x512 : Shape := ⟨3, ![1, 256, 512]⟩
abbrev S1x1x512 : Shape := ⟨3, ![1, 1, 512]⟩
abbrev S1x512 : Shape := ⟨2, ![1, 512]⟩

abbrev nBuf : Space → Nat
  | .hbm => 80
  | .vmem => 24
  | .smem => 0
  | _ => 0

abbrev bufTy : (tb : Table) → Fin (tcTables nBuf tb) → BufTy
  | .hbm, ⟨0, _⟩ => ⟨S32768x1024, .bf16⟩
  | .hbm, ⟨1, _⟩ => ⟨S1024x32768, .bf16⟩
  | .hbm, ⟨2, _⟩ => ⟨S32768x2048, .bf16⟩
  | .hbm, ⟨3, _⟩ => ⟨S32768x2048, .bf16⟩
  | .hbm, ⟨4, _⟩ => ⟨S32768x1024, .f32⟩
  | .hbm, ⟨5, _⟩ => ⟨S2048, .f32⟩
  | .hbm, ⟨6, _⟩ => ⟨S2048, .f32⟩
  | .hbm, ⟨7, _⟩ => ⟨S2048x1024, .f32⟩
  | .hbm, ⟨8, _⟩ => ⟨S1024, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S256, .f32⟩
  | .hbm, ⟨21, _⟩ => ⟨S256x1, .f32⟩
  | .hbm, ⟨22, _⟩ => ⟨S1x256, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .i1⟩
  | .hbm, ⟨29, _⟩ => ⟨S4x1x1, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S1x256x256, .f32⟩
  | .hbm, ⟨34, _⟩ => ⟨S4x256x256, .f32⟩
  | .hbm, ⟨35, _⟩ => ⟨S4x256x256, .f32⟩
  | .hbm, ⟨36, _⟩ => ⟨S4x256x256, .f32⟩
  | .hbm, ⟨37, _⟩ => ⟨S4x256x256, .f32⟩
  | .hbm, ⟨38, _⟩ => ⟨S_, .f32⟩
  | .hbm, ⟨39, _⟩ => ⟨S_, .f32⟩
  | .hbm, ⟨40, _⟩ => ⟨S4x256x256, .i1⟩
  | .hbm, ⟨41, _⟩ => ⟨S4x256x256, .f32⟩
  | .hbm, ⟨42, _⟩ => ⟨S4x256x256, .f32⟩
  | .hbm, ⟨43, _⟩ => ⟨S4x1, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S4x256, .f32⟩
  | .hbm, ⟨49, _⟩ => ⟨S4x256, .f32⟩
  | .hbm, ⟨50, _⟩ => ⟨S4x256, .f32⟩
  | .hbm, ⟨51, _⟩ => ⟨S4x256, .f32⟩
  | .hbm, ⟨52, _⟩ => ⟨S4x256x1, .f32⟩
  | .hbm, ⟨53, _⟩ => ⟨S4x256x256, .f32⟩
  | .hbm, ⟨54, _⟩ => ⟨S4x1, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S4x256, .f32⟩
  | .hbm, ⟨60, _⟩ => ⟨S4x256, .f32⟩
  | .hbm, ⟨61, _⟩ => ⟨S4x256, .f32⟩
  | .hbm, ⟨62, _⟩ => ⟨S4x256, .f32⟩
  | .hbm, ⟨63, _⟩ => ⟨S4x1x256, .f32⟩
  | .hbm, ⟨64, _⟩ => ⟨S4x256x256, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4x1x1, .f32⟩
  | .hbm, ⟨70, _⟩ => ⟨S4x1x512, .f32⟩
  | .hbm, ⟨71, _⟩ => ⟨S1x2048, .f32⟩
  | .hbm, ⟨72, _⟩ => ⟨S1x2048, .f32⟩
  | .hbm, ⟨73, _⟩ => ⟨S2048x1024, .bf16⟩
  | .hbm, ⟨74, _⟩ => ⟨S1x1024, .f32⟩
  | .hbm, ⟨75, _⟩ => ⟨S2x16384x1024, .bf16⟩
  | .hbm, ⟨76, _⟩ => ⟨S2x16384x2048, .bf16⟩
  | .hbm, ⟨77, _⟩ => ⟨S2x16384x2048, .bf16⟩
  | .hbm, ⟨78, _⟩ => ⟨S2x16384x1024, .f32⟩
  | .hbm, ⟨79, _⟩ => ⟨S2x16384x1024, .f32⟩
  | .local _ .vmem, ⟨0, _⟩ => ⟨S2x256x1024, .bf16⟩
  | .local _ .vmem, ⟨1, _⟩ => ⟨S2x256x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S2x256x2048, .bf16⟩
  | .local _ .vmem, ⟨7, _⟩ => ⟨S2x256x2048, .bf16⟩
  | .local _ .vmem, ⟨8, _⟩ => ⟨S2x256x2048, .bf16⟩
  | .local _ .vmem, ⟨9, _⟩ => ⟨S2x256x2048, .bf16⟩
  | .local _ .vmem, ⟨10, _⟩ => ⟨S2x256x1024, .f32⟩
  | .local _ .vmem, ⟨11, _⟩ => ⟨S2x256x1024, .f32⟩
  | .local _ .vmem, ⟨12, _⟩ => ⟨S4x256x256, .f32⟩
  | .local _ .vmem, ⟨13, _⟩ => ⟨S4x256x256, .f32⟩
  | .local _ .vmem, ⟨14, _⟩ => ⟨S4x256x256, .f32⟩
  | .local _ .vmem, ⟨15, _⟩ => ⟨S4x1x512, .f32⟩
  | .local _ .vmem, ⟨16, _⟩ => ⟨S1x2048, .f32⟩
  | .local _ .vmem, ⟨17, _⟩ => ⟨S1x2048, .f32⟩
  | .local _ .vmem, ⟨18, _⟩ => ⟨S2048x1024, .bf16⟩
  | .local _ .vmem, ⟨19, _⟩ => ⟨S1x1024, .f32⟩
  | .local _ .vmem, ⟨20, _⟩ => ⟨S2x256x1024, .f32⟩
  | .local _ .vmem, ⟨21, _⟩ => ⟨S2x256x1024, .f32⟩
  | .local _ .vmem, ⟨22, _⟩ => ⟨S8x256x512, .f32⟩
  | .local _ .vmem, ⟨23, _⟩ => ⟨S2x256x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S32768x1024 : Shape := ⟨2, ![32768, 1024]⟩
abbrev S1024x32768 : Shape := ⟨2, ![1024, 32768]⟩
abbrev S32768x2048 : Shape := ⟨2, ![32768, 2048]⟩
abbrev S2048 : Shape := ⟨1, ![2048]⟩
abbrev S2048x1024 : Shape := ⟨2, ![2048, 1024]⟩
abbrev S1024 : Shape := ⟨1, ![1024]⟩
abbrev S2x16384x4x256 : Shape := ⟨4, ![2, 16384, 4, 256]⟩
abbrev S2x16384x4x512 : Shape := ⟨4, ![2, 16384, 4, 512]⟩
abbrev S2x16384x2048 : Shape := ⟨3, ![2, 16384, 2048]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S2x128x128x4x256 : Shape := ⟨5, ![2, 128, 128, 4, 256]⟩
abbrev S2x128x128x4x512 : Shape := ⟨5, ![2, 128, 128, 4, 512]⟩
abbrev S2x128x4x128x128 : Shape := ⟨5, ![2, 128, 4, 128, 128]⟩
abbrev S1x1x4x128x128 : Shape := ⟨5, ![1, 1, 4, 128, 128]⟩
abbrev S2x128x4x512x128 : Shape := ⟨5, ![2, 128, 4, 512, 128]⟩
abbrev S1x4 : Shape := ⟨2, ![1, 4]⟩
abbrev S128x4 : Shape := ⟨2, ![128, 4]⟩
abbrev S128x4x1 : Shape := ⟨3, ![128, 4, 1]⟩
abbrev S1x1x128x4x1 : Shape := ⟨5, ![1, 1, 128, 4, 1]⟩
abbrev S128x2x128x4x256 : Shape := ⟨5, ![128, 2, 128, 4, 256]⟩
abbrev S128x2x128x4x512 : Shape := ⟨5, ![128, 2, 128, 4, 512]⟩
abbrev S2x4x256x512 : Shape := ⟨4, ![2, 4, 256, 512]⟩
abbrev S1x2x128x4x256 : Shape := ⟨5, ![1, 2, 128, 4, 256]⟩
abbrev S2x128x4x256 : Shape := ⟨4, ![2, 128, 4, 256]⟩
abbrev S1x2x128x4x512 : Shape := ⟨5, ![1, 2, 128, 4, 512]⟩
abbrev S2x128x4x512 : Shape := ⟨4, ![2, 128, 4, 512]⟩
abbrev S2x4x512x128 : Shape := ⟨4, ![2, 4, 512, 128]⟩
abbrev S1x4x1x1 : Shape := ⟨4, ![1, 4, 1, 1]⟩
abbrev S2x16384x4 : Shape := ⟨3, ![2, 16384, 4]⟩
abbrev S2x16384x4x1 : Shape := ⟨4, ![2, 16384, 4, 1]⟩
abbrev S1x1x2048 : Shape := ⟨3, ![1, 1, 2048]⟩
abbrev S2x16384x1024 : Shape := ⟨3, ![2, 16384, 1024]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 204
  | .vmem => 0
  | .smem => 0
  | _ => 0

abbrev hbmTy0_0 (i : Nat) : BufTy := match i % 128 with
  | 0 => ⟨S32768x1024, .bf16⟩
  | 1 => ⟨S1024x32768, .bf16⟩
  | 2 => ⟨S32768x2048, .bf16⟩
  | 3 => ⟨S32768x2048, .bf16⟩
  | 4 => ⟨S32768x1024, .f32⟩
  | 5 => ⟨S2048, .f32⟩
  | 6 => ⟨S2048, .f32⟩
  | 7 => ⟨S2048x1024, .f32⟩
  | 8 => ⟨S1024, .f32⟩
  | 9 => ⟨S32768x1024, .f32⟩
  | 10 => ⟨S2x16384x4x256, .f32⟩
  | 11 => ⟨S1024x32768, .f32⟩
  | 12 => ⟨S32768x1024, .f32⟩
  | 13 => ⟨S2x16384x4x256, .f32⟩
  | 14 => ⟨S32768x2048, .f32⟩
  | 15 => ⟨S2x16384x4x512, .f32⟩
  | 16 => ⟨S32768x2048, .f32⟩
  | 17 => ⟨S2x16384x2048, .f32⟩
  | 18 => ⟨S4, .f32⟩
  | 19 => ⟨S_, .f32⟩
  | 20 => ⟨S4, .f32⟩
  | 21 => ⟨S4, .f32⟩
  | 22 => ⟨S_, .f32⟩
  | 23 => ⟨S4, .f32⟩
  | 24 => ⟨S4, .f32⟩
  | 25 => ⟨S_, .f32⟩
  | 26 => ⟨S4, .f32⟩
  | 27 => ⟨S4, .f32⟩
  | 28 => ⟨S4, .f32⟩
  | 29 => ⟨S128, .f32⟩
  | 30 => ⟨S128x1, .f32⟩
  | 31 => ⟨S1x128, .f32⟩
  | 32 => ⟨S128x128, .f32⟩
  | 33 => ⟨S128x128, .f32⟩
  | 34 => ⟨S128x128, .f32⟩
  | 35 => ⟨S_, .f32⟩
  | 36 => ⟨S128x128, .f32⟩
  | 37 => ⟨S128x128, .i1⟩
  | 38 => ⟨S4x1x1, .f32⟩
  | 39 => ⟨S_, .f32⟩
  | 40 => ⟨S128x128, .f32⟩
  | 41 => ⟨S128x128, .f32⟩
  | 42 => ⟨S1x128x128, .f32⟩
  | 43 => ⟨S4x128x128, .f32⟩
  | 44 => ⟨S4x128x128, .f32⟩
  | 45 => ⟨S4x128x128, .f32⟩
  | 46 => ⟨S4x128x128, .f32⟩
  | 47 => ⟨S_, .f32⟩
  | 48 => ⟨S_, .f32⟩
  | 49 => ⟨S4x128x128, .i1⟩
  | 50 => ⟨S4x128x128, .f32⟩
  | 51 => ⟨S4x128x128, .f32⟩
  | 52 => ⟨S2x128x128x4x256, .f32⟩
  | 53 => ⟨S2x128x128x4x256, .f32⟩
  | 54 => ⟨S2x128x128x4x512, .f32⟩
  | 55 => ⟨S2x128x4x128x128, .f32⟩
  | 56 => ⟨S1x1x4x128x128, .f32⟩
  | 57 => ⟨S2x128x4x128x128, .f32⟩
  | 58 => ⟨S2x128x4x128x128, .f32⟩
  | 59 => ⟨S2x128x4x512x128, .f32⟩
  | 60 => ⟨S2x128x128x4x512, .f32⟩
  | 61 => ⟨S1x4, .f32⟩
  | 62 => ⟨S128x1, .f32⟩
  | 63 => ⟨S_, .f32⟩
  | 64 => ⟨S128x1, .f32⟩
  | 65 => ⟨S128x1, .f32⟩
  | 66 => ⟨S128x4, .f32⟩
  | 67 => ⟨S128x4, .f32⟩
  | 68 => ⟨S128x4, .f32⟩
  | 69 => ⟨S128x4, .f32⟩
  | 70 => ⟨S1x4, .f32⟩
  | 71 => ⟨S_, .f32⟩
  | 72 => ⟨S128, .f32⟩
  | 73 => ⟨S128, .f32⟩
  | 74 => ⟨S128x1, .f32⟩
  | 75 => ⟨S128x4, .f32⟩
  | 76 => ⟨S128x4, .f32⟩
  | 77 => ⟨S128x4, .f32⟩
  | 78 => ⟨S128x4, .f32⟩
  | 79 => ⟨S_, .f32⟩
  | 80 => ⟨S4, .f32⟩
  | 81 => ⟨S4, .f32⟩
  | 82 => ⟨S4, .f32⟩
  | 83 => ⟨S128x4x1, .f32⟩
  | 84 => ⟨S1x1x128x4x1, .f32⟩
  | 85 => ⟨S2x128x128x4x256, .f32⟩
  | 86 => ⟨S2x128x128x4x256, .f32⟩
  | 87 => ⟨S128x2x128x4x256, .f32⟩
  | 88 => ⟨S128x4x1, .f32⟩
  | 89 => ⟨S1x1x128x4x1, .f32⟩
  | 90 => ⟨S2x128x128x4x256, .f32⟩
  | 91 => ⟨S2x128x128x4x256, .f32⟩
  | 92 => ⟨S128x2x128x4x256, .f32⟩
  | 93 => ⟨S128x2x128x4x512, .f32⟩
  | 94 => ⟨S_, .f32⟩
  | 95 => ⟨S2x4x256x512, .f32⟩
  | 96 => ⟨S_, .f32⟩
  | 97 => ⟨S128x2x128x4x512, .f32⟩
  | 98 => ⟨S_, .i32⟩
  | 99 => ⟨S128x2x128x4x256, .f32⟩
  | 100 => ⟨S128x2x128x4x256, .f32⟩
  | 101 => ⟨S128x2x128x4x512, .f32⟩
  | 102 => ⟨S4, .f32⟩
  | 103 => ⟨S_, .i32⟩
  | 104 => ⟨S2x4x256x512, .f32⟩
  | 105 => ⟨S128x2x128x4x512, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S1x2x128x4x256, .f32⟩
  | 113 => ⟨S2x128x4x256, .f32⟩
  | 114 => ⟨S_, .i32⟩
  | 115 => ⟨S_, .i32⟩
  | 116 => ⟨S_, .i32⟩
  | 117 => ⟨S_, .i32⟩
  | 118 => ⟨S1x2x128x4x256, .f32⟩
  | 119 => ⟨S2x128x4x256, .f32⟩
  | 120 => ⟨S_, .i32⟩
  | 121 => ⟨S_, .i32⟩
  | 122 => ⟨S_, .i32⟩
  | 123 => ⟨S_, .i32⟩
  | 124 => ⟨S1x2x128x4x512, .f32⟩
  | 125 => ⟨S2x128x4x512, .f32⟩
  | 126 => ⟨S2x4x512x128, .f32⟩
  | 127 => ⟨S2x128x4x512, .f32⟩
  | _ => ⟨S32768x1024, .bf16⟩

abbrev hbmTy0_1 (i : Nat) : BufTy := match i % 128 with
  | 0 => ⟨S4x1x1, .f32⟩
  | 1 => ⟨S1x4x1x1, .f32⟩
  | 2 => ⟨S2x4x256x512, .f32⟩
  | 3 => ⟨S2x4x256x512, .f32⟩
  | 4 => ⟨S2x4x256x512, .f32⟩
  | 5 => ⟨S2x4x256x512, .f32⟩
  | 6 => ⟨S1x2x128x4x512, .f32⟩
  | 7 => ⟨S_, .i32⟩
  | 8 => ⟨S_, .i32⟩
  | 9 => ⟨S_, .i32⟩
  | 10 => ⟨S_, .i32⟩
  | 11 => ⟨S128x2x128x4x512, .f32⟩
  | 12 => ⟨S_, .i32⟩
  | 13 => ⟨S_, .i32⟩
  | 14 => ⟨S2x128x128x4x512, .f32⟩
  | 15 => ⟨S2x128x128x4x512, .f32⟩
  | 16 => ⟨S2x16384x4x512, .f32⟩
  | 17 => ⟨S_, .f32⟩
  | 18 => ⟨S2x16384x4, .f32⟩
  | 19 => ⟨S2x16384x4x1, .f32⟩
  | 20 => ⟨S_, .f32⟩
  | 21 => ⟨S2x16384x4x1, .f32⟩
  | 22 => ⟨S2x16384x4x1, .f32⟩
  | 23 => ⟨S2x16384x4x512, .f32⟩
  | 24 => ⟨S2x16384x4x512, .f32⟩
  | 25 => ⟨S2x16384x4x512, .f32⟩
  | 26 => ⟨S_, .f32⟩
  | 27 => ⟨S2x16384x4, .f32⟩
  | 28 => ⟨S2x16384x4x1, .f32⟩
  | 29 => ⟨S_, .f32⟩
  | 30 => ⟨S2x16384x4x1, .f32⟩
  | 31 => ⟨S2x16384x4x1, .f32⟩
  | 32 => ⟨S2x16384x4x512, .f32⟩
  | 33 => ⟨S2x16384x4x512, .f32⟩
  | 34 => ⟨S_, .f32⟩
  | 35 => ⟨S2x16384x4x1, .f32⟩
  | 36 => ⟨S2x16384x4x1, .f32⟩
  | 37 => ⟨S2x16384x4x1, .f32⟩
  | 38 => ⟨S2x16384x4x512, .f32⟩
  | 39 => ⟨S2x16384x4x512, .f32⟩
  | 40 => ⟨S2x16384x2048, .f32⟩
  | 41 => ⟨S1x1x2048, .f32⟩
  | 42 => ⟨S2x16384x2048, .f32⟩
  | 43 => ⟨S2x16384x2048, .f32⟩
  | 44 => ⟨S1x1x2048, .f32⟩
  | 45 => ⟨S2x16384x2048, .f32⟩
  | 46 => ⟨S2x16384x2048, .f32⟩
  | 47 => ⟨S2x16384x2048, .f32⟩
  | 48 => ⟨S2x16384x2048, .f32⟩
  | 49 => ⟨S_, .f32⟩
  | 50 => ⟨S2x16384x2048, .f32⟩
  | 51 => ⟨S2x16384x2048, .f32⟩
  | 52 => ⟨S_, .f32⟩
  | 53 => ⟨S2x16384x2048, .f32⟩
  | 54 => ⟨S2x16384x2048, .f32⟩
  | 55 => ⟨S2x16384x2048, .f32⟩
  | 56 => ⟨S2x16384x2048, .f32⟩
  | 57 => ⟨S2x16384x1024, .f32⟩
  | 58 => ⟨S2x16384x1024, .f32⟩
  | 59 => ⟨S2x16384x1024, .f32⟩
  | 60 => ⟨S2x16384x1024, .f32⟩
  | 61 => ⟨S_, .f32⟩
  | 62 => ⟨S2x16384, .f32⟩
  | 63 => ⟨S2x16384x1, .f32⟩
  | 64 => ⟨S_, .f32⟩
  | 65 => ⟨S2x16384x1, .f32⟩
  | 66 => ⟨S2x16384x1, .f32⟩
  | 67 => ⟨S_, .f32⟩
  | 68 => ⟨S2x16384x1, .f32⟩
  | 69 => ⟨S2x16384x1, .f32⟩
  | 70 => ⟨S2x16384x1, .f32⟩
  | 71 => ⟨S2x16384x1024, .f32⟩
  | 72 => ⟨S2x16384x1024, .f32⟩
  | 73 => ⟨S1x1x1024, .f32⟩
  | 74 => ⟨S2x16384x1024, .f32⟩
  | 75 => ⟨S2x16384x1024, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_cst_9 : Ref sig .tc := ⟨.hbm, 96, rfl⟩
abbrev main_v74 : Ref sig .tc := ⟨.hbm, 97, rfl⟩
abbrev main_c : Ref sig .tc := ⟨.hbm, 98, rfl⟩
abbrev main_v75_0 : Ref sig .tc := ⟨.hbm, 99, rfl⟩
abbrev main_v75_1 : Ref sig .tc := ⟨.hbm, 100, rfl⟩
abbrev main_v75_2 : Ref sig .tc := ⟨.hbm, 101, rfl⟩
abbrev main_v75_3 : Ref sig .tc := ⟨.hbm, 102, rfl⟩
abbrev main_v75_4 : Ref sig .tc := ⟨.hbm, 103, rfl⟩
abbrev main_v75_5 : Ref sig .tc := ⟨.hbm, 104, rfl⟩
abbrev main_v75_6 : Ref sig .tc := ⟨.hbm, 105, rfl⟩
abbrev main_while0c_c_24 : Ref sig .tc := ⟨.hbm, 106, rfl⟩
abbrev main_while0c_v122 : Ref sig .tc := ⟨.hbm, 107, rfl⟩
abbrev main_while0b_call1_c : Ref sig .tc := ⟨.hbm, 108, rfl⟩
abbrev main_while0b_call1_c_0 : Ref sig .tc := ⟨.hbm, 109, rfl⟩
abbrev main_while0b_call1_c_1 : Ref sig .tc := ⟨.hbm, 110, rfl⟩
abbrev main_while0b_call1_c_2 : Ref sig .tc := ⟨.hbm, 111, rfl⟩
abbrev main_while0b_call1_v0 : Ref sig .tc := ⟨.hbm, 112, rfl⟩
abbrev main_while0b_v122 : Ref sig .tc := ⟨.hbm, 113, rfl⟩
abbrev main_while0b_call2_c : Ref sig .tc := ⟨.hbm, 114, rfl⟩
abbrev main_while0b_call2_c_0 : Ref sig .tc := ⟨.hbm, 115, rfl⟩
abbrev main_while0b_call2_c_1 : Ref sig .tc := ⟨.hbm, 116, rfl⟩
abbrev main_while0b_call2_c_2 : Ref sig .tc := ⟨.hbm, 117, rfl⟩
abbrev main_while0b_call2_v0 : Ref sig .tc := ⟨.hbm, 118, rfl⟩
abbrev main_while0b_v123 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_c_1 : Ref sig .tc := ⟨.hbm, 122, rfl⟩
abbrev main_while0b_call3_c_2 : Ref sig .tc := ⟨.hbm, 123, rfl⟩
abbrev main_while0b_call3_v0 : Ref sig .tc := ⟨.hbm, 124, rfl⟩
abbrev main_while0b_v124 : Ref sig .tc := ⟨.hbm, 125, rfl⟩
abbrev main_while0b_v125 : Ref sig .tc := ⟨.hbm, 126, rfl⟩
abbrev main_while0b_v126 : Ref sig .tc := ⟨.hbm, 127, rfl⟩
abbrev main_while0b_v127 : Ref sig .tc := ⟨.hbm, 128, rfl⟩
abbrev main_while0b_v128 : Ref sig .tc := ⟨.hbm, 129, rfl⟩
abbrev main_while0b_v129 : Ref sig .tc := ⟨.hbm, 130, rfl⟩
abbrev main_while0b_v130 : Ref sig .tc := ⟨.hbm, 131, rfl⟩
abbrev main_while0b_v131 : Ref sig .tc := ⟨.hbm, 132, rfl⟩
abbrev main_while0b_v132 : Ref sig .tc := ⟨.hbm, 133, rfl⟩
abbrev main_while0b_call4_v0 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_call4_c_1 : Ref sig .tc := ⟨.hbm, 137, rfl⟩
abbrev main_while0b_call4_c_2 : Ref sig .tc := ⟨.hbm, 138, rfl⟩
abbrev main_while0b_v133 : Ref sig .tc := ⟨.hbm, 139, rfl⟩
abbrev main_while0b_c_24 : Ref sig .tc := ⟨.hbm, 140, rfl⟩
abbrev main_while0b_v134 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_cst_10 : Ref sig .tc := ⟨.hbm, 145, rfl⟩
abbrev main_v79 : Ref sig .tc := ⟨.hbm, 146, rfl⟩
abbrev main_v80 : Ref sig .tc := ⟨.hbm, 147, rfl⟩
abbrev main_cst_11 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_12 : Ref sig .tc := ⟨.hbm, 154, rfl⟩
abbrev main_v86 : Ref sig .tc := ⟨.hbm, 155, rfl⟩
abbrev main_v87 : Ref sig .tc := ⟨.hbm, 156, rfl⟩
abbrev main_cst_13 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_cst_14 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_call5_v0 : Ref sig .tc := ⟨.hbm, 175, rfl⟩
abbrev main_call5_v1 : Ref sig .tc := ⟨.hbm, 176, rfl⟩
abbrev main_call5_cst : Ref sig .tc := ⟨.hbm, 177, rfl⟩
abbrev main_call5_v2 : Ref sig .tc := ⟨.hbm, 178, rfl⟩
abbrev main_call5_v3 : Ref sig .tc := ⟨.hbm, 179, rfl⟩
abbrev main_call5_cst_0 : Ref sig .tc := ⟨.hbm, 180, rfl⟩
abbrev main_call5_v4 : Ref sig .tc := ⟨.hbm, 181, rfl⟩
abbrev main_call5_v5 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_cst_15 : Ref sig .tc := ⟨.hbm, 189, rfl⟩
abbrev main_v110 : Ref sig .tc := ⟨.hbm, 190, rfl⟩
abbrev main_v111 : Ref sig .tc := ⟨.hbm, 191, rfl⟩
abbrev main_cst_16 : Ref sig .tc := ⟨.hbm, 192, rfl⟩
abbrev main_v112 : Ref sig .tc := ⟨.hbm, 193, rfl⟩
abbrev main_v113 : Ref sig .tc := ⟨.hbm, 194, rfl⟩
abbrev main_cst_17 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x1024 : Shape := ⟨2, ![32768, 1024]⟩
abbrev S1024 : Shape := ⟨1, ![1024]⟩
abbrev S1024x6144 : Shape := ⟨2, ![1024, 6144]⟩
abbrev S1024x1024 : Shape := ⟨2, ![1024, 1024]⟩
abbrev S1024x4x128x2 : Shape := ⟨4, ![1024, 4, 128, 2]⟩
abbrev S1024x4x2x128 : Shape := ⟨4, ![1024, 4, 2, 128]⟩
abbrev S1024x2048 : Shape := ⟨2, ![1024, 2048]⟩
abbrev S_ : Shape := ⟨0, ![]⟩
abbrev S127 : Shape := ⟨1, ![127]⟩
abbrev S1 : Shape := ⟨1, ![1]⟩
abbrev S128 : Shape := ⟨1, ![128]⟩
abbrev S512 : Shape := ⟨1, ![512]⟩
abbrev S512x1 : Shape := ⟨2, ![512, 1]⟩
abbrev S1x128 : Shape := ⟨2, ![1, 128]⟩
abbrev S512x128 : Shape := ⟨2, ![512, 128]⟩
abbrev S32 : Shape := ⟨1, ![32]⟩
abbrev S32x1 : Shape := ⟨2, ![32, 1]⟩
abbrev S32x128 : Shape := ⟨2, ![32, 128]⟩
abbrev S32x1x128 : Shape := ⟨3, ![32, 1, 128]⟩
abbrev S32x128x1 : Shape := ⟨3, ![32, 128, 1]⟩
abbrev S32x128x128 : Shape := ⟨3, ![32, 128, 128]⟩
abbrev S1x1024 : Shape := ⟨2, ![1, 1024]⟩
abbrev S128x512 : Shape := ⟨2, ![128, 512]⟩
abbrev S1024x32768 : Shape := ⟨2, ![1024, 32768]⟩
abbrev S32768x2048 : Shape := ⟨2, ![32768, 2048]⟩
abbrev S512x1024 : Shape := ⟨2, ![512, 1024]⟩
abbrev S1x1x128 : Shape := ⟨3, ![1, 1, 128]⟩
abbrev S1x128x128 : Shape := ⟨3, ![1, 128, 128]⟩
abbrev S1024x512 : Shape := ⟨2, ![1024, 512]⟩
abbrev S512x2048 : Shape := ⟨2, ![512, 2048]⟩
abbrev S128x128 : Shape := ⟨2, ![128, 128]⟩

abbrev nBuf : Space → Nat
  | .hbm => 81
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S1024x1024, .f32⟩
  | .hbm, ⟨4, _⟩ => ⟨S1024x4x128x2, .f32⟩
  | .hbm, ⟨5, _⟩ => ⟨S1024x4x2x128, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x4x128x2, .f32⟩
  | .hbm, ⟨10, _⟩ => ⟨S1024x4x2x128, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x2048, .f32⟩
  | .hbm, ⟨15, _⟩ => ⟨S1024x2048, .bf16⟩
  | .hbm, ⟨16, _⟩ => ⟨S1024x2048, .f32⟩
  | .hbm, ⟨17, _⟩ => ⟨S1024x2048, .bf16⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S127, .f32⟩
  | .hbm, ⟨26, _⟩ => ⟨S_, .f32⟩
  | .hbm, ⟨27, _⟩ => ⟨S127, .f32⟩
  | .hbm, ⟨28, _⟩ => ⟨S127, .f32⟩
  | .hbm, ⟨29, _⟩ => ⟨S1, .f32⟩
  | .hbm, ⟨30, _⟩ => ⟨S_, .f32⟩
  | .hbm, ⟨31, _⟩ => ⟨S127, .f32⟩
  | .hbm, ⟨32, _⟩ => ⟨S127, .f32⟩
  | .hbm, ⟨33, _⟩ => ⟨S127, .f32⟩
  | .hbm, ⟨34, _⟩ => ⟨S127, .f32⟩
  | .hbm, ⟨35, _⟩ => ⟨S1, .f32⟩
  | .hbm, ⟨36, _⟩ => ⟨S127, .f32⟩
  | .hbm, ⟨37, _⟩ => ⟨S127, .f32⟩
  | .hbm, ⟨38, _⟩ => ⟨S127, .f32⟩
  | .hbm, ⟨39, _⟩ => ⟨S1, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S512, .f32⟩
  | .hbm, ⟨48, _⟩ => ⟨S512x1, .f32⟩
  | .hbm, ⟨49, _⟩ => ⟨S1x128, .f32⟩
  | .hbm, ⟨50, _⟩ => ⟨S512x128, .f32⟩
  | .hbm, ⟨51, _⟩ => ⟨S512x128, .f32⟩
  | .hbm, ⟨52, _⟩ => ⟨S512x128, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S32x1, .f32⟩
  | .hbm, ⟨58, _⟩ => ⟨S1x128, .f32⟩
  | .hbm, ⟨59, _⟩ => ⟨S32x128, .f32⟩
  | .hbm, ⟨60, _⟩ => ⟨S32x128, .f32⟩
  | .hbm, ⟨61, _⟩ => ⟨S32x128, .f32⟩
  | .hbm, ⟨62, _⟩ => ⟨S512x128, .f32⟩
  | .hbm, ⟨63, _⟩ => ⟨S512x128, .f32⟩
  | .hbm, ⟨64, _⟩ => ⟨S32x128, .f32⟩
  | .hbm, ⟨65, _⟩ => ⟨S32x1x128, .f32⟩
  | .hbm, ⟨66, _⟩ => ⟨S32x128, .f32⟩
  | .hbm, ⟨67, _⟩ => ⟨S32x1x128, .f32⟩
  | .hbm, ⟨68, _⟩ => ⟨S32x128, .f32⟩
  | .hbm, ⟨69, _⟩ => ⟨S32x128x1, .f32⟩
  | .hbm, ⟨70, _⟩ => ⟨S32x128x128, .f32⟩
  | .hbm, ⟨71, _⟩ => ⟨S32x128, .f32⟩
  | .hbm, ⟨72, _⟩ => ⟨S32x128x1, .f32⟩
  | .hbm, ⟨73, _⟩ => ⟨S32x128x128, .f32⟩
  | .hbm, ⟨74, _⟩ => ⟨S1x1024, .f32⟩
  | .hbm, ⟨75, _⟩ => ⟨S128x512, .f32⟩
  | .hbm, ⟨76, _⟩ => ⟨S128x512, .f32⟩
  | .hbm, ⟨77, _⟩ => ⟨S32768x1024, .bf16⟩
  | .hbm, ⟨78, _⟩ => ⟨S1024x32768, .bf16⟩
  | .hbm, ⟨79, _⟩ => ⟨S32768x2048, .bf16⟩
  | .hbm, ⟨80, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S128x512, .f32⟩
  | .local _ .vmem, ⟨10, _⟩ => ⟨S128x512, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1024x1024, .bf16⟩
  | .local _ .vmem, ⟨16, _⟩ => ⟨S1024x1024, .bf16⟩
  | .local _ .vmem, ⟨17, _⟩ => ⟨S1024x2048, .bf16⟩
  | .local _ .vmem, ⟨18, _⟩ => ⟨S1024x2048, .bf16⟩
  | .local _ .vmem, ⟨19, _⟩ => ⟨S512x1024, .bf16⟩
  | .local _ .vmem, ⟨20, _⟩ => ⟨S512x1024, .bf16⟩
  | .local _ .vmem, ⟨21, _⟩ => ⟨S1024x512, .bf16⟩
  | .local _ .vmem, ⟨22, _⟩ => ⟨S1024x512, .bf16⟩
  | .local _ .vmem, ⟨23, _⟩ => ⟨S512x2048, .bf16⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_cst_0 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49_0 : Ref sig .tc := ⟨.hbm, 77, rfl⟩
abbrev main_v49_1 : Ref sig .tc := ⟨.hbm, 78, rfl⟩
abbrev main_v49_2 : Ref sig .tc := ⟨.hbm, 79, rfl⟩
abbrev main_v49_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_5 (i : grid0.Coords) : Fin 3 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_9 (i : grid0.Coords) : Fin 3 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S32768x1024 : Shape := ⟨2, ![32768, 1024]⟩
abbrev S1024 : Shape := ⟨1, ![1024]⟩
abbrev S1024x6144 : Shape := ⟨2, ![1024, 6144]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x6144 : Shape := ⟨3, ![2, 16384, 6144]⟩
abbrev S2x16384x4x256 : Shape := ⟨4, ![2, 16384, 4, 256]⟩
abbrev S2x16384x2048 : Shape := ⟨3, ![2, 16384, 2048]⟩
abbrev S32768x2048 : Shape := ⟨2, ![32768, 2048]⟩
abbrev S16384 : Shape := ⟨1, ![16384]⟩
abbrev S127 : Shape := ⟨1, ![127]⟩
abbrev S1 : Shape := ⟨1, ![1]⟩
abbrev S128 : Shape := ⟨1, ![128]⟩
abbrev S128x2 : Shape := ⟨2, ![128, 2]⟩
abbrev S256 : Shape := ⟨1, ![256]⟩
abbrev S16384x1 : Shape := ⟨2, ![16384, 1]⟩
abbrev S1x256 : Shape := ⟨2, ![1, 256]⟩
abbrev S16384x256 : Shape := ⟨2, ![16384, 256]⟩
abbrev S2x16384x4x128 : Shape := ⟨4, ![2, 16384, 4, 128]⟩
abbrev S2x16384x4x128x1 : Shape := ⟨5, ![2, 16384, 4, 128, 1]⟩
abbrev S2x16384x4x128x2 : Shape := ⟨5, ![2, 16384, 4, 128, 2]⟩
abbrev S16384x1x256 : Shape := ⟨3, ![16384, 1, 256]⟩
abbrev S1x16384x1x256 : Shape := ⟨4, ![1, 16384, 1, 256]⟩
abbrev S2x16384x4x2x128 : Shape := ⟨5, ![2, 16384, 4, 2, 128]⟩
abbrev S1024x32768 : Shape := ⟨2, ![1024, 32768]⟩

abbrev nBuf : Space → Nat
  | .hbm => 114
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S2x16384x1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x6144, .f32⟩
  | .hbm, ⟨21, _⟩ => ⟨S2x16384x1024, .f32⟩
  | .hbm, ⟨22, _⟩ => ⟨S2x16384x4x256, .f32⟩
  | .hbm, ⟨23, _⟩ => ⟨S2x16384x1024, .f32⟩
  | .hbm, ⟨24, _⟩ => ⟨S2x16384x4x256, .f32⟩
  | .hbm, ⟨25, _⟩ => ⟨S2x16384x2048, .f32⟩
  | .hbm, ⟨26, _⟩ => ⟨S32768x2048, .f32⟩
  | .hbm, ⟨27, _⟩ => ⟨S2x16384x2048, .f32⟩
  | .hbm, ⟨28, _⟩ => ⟨S32768x2048, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S127, .f32⟩
  | .hbm, ⟨38, _⟩ => ⟨S_, .f32⟩
  | .hbm, ⟨39, _⟩ => ⟨S127, .f32⟩
  | .hbm, ⟨40, _⟩ => ⟨S127, .f32⟩
  | .hbm, ⟨41, _⟩ => ⟨S1, .f32⟩
  | .hbm, ⟨42, _⟩ => ⟨S_, .f32⟩
  | .hbm, ⟨43, _⟩ => ⟨S127, .f32⟩
  | .hbm, ⟨44, _⟩ => ⟨S127, .f32⟩
  | .hbm, ⟨45, _⟩ => ⟨S127, .f32⟩
  | .hbm, ⟨46, _⟩ => ⟨S127, .f32⟩
  | .hbm, ⟨47, _⟩ => ⟨S1, .f32⟩
  | .hbm, ⟨48, _⟩ => ⟨S127, .f32⟩
  | .hbm, ⟨49, _⟩ => ⟨S127, .f32⟩
  | .hbm, ⟨50, _⟩ => ⟨S127, .f32⟩
  | .hbm, ⟨51, _⟩ => ⟨S1, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128x2, .f32⟩
  | .hbm, ⟨60, _⟩ => ⟨S256, .f32⟩
  | .hbm, ⟨61, _⟩ => ⟨S16384x1, .f32⟩
  | .hbm, ⟨62, _⟩ => ⟨S1x256, .f32⟩
  | .hbm, ⟨63, _⟩ => ⟨S16384x256, .f32⟩
  | .hbm, ⟨64, _⟩ => ⟨S16384x256, .f32⟩
  | .hbm, ⟨65, _⟩ => ⟨S16384x256, .f32⟩
  | .hbm, ⟨66, _⟩ => ⟨S16384x256, .f32⟩
  | .hbm, ⟨67, _⟩ => ⟨S16384x256, .f32⟩
  | .hbm, ⟨68, _⟩ => ⟨S2x16384x4x128, .f32⟩
  | .hbm, ⟨69, _⟩ => ⟨S2x16384x4x128, .f32⟩
  | .hbm, ⟨70, _⟩ => ⟨S2x16384x4x128, .f32⟩
  | .hbm, ⟨71, _⟩ => ⟨S2x16384x4x128x1, .f32⟩
  | .hbm, ⟨72, _⟩ => ⟨S2x16384x4x128x1, .f32⟩
  | .hbm, ⟨73, _⟩ => ⟨S2x16384x4x128x2, .f32⟩
  | .hbm, ⟨74, _⟩ => ⟨S2x16384x4x256, .f32⟩
  | .hbm, ⟨75, _⟩ => ⟨S16384x1x256, .f32⟩
  | .hbm, ⟨76, _⟩ => ⟨S1x16384x1x256, .f32⟩
  | .hbm, ⟨77, _⟩ => ⟨S2x16384x4x256, .f32⟩
  | .hbm, ⟨78, _⟩ => ⟨S2x16384x4x256, .f32⟩
  | .hbm, ⟨79, _⟩ => ⟨S16384x1x256, .f32⟩
  | .hbm, ⟨80, _⟩ => ⟨S1x16384x1x256, .f32⟩
  | .hbm, ⟨81, _⟩ => ⟨S2x16384x4x256, .f32⟩
  | .hbm, ⟨82, _⟩ => ⟨S2x16384x4x256, .f32⟩
  | .hbm, ⟨83, _⟩ => ⟨S2x16384x4x256, .f32⟩
  | .hbm, ⟨84, _⟩ => ⟨S2x16384x4x128, .f32⟩
  | .hbm, ⟨85, _⟩ => ⟨S2x16384x4x128, .f32⟩
  | .hbm, ⟨86, _⟩ => ⟨S2x16384x4x128, .f32⟩
  | .hbm, ⟨87, _⟩ => ⟨S2x16384x4x128x1, .f32⟩
  | .hbm, ⟨88, _⟩ => ⟨S2x16384x4x128x1, .f32⟩
  | .hbm, ⟨89, _⟩ => ⟨S2x16384x4x128x2, .f32⟩
  | .hbm, ⟨90, _⟩ => ⟨S2x16384x4x256, .f32⟩
  | .hbm, ⟨91, _⟩ => ⟨S16384x1x256, .f32⟩
  | .hbm, ⟨92, _⟩ => ⟨S1x16384x1x256, .f32⟩
  | .hbm, ⟨93, _⟩ => ⟨S2x16384x4x256, .f32⟩
  | .hbm, ⟨94, _⟩ => ⟨S2x16384x4x256, .f32⟩
  | .hbm, ⟨95, _⟩ => ⟨S16384x1x256, .f32⟩
  | .hbm, ⟨96, _⟩ => ⟨S1x16384x1x256, .f32⟩
  | .hbm, ⟨97, _⟩ => ⟨S2x16384x4x256, .f32⟩
  | .hbm, ⟨98, _⟩ => ⟨S2x16384x4x256, .f32⟩
  | .hbm, ⟨99, _⟩ => ⟨S2x16384x4x256, .f32⟩
  | .hbm, ⟨100, _⟩ => ⟨S_, .f32⟩
  | .hbm, ⟨101, _⟩ => ⟨S2x16384x4x256, .f32⟩
  | .hbm, ⟨102, _⟩ => ⟨S2x16384x4x256, .f32⟩
  | .hbm, ⟨103, _⟩ => ⟨S2x16384x4x128x2, .f32⟩
  | .hbm, ⟨104, _⟩ => ⟨S2x16384x4x2x128, .f32⟩
  | .hbm, ⟨105, _⟩ => ⟨S32768x1024, .f32⟩
  | .hbm, ⟨106, _⟩ => ⟨S32768x1024, .bf16⟩
  | .hbm, ⟨107, _⟩ => ⟨S2x16384x4x128x2, .f32⟩
  | .hbm, ⟨108, _⟩ => ⟨S2x16384x4x2x128, .f32⟩
  | .hbm, ⟨109, _⟩ => ⟨S32768x1024, .f32⟩
  | .hbm, ⟨110, _⟩ => ⟨S1024x32768, .f32⟩
  | .hbm, ⟨111, _⟩ => ⟨S1024x32768, .bf16⟩
  | .hbm, ⟨112, _⟩ => ⟨S32768x2048, .bf16⟩
  | .hbm, ⟨113, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_cst : Ref sig .tc := ⟨.hbm, 35, rfl⟩
abbrev main_call0_v3 : Ref sig .tc := ⟨.hbm, 36, rfl⟩
abbrev main_call0_v4 : Ref sig .tc := ⟨.hbm, 37, rfl⟩
abbrev main_call0_cst_0 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_v15 : Ref sig .tc := ⟨.hbm, 50, rfl⟩
abbrev main_call0_v16 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_6 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x4624 : Shape := ⟨2, ![1024, 4624]⟩
abbrev S1024x2048 : Shape := ⟨2, ![1024, 2048]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S32768x2048 : Shape := ⟨2, ![32768, 2048]⟩
abbrev S32768x1536 : Shape := ⟨2, ![32768, 1536]⟩
abbrev S32768x128 : Shape := ⟨2, ![32768, 128]⟩
abbrev S512x1024 : Shape := ⟨2, ![512, 1024]⟩
abbrev S512x2048 : Shape := ⟨2, ![512, 2048]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4624, .f32⟩
  | .hbm, ⟨3, _⟩ => ⟨S1024x2048, .f32⟩
  | .hbm, ⟨4, _⟩ => ⟨S1024x2048, .bf16⟩
  | .hbm, ⟨5, _⟩ => ⟨S1024x1024, .f32⟩
  | .hbm, ⟨6, _⟩ => ⟨S1024x1024, .bf16⟩
  | .hbm, ⟨7, _⟩ => ⟨S1024x1536, .f32⟩
  | .hbm, ⟨8, _⟩ => ⟨S1024x1536, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x1024, .f32⟩
  | .hbm, ⟨15, _⟩ => ⟨S32768x2048, .bf16⟩
  | .hbm, ⟨16, _⟩ => ⟨S32768x1024, .bf16⟩
  | .hbm, ⟨17, _⟩ => ⟨S32768x1536, .bf16⟩
  | .hbm, ⟨18, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1024, .bf16⟩
  | .local _ .vmem, ⟨5, _⟩ => ⟨S1024x1536, .bf16⟩
  | .local _ .vmem, ⟨6, _⟩ => ⟨S1024x128, .bf16⟩
  | .local _ .vmem, ⟨7, _⟩ => ⟨S512x2048, .bf16⟩
  | .local _ .vmem, ⟨8, _⟩ => ⟨S512x2048, .bf16⟩
  | .local _ .vmem, ⟨9, _⟩ => ⟨S512x1024, .bf16⟩
  | .local _ .vmem, ⟨10, _⟩ => ⟨S512x1024, .bf16⟩
  | .local _ .vmem, ⟨11, _⟩ => ⟨S512x1536, .bf16⟩
  | .local _ .vmem, ⟨12, _⟩ => ⟨S512x1536, .bf16⟩
  | .local _ .vmem, ⟨13, _⟩ => ⟨S512x128, .f32⟩
  | .local _ .vmem, ⟨14, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S1024 : Shape := ⟨1, ![1024]⟩
abbrev S1024x4624 : Shape := ⟨2, ![1024, 4624]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4624 : Shape := ⟨2, ![32768, 4624]⟩
abbrev S32768x16 : Shape := ⟨2, ![32768, 16]⟩
abbrev S32768x128 : Shape := ⟨2, ![32768, 128]⟩
abbrev S32768x2048 : Shape := ⟨2, ![32768, 2048]⟩
abbrev S32768x1536 : Shape := ⟨2, ![32768, 1536]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4624, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4624, .f32⟩
  | .hbm, ⟨20, _⟩ => ⟨S32768x16, .f32⟩
  | .hbm, ⟨21, _⟩ => ⟨S_, .i32⟩
  | .hbm, ⟨22, _⟩ => ⟨S_, .f32⟩
  | .hbm, ⟨23, _⟩ => ⟨S32768x128, .f32⟩
  | .hbm, ⟨24, _⟩ => ⟨S32768x2048, .f32⟩
  | .hbm, ⟨25, _⟩ => ⟨S32768x2048, .bf16⟩
  | .hbm, ⟨26, _⟩ => ⟨S32768x1024, .f32⟩
  | .hbm, ⟨27, _⟩ => ⟨S32768x1024, .bf16⟩
  | .hbm, ⟨28, _⟩ => ⟨S32768x1536, .f32⟩
  | .hbm, ⟨29, _⟩ => ⟨S32768x1536, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel4.lean ====
abbrev S32768x1024 : Shape := ⟨2, ![32768, 1024]⟩
abbrev S32768x2048 : Shape := ⟨2, ![32768, 2048]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 17
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x1024, .bf16⟩
  | .hbm, ⟨4, _⟩ => ⟨S32768x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2048x1024, .f32⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32768x1024 : Shape := ⟨2, ![32768, 1024]⟩
abbrev S32768x2048 : Shape := ⟨2, ![32768, 2048]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x1024, .bf16⟩
  | .hbm, ⟨4, _⟩ => ⟨S32768x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2048x1024, .f32⟩
  | .hbm, ⟨9, _⟩ => ⟨S32768x1024, .f32⟩
  | .hbm, ⟨10, _⟩ => ⟨S32768x1024, .f32⟩
  | .hbm, ⟨11, _⟩ => ⟨S32768x2048, .f32⟩
  | .hbm, ⟨12, _⟩ => ⟨S32768x1024, .f32⟩
  | .hbm, ⟨13, _⟩ => ⟨S1x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x2048, .f32⟩
  | .hbm, ⟨59, _⟩ => ⟨S32768x1024, .f32⟩
  | .hbm, ⟨60, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Proof.Ret.RefFrame.lean ====
/- The reference's frame: its run ends with the arguments as they were and every semaphore at zero. -/
module

public import proofs.«01_k».proof.Proof.Gen.ReferenceIdeal.Run

@[expose] public section

set_option maxRecDepth 4000

noncomputable section

namespace Cert.ReferenceIdeal.Ret

open Idealize.ShloMosaic Idealize.ShloMosaic.TcCoe Idealize.ShloMosaic.StableHlo
open Idealize.SL.Sem Cert.ReferenceIdeal Cert.ReferenceIdeal.Gen Cert.ReferenceIdeal.Value

variable {F : FTy → Type} [FloatOps F]

/-- The buffers that `hostOps0_3` writes. -/
abbrev hostOps0_3_W : List (Ref sig .tc) := [main_v76, main_v77, main_v78, main_cst_10, main_v79, main_v80, main_cst_11, main_v81, main_v82, main_v83, main_v84, main_v85, main_cst_12, main_v86, main_v87, main_cst_13, main_v88, main_v89, main_v90, main_v91, main_cst_14, main_v92, main_v93, main_v94, main_v95, main_v96, main_v97, main_v98, main_v99, main_v100, main_v101, main_v102, main_v103]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The buffers that `hostOps0_4` writes. -/
abbrev hostOps0_4_W : List (Ref sig .tc) := [main_call5_v0, main_call5_v1, main_call5_cst, main_call5_v2, main_call5_v3, main_call5_cst_0, main_call5_v4, main_call5_v5, main_v104]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The buffers that `hostOps0_5` writes. -/
abbrev hostOps0_5_W : List (Ref sig .tc) := [main_v105, main_v106, main_v107, main_v108, main_v109, main_cst_15, main_v110, main_v111, main_cst_16, main_v112, main_v113, main_cst_17, main_v114, main_v115, main_v116, main_v117, main_v118, main_v119, main_v120, main_v121]
theorem hostOps0_5_writes : (hostOps0_5 : List (HloOp τ sig (Elt F))).Forall fun op => op.writes ⊆ (hostOps0_5_W.map (Proc.devRef (τ := τ) .tc)).toFinset :=
  StableHlo.forall_writes_sub_of_map rfl
variable (m : (ℓ : Loc nD τ sig) → Buf (Elt F) ℓ) (ρ : Dev nD → PrngReg)

/-- A buffer that no operation before the loop writes enters the loop as it was at the start. -/
theorem entry_keep (c : Dev nD) (r : Ref sig .tc) (h₀ : r ∉ hostOps0_W) (h₁ : r ∉ hostOps0_1_W) (h₂ : r ∉ hostOps0_2_W) :
    entryContents (preI (F := F)) m c (Proc.devRef .tc r) = m ((c.tc : Thread nD τ).loc r) := by
  simp only [entryContents, afterL_cons, afterL_nil]
  rw [after_of_writes_sub hostOps0_2 _ hostOps0_2_writes h₂, after_of_writes_sub hostOps0_1 _ hostOps0_1_writes h₁,
    after_of_writes_sub hostOps0 _ hostOps0_writes h₀]

/-- A buffer that neither the condition nor the body writes is before every trip as it was on entry. -/
theorem trips_keep (c : Dev nD) (r : Ref sig .tc) (hc : r ∉ condOps_W)
    (h₀ : r ∉ while0Ops0_W) (h₁ : r ∉ while0Ops0_1_W) (h₂ : r ∉ while0Ops0_2_W) (h₃ : r ∉ while0Ops0_3_W)
    (h₄ : r ∉ while0Ops0_4_W) (h₅ : r ∉ while0Ops0_5_W) :
    ∀ k, atK (F := F) m k c (Proc.devRef .tc r) = entryContents (preI (F := F)) m c (Proc.devRef .tc r)
  | 0 => rfl
  | k + 1 => by
    rw [show atK m (k + 1) c = afterL bodyI (after condOps (atK m k c)) from rfl]
    simp only [afterL_cons, afterL_nil]
    rw [after_of_writes_sub while0Ops0_5 _ while0Ops0_5_writes h₅, after_of_writes_sub while0Ops0_4 _ while0Ops0_4_writes h₄,
      after_of_writes_sub while0Ops0_3 _ while0Ops0_3_writes h₃, after_of_writes_sub while0Ops0_2 _ while0Ops0_2_writes h₂,
      after_of_writes_sub while0Ops0_1 _ while0Ops0_1_writes h₁, after_of_writes_sub while0Ops0 _ while0Ops0_writes h₀,
      after_of_writes_sub condOps _ condOps_writes hc]
    exact trips_keep c r hc h₀ h₁ h₂ h₃ h₄ h₅ k

/-- A buffer that nothing in the program writes ends as it began. -/
theorem final_keep (c : Dev nD) (r : Ref sig .tc) (a₀ : r ∉ hostOps0_W) (a₁ : r ∉ hostOps0_1_W) (a₂ : r ∉ hostOps0_2_W)
    (hc : r ∉ condOps_W) (h₀ : r ∉ while0Ops0_W) (h₁ : r ∉ while0Ops0_1_W) (h₂ : r ∉ while0Ops0_2_W) (h₃ : r ∉ while0Ops0_3_W)
    (h₄ : r ∉ while0Ops0_4_W) (h₅ : r ∉ while0Ops0_5_W)
    (b₀ : r ∉ hostOps0_3_W) (b₁ : r ∉ hostOps0_4_W) (b₂ : r ∉ hostOps0_5_W) :
    finalContents (condOps (F := F)) preI bodyI postI 128 m c (Proc.devRef .tc r) = m ((c.tc : Thread nD τ).loc r) := by
  simp only [finalContents, afterL_cons, afterL_nil]
  rw [after_of_writes_sub hostOps0_5 _ hostOps0_5_writes b₂, after_of_writes_sub hostOps0_4 _ hostOps0_4_writes b₁,
    after_of_writes_sub hostOps0_3 _ hostOps0_3_writes b₀, after_of_writes_sub condOps _ condOps_writes hc]
  exact (trips_keep m c r hc h₀ h₁ h₂ h₃ h₄ h₅ 128).trans (entry_keep m c r a₀ a₁ a₂)

/-- The reference has no semaphore. -/
theorem sem_zero (s : GSem nD τ sig → ℤ) : s = fun _ => 0 := by
  funext x
  rcases x with ⟨_, (i | i)⟩ <;> exact absurd i.isLt (Nat.not_lt_zero _)

/-- The frame claim: the reference terminates, its arguments unchanged, its semaphores at zero. -/
theorem frame_ok : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
    have k (a : Ref sig .tc) (hs : (Proc.devRef .tc a : DevRef τ sig).isScoped = false)
        (a₀ : a ∉ hostOps0_W) (a₁ : a ∉ hostOps0_1_W) (a₂ : a ∉ hostOps0_2_W)
        (hc : a ∉ condOps_W) (h₀ : a ∉ while0Ops0_W) (h₁ : a ∉ while0Ops0_1_W) (h₂ : a ∉ while0Ops0_2_W)
        (h₃ : a ∉ while0Ops0_3_W) (h₄ : a ∉ while0Ops0_4_W) (h₅ : a ∉ while0Ops0_5_W)
        (b₀ : a ∉ hostOps0_3_W) (b₁ : a ∉ hostOps0_4_W) (b₂ : a ∉ hostOps0_5_W) :
        r.2.mem ((c.tc : Thread nD τ).loc a) = m ((c.tc : Thread nD τ).loc a) :=
      (h c a hs).trans (final_keep m c a a₀ a₁ a₂ hc h₀ h₁ h₂ h₃ h₄ h₅ b₀ b₁ b₂)
    ⟨k main_arg0 rfl (by decide +kernel) (by decide +kernel) (by decide +kernel) (by decide +kernel) (by decide +kernel) (by decide +kernel) (by decide +kernel) (by decide +kernel) (by decide +kernel) (by decide +kernel) (by decide +kernel) (by decide +kernel) (by decide +kernel),
     k main_arg1 rfl (by decide +kernel) (by decide +kernel) (by decide +kernel) (by decide +kernel) (by decide +kernel) (by decide +kernel) (by decide +kernel) (by decide +kernel) (by decide +kernel) (by decide +kernel) (by decide +kernel) (by decide +kernel) (by decide +kernel),
     k main_arg2 rfl (by decide +kernel) (by decide +kernel) (by decide +kernel) (by decide +kernel) (by decide +kernel) (by decide +kernel) (by decide +kernel) (by decide +kernel) (by decide +kernel) (by decide +kernel) (by decide +kernel) (by decide +kernel) (by decide +kernel),
     k main_arg3 rfl (by decide +kernel) (by decide +kernel) (by decide +kernel) (by decide +kernel) (by decide +kernel) (by decide +kernel) (by decide +kernel) (by decide +kernel) (by decide +kernel) (by decide +kernel) (by decide +kernel) (by decide +kernel) (by decide +kernel),
     k main_arg4 rfl (by decide +kernel) (by decide +kernel) (by decide +kernel) (by decide +kernel) (by decide +kernel) (by decide +kernel) (by decide +kernel) (by decide +kernel) (by decide +kernel) (by decide +kernel) (by decide +kernel) (by decide +kernel) (by decide +kernel),
     k main_arg5 rfl (by decide +kernel) (by decide +kernel) (by decide +kernel) (by decide +kernel) (by decide +kernel) (by decide +kernel) (by decide +kernel) (by decide +kernel) (by decide +kernel) (by decide +kernel) (by decide +kernel) (by decide +kernel) (by decide +kernel),
     k main_arg6 rfl (by decide +kernel) (by decide +kernel) (by decide +kernel) (by decide +kernel) (by decide +kernel) (by decide +kernel) (by decide +kernel) (by decide +kernel) (by decide +kernel) (by decide +kernel) (by decide +kernel) (by decide +kernel) (by decide +kernel),
     k main_arg7 rfl (by decide +kernel) (by decide +kernel) (by decide +kernel) (by decide +kernel) (by decide +kernel) (by decide +kernel) (by decide +kernel) (by decide +kernel) (by decide +kernel) (by decide +kernel) (by decide +kernel) (by decide +kernel) (by decide +kernel),
     k main_arg8 rfl (by decide +kernel) (by decide +kernel) (by decide +kernel) (by decide +kernel) (by decide +kernel) (by decide +kernel) (by decide +kernel) (by decide +kernel) (by decide +kernel) (by decide +kernel) (by decide +kernel) (by decide +kernel) (by decide +kernel)⟩,
    sem_zero r.2.sem⟩) (run_fold m ρ)

end Cert.ReferenceIdeal.Ret

end
-- ==== Proof.Ret.KernelIdeal.RunB.lean ====
module

public import proofs.«01_k».proof.Proof.Gen.KernelIdeal.Frame
public import proofs.«01_k».proof.Proof.Gen.KernelIdeal.Skeleton

@[expose] public section

/-! The retention kernel's body, run at a grid point that is not the first. -/

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The grid point is the first one: the condition of the body's one branch, from the grid coordinates. -/
abbrev isFirst (i : grid0.Coords) : Prop :=
  (Scalar.cmpi .ne (Scalar.extui (Scalar.cmpi .eq (BitVec.ofNat 32 (i 0).val) 0#32)) 0#32) = 1#1

set_option maxHeartbeats 4000000 in
/-- The kernel's body at a grid point that is not the first.  From the fourteen input blocks `x1 … x14`, the
    state scratch at `xs`, and the result block and the rows scratch at anything, the body runs to the end and
    leaves the inputs as they were; the lists of stores it makes into the result block, the state scratch and the
    rows scratch are found by running it. -/
noncomputable def bodyRunB (c : Dev nD) (i : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc0 : ¬isFirst i)
    (x1 : Vec F S2x256x1024 .bf16) (x2 : Vec F S1024x256 .bf16) (x3 : Vec F S1024x256 .bf16) (x4 : Vec F S2x256x2048 .bf16) (x5 : Vec F S2x256x2048 .bf16) (x6 : Vec F S2x256x1024 .f32) (x7 : Vec F S4x256x256 .f32) (x8 : Vec F S4x256x256 .f32) (x9 : Vec F S4x256x256 .f32) (x10 : Vec F S4x1x512 .f32) (x11 : Vec F S1x2048 .f32) (x12 : Vec F S1x2048 .f32) (x13 : Vec F S2048x1024 .bf16) (x14 : Vec F S1x1024 .f32) (xs : Vec F S8x256x512 .f32) :
    Σ' (LO : List (View.Piece (Elt F) S2x256x1024 .f32)), Σ' (LS : List (View.Piece (Elt F) S8x256x512 .f32)), { LT : List (View.Piece (Elt F) S2x256x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ owns (c : Thread nD τ) arg16 fullShare xs ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ f, arg15.view.loc (c : Thread nD τ) ↦[arg15.view.set]{fullShare} arg15.view.writes (Elt F) f LO) ∗ (∃ f, arg16.view.loc (c : Thread nD τ) ↦[arg16.view.set]{fullShare} arg16.view.writes (Elt F) f LS) ∗ (∃ f, arg17.view.loc (c : Thread nD τ) ↦[arg17.view.set]{fullShare} arg17.view.writes (Elt F) f LT)) -∗ K ⟨⟩))
          ⊢ wp frame (wpE (defs₀ (F := F)) Variants.none c none) E (cc0_retention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_retention_eq_skeleton]; unfold cc0_retention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs, %hfs, HS⟩, ⟨%dt, %ft, -, HT⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hfs
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [HS]; · iexists _; iexact HS
    iexists _; iexact HT

end Cert.KernelIdeal.Ret

end
-- ==== Proof.Ret.KernelIdeal.RunA.lean ====
module

public import proofs.«01_k».proof.Proof.Ret.KernelIdeal.RunB

@[expose] public section

/-! The retention kernel's body, run at the first grid point. -/

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The kernel's body at the first grid point: as `bodyRunB`, with the state scratch at anything, since the body
    first fills it with zeros. -/
noncomputable def bodyRunA (c : Dev nD) (i : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc0 : isFirst i)
    (x1 : Vec F S2x256x1024 .bf16) (x2 : Vec F S1024x256 .bf16) (x3 : Vec F S1024x256 .bf16) (x4 : Vec F S2x256x2048 .bf16) (x5 : Vec F S2x256x2048 .bf16) (x6 : Vec F S2x256x1024 .f32) (x7 : Vec F S4x256x256 .f32) (x8 : Vec F S4x256x256 .f32) (x9 : Vec F S4x256x256 .f32) (x10 : Vec F S4x1x512 .f32) (x11 : Vec F S1x2048 .f32) (x12 : Vec F S1x2048 .f32) (x13 : Vec F S2048x1024 .bf16) (x14 : Vec F S1x1024 .f32) :
    Σ' (LO : List (View.Piece (Elt F) S2x256x1024 .f32)), Σ' (LS : List (View.Piece (Elt F) S8x256x512 .f32)), { LT : List (View.Piece (Elt F) S2x256x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ f, arg15.view.loc (c : Thread nD τ) ↦[arg15.view.set]{fullShare} arg15.view.writes (Elt F) f LO) ∗ (∃ f, arg16.view.loc (c : Thread nD τ) ↦[arg16.view.set]{fullShare} arg16.view.writes (Elt F) f LS) ∗ (∃ f, arg17.view.loc (c : Thread nD τ) ↦[arg17.view.set]{fullShare} arg17.view.writes (Elt F) f LT)) -∗ K ⟨⟩))
          ⊢ wp frame (wpE (defs₀ (F := F)) Variants.none c none) E (cc0_retention i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_retention_eq_skeleton]; unfold cc0_retention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds, %fs, -, HS⟩, ⟨%dt, %ft, -, HT⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [HS]; · iexists _; iexact HS
    iexists _; iexact HT

end Cert.KernelIdeal.Ret

end
-- ==== Proof.Ret.KernelIdeal.Frame.lean ====
module

public import proofs.«01_k».proof.Proof.Ret.KernelIdeal.RunA
public import Idealize.ShloMosaic.Lib.Claim

@[expose] public section

/-! The retention program's frame: what each grid point leaves, and the launch. -/

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the pipeline passes -/

/-- Staging memref of operand 1 at point `t`, and that it is a whole buffer. -/
abbrev g1 (t : Fin cfg0.N) : Memref sig .tc .vmem S2x256x1024 .bf16 := win0_0.stage (cfg0.slots t 0)
abbrev h1 (t : Fin cfg0.N) : (g1 t).IsWhole := hstage0_0 ((cfg0.slots t 0).cast nbuf0_0)
/-- Staging memref of operand 2 at point `t`, and that it is a whole buffer. -/
abbrev g2 (t : Fin cfg0.N) : Memref sig .tc .vmem S1024x256 .bf16 := win0_1.stage (cfg0.slots t 1)
abbrev h2 (t : Fin cfg0.N) : (g2 t).IsWhole := hstage0_1 ((cfg0.slots t 1).cast nbuf0_1)
/-- Staging memref of operand 3 at point `t`, and that it is a whole buffer. -/
abbrev g3 (t : Fin cfg0.N) : Memref sig .tc .vmem S1024x256 .bf16 := win0_2.stage (cfg0.slots t 2)
abbrev h3 (t : Fin cfg0.N) : (g3 t).IsWhole := hstage0_2 ((cfg0.slots t 2).cast nbuf0_2)
/-- Staging memref of operand 4 at point `t`, and that it is a whole buffer. -/
abbrev g4 (t : Fin cfg0.N) : Memref sig .tc .vmem S2x256x2048 .bf16 := win0_3.stage (cfg0.slots t 3)
abbrev h4 (t : Fin cfg0.N) : (g4 t).IsWhole := hstage0_3 ((cfg0.slots t 3).cast nbuf0_3)
/-- Staging memref of operand 5 at point `t`, and that it is a whole buffer. -/
abbrev g5 (t : Fin cfg0.N) : Memref sig .tc .vmem S2x256x2048 .bf16 := win0_4.stage (cfg0.slots t 4)
abbrev h5 (t : Fin cfg0.N) : (g5 t).IsWhole := hstage0_4 ((cfg0.slots t 4).cast nbuf0_4)
/-- Staging memref of operand 6 at point `t`, and that it is a whole buffer. -/
abbrev g6 (t : Fin cfg0.N) : Memref sig .tc .vmem S2x256x1024 .f32 := win0_5.stage (cfg0.slots t 5)
abbrev h6 (t : Fin cfg0.N) : (g6 t).IsWhole := hstage0_5 ((cfg0.slots t 5).cast nbuf0_5)
/-- Staging memref of operand 7 at point `t`, and that it is a whole buffer. -/
abbrev g7 (t : Fin cfg0.N) : Memref sig .tc .vmem S4x256x256 .f32 := win0_6.stage (cfg0.slots t 6)
abbrev h7 (t : Fin cfg0.N) : (g7 t).IsWhole := hstage0_6 ((cfg0.slots t 6).cast nbuf0_6)
/-- Staging memref of operand 8 at point `t`, and that it is a whole buffer. -/
abbrev g8 (t : Fin cfg0.N) : Memref sig .tc .vmem S4x256x256 .f32 := win0_7.stage (cfg0.slots t 7)
abbrev h8 (t : Fin cfg0.N) : (g8 t).IsWhole := hstage0_7 ((cfg0.slots t 7).cast nbuf0_7)
/-- Staging memref of operand 9 at point `t`, and that it is a whole buffer. -/
abbrev g9 (t : Fin cfg0.N) : Memref sig .tc .vmem S4x256x256 .f32 := win0_8.stage (cfg0.slots t 8)
abbrev h9 (t : Fin cfg0.N) : (g9 t).IsWhole := hstage0_8 ((cfg0.slots t 8).cast nbuf0_8)
/-- Staging memref of operand 10 at point `t`, and that it is a whole buffer. -/
abbrev g10 (t : Fin cfg0.N) : Memref sig .tc .vmem S4x1x512 .f32 := win0_9.stage (cfg0.slots t 9)
abbrev h10 (t : Fin cfg0.N) : (g10 t).IsWhole := hstage0_9 ((cfg0.slots t 9).cast nbuf0_9)
/-- Staging memref of operand 11 at point `t`, and that it is a whole buffer. -/
abbrev g11 (t : Fin cfg0.N) : Memref sig .tc .vmem S1x2048 .f32 := win0_10.stage (cfg0.slots t 10)
abbrev h11 (t : Fin cfg0.N) : (g11 t).IsWhole := hstage0_10 ((cfg0.slots t 10).cast nbuf0_10)
/-- Staging memref of operand 12 at point `t`, and that it is a whole buffer. -/
abbrev g12 (t : Fin cfg0.N) : Memref sig .tc .vmem S1x2048 .f32 := win0_11.stage (cfg0.slots t 11)
abbrev h12 (t : Fin cfg0.N) : (g12 t).IsWhole := hstage0_11 ((cfg0.slots t 11).cast nbuf0_11)
/-- Staging memref of operand 13 at point `t`, and that it is a whole buffer. -/
abbrev g13 (t : Fin cfg0.N) : Memref sig .tc .vmem S2048x1024 .bf16 := win0_12.stage (cfg0.slots t 12)
abbrev h13 (t : Fin cfg0.N) : (g13 t).IsWhole := hstage0_12 ((cfg0.slots t 12).cast nbuf0_12)
/-- Staging memref of operand 14 at point `t`, and that it is a whole buffer. -/
abbrev g14 (t : Fin cfg0.N) : Memref sig .tc .vmem S1x1024 .f32 := win0_13.stage (cfg0.slots t 13)
abbrev h14 (t : Fin cfg0.N) : (g14 t).IsWhole := hstage0_13 ((cfg0.slots t 13).cast nbuf0_13)
/-- Staging memref of operand 15 at point `t`, and that it is a whole buffer. -/
abbrev g15 (t : Fin cfg0.N) : Memref sig .tc .vmem S2x256x1024 .f32 := win0_14.stage (cfg0.slots t 14)
abbrev h15 (t : Fin cfg0.N) : (g15 t).IsWhole := hstage0_14 ((cfg0.slots t 14).cast nbuf0_14)
/-- The state scratch and the rows scratch. -/
abbrev sc16 : Memref sig .tc .vmem S8x256x512 .f32 := Memref.whole cc0_scratch0
abbrev sc17 : Memref sig .tc .vmem S2x256x2048 .bf16 := Memref.whole cc0_scratch1

/-- The first grid point is point 0. -/
theorem first_iff : ∀ t : Fin cfg0.N, isFirst (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    simp only [isFirst, e0]
    word_cmp
   : ∀ t : Fin grid0.N, isFirst (grid0.coords t) ↔ t.val = 0)

/-! ## The stores cover what they write -/

/-- The stores into the result block cover it (case A). -/
theorem out_coverA (c : Dev nD) (i : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc0 : isFirst i)
    (x1 : Vec F S2x256x1024 .bf16) (x2 : Vec F S1024x256 .bf16) (x3 : Vec F S1024x256 .bf16) (x4 : Vec F S2x256x2048 .bf16) (x5 : Vec F S2x256x2048 .bf16) (x6 : Vec F S2x256x1024 .f32) (x7 : Vec F S4x256x256 .f32) (x8 : Vec F S4x256x256 .f32) (x9 : Vec F S4x256x256 .f32) (x10 : Vec F S4x1x512 .f32) (x11 : Vec F S1x2048 .f32) (x12 : Vec F S1x2048 .f32) (x13 : Vec F S2048x1024 .bf16) (x14 : Vec F S1x1024 .f32) (y : S2x256x1024.Idx) : ∃ pc ∈ (bodyRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x1 x2 x3 x4 x5 x6 x7 x8 x9 x10 x11 x12 x13 x14).1, y ∈ pc.1.set :=
  View.cover_of_tiledL (bodyRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x1 x2 x3 x4 x5 x6 x7 x8 x9 x10 x11 x12 x13 x14).1 S1x256x1024.size (by sl_kernel_rfl) y

/-- The stores into the state scratch cover it (case A). -/
theorem state_coverA (c : Dev nD) (i : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc0 : isFirst i)
    (x1 : Vec F S2x256x1024 .bf16) (x2 : Vec F S1024x256 .bf16) (x3 : Vec F S1024x256 .bf16) (x4 : Vec F S2x256x2048 .bf16) (x5 : Vec F S2x256x2048 .bf16) (x6 : Vec F S2x256x1024 .f32) (x7 : Vec F S4x256x256 .f32) (x8 : Vec F S4x256x256 .f32) (x9 : Vec F S4x256x256 .f32) (x10 : Vec F S4x1x512 .f32) (x11 : Vec F S1x2048 .f32) (x12 : Vec F S1x2048 .f32) (x13 : Vec F S2048x1024 .bf16) (x14 : Vec F S1x1024 .f32) (y : S8x256x512.Idx) : ∃ pc ∈ (bodyRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x1 x2 x3 x4 x5 x6 x7 x8 x9 x10 x11 x12 x13 x14).2.1, y ∈ pc.1.set :=
  View.cover_of_wholeMem (bodyRunA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x1 x2 x3 x4 x5 x6 x7 x8 x9 x10 x11 x12 x13 x14).2.1 (by sl_whole_mem) y

/-- The stores into the result block cover it (case B). -/
theorem out_coverB (c : Dev nD) (i : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc0 : ¬isFirst i)
    (x1 : Vec F S2x256x1024 .bf16) (x2 : Vec F S1024x256 .bf16) (x3 : Vec F S1024x256 .bf16) (x4 : Vec F S2x256x2048 .bf16) (x5 : Vec F S2x256x2048 .bf16) (x6 : Vec F S2x256x1024 .f32) (x7 : Vec F S4x256x256 .f32) (x8 : Vec F S4x256x256 .f32) (x9 : Vec F S4x256x256 .f32) (x10 : Vec F S4x1x512 .f32) (x11 : Vec F S1x2048 .f32) (x12 : Vec F S1x2048 .f32) (x13 : Vec F S2048x1024 .bf16) (x14 : Vec F S1x1024 .f32) (xs : Vec F S8x256x512 .f32) (y : S2x256x1024.Idx) : ∃ pc ∈ (bodyRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x1 x2 x3 x4 x5 x6 x7 x8 x9 x10 x11 x12 x13 x14 xs).1, y ∈ pc.1.set :=
  View.cover_of_tiledL (bodyRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x1 x2 x3 x4 x5 x6 x7 x8 x9 x10 x11 x12 x13 x14 xs).1 S1x256x1024.size (by sl_kernel_rfl) y

/-- The stores into the state scratch cover it (case B). -/
theorem state_coverB (c : Dev nD) (i : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc0 : ¬isFirst i)
    (x1 : Vec F S2x256x1024 .bf16) (x2 : Vec F S1024x256 .bf16) (x3 : Vec F S1024x256 .bf16) (x4 : Vec F S2x256x2048 .bf16) (x5 : Vec F S2x256x2048 .bf16) (x6 : Vec F S2x256x1024 .f32) (x7 : Vec F S4x256x256 .f32) (x8 : Vec F S4x256x256 .f32) (x9 : Vec F S4x256x256 .f32) (x10 : Vec F S4x1x512 .f32) (x11 : Vec F S1x2048 .f32) (x12 : Vec F S1x2048 .f32) (x13 : Vec F S2048x1024 .bf16) (x14 : Vec F S1x1024 .f32) (xs : Vec F S8x256x512 .f32) (y : S8x256x512.Idx) : ∃ pc ∈ (bodyRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x1 x2 x3 x4 x5 x6 x7 x8 x9 x10 x11 x12 x13 x14 xs).2.1, y ∈ pc.1.set :=
  View.cover_of_tiledL (bodyRunB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x1 x2 x3 x4 x5 x6 x7 x8 x9 x10 x11 x12 x13 x14 xs).2.1 S1x256x512.size (by sl_kernel_rfl) y

/-! ## What each point leaves -/

/-- A list of stores into a result block read back as a block, and one into the state scratch as a state. -/
def outOf (L : List (View.Piece (Elt F) S2x256x1024 .f32)) : Vec F S2x256x1024 .f32 :=
  (Memref.whole cc0_stg14_0 : Memref sig .tc .vmem S2x256x1024 .f32).view.read (Elt F)
    ((Memref.whole cc0_stg14_0 : Memref sig .tc .vmem S2x256x1024 .f32).view.writes (Elt F)
      (Memref.whole cc0_stg14_0 : Memref sig .tc .vmem S2x256x1024 .f32).view.junk L)
def stateOf (L : List (View.Piece (Elt F) S8x256x512 .f32)) : Vec F S8x256x512 .f32 :=
  sc16.view.read (Elt F) (sc16.view.writes (Elt F) sc16.view.junk L)

/-- The body's run at point `t` over the point's blocks: at the first point, and at a later one from the state `xs`. -/
abbrev runA (c : Dev nD) (t : Fin cfg0.N) (h : isFirst (grid0.coords t)) :=
  bodyRunA (F := F) c (grid0.coords t) (g1 t) (h1 t) (g2 t) (h2 t) (g3 t) (h3 t) (g4 t) (h4 t) (g5 t) (h5 t) (g6 t) (h6 t) (g7 t) (h7 t) (g8 t) (h8 t) (g9 t) (h9 t) (g10 t) (h10 t) (g11 t) (h11 t) (g12 t) (h12 t) (g13 t) (h13 t) (g14 t) (h14 t) (g15 t) (h15 t) sc16 (Memref.isWhole_whole _) sc17 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
abbrev runB (c : Dev nD) (t : Fin cfg0.N) (h : ¬isFirst (grid0.coords t)) (xs : Vec F S8x256x512 .f32) :=
  bodyRunB (F := F) c (grid0.coords t) (g1 t) (h1 t) (g2 t) (h2 t) (g3 t) (h3 t) (g4 t) (h4 t) (g5 t) (h5 t) (g6 t) (h6 t) (g7 t) (h7 t) (g8 t) (h8 t) (g9 t) (h9 t) (g10 t) (h10 t) (g11 t) (h11 t) (g12 t) (h12 t) (g13 t) (h13 t) (g14 t) (h14 t) (g15 t) (h15 t) sc16 (Memref.isWhole_whole _) sc17 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs

/-- What the result block and the state scratch hold after point `n`: the first point starts from zeros, each later one
    from the state the point before left. -/
def leaves (c : Dev nD) : (n : ℕ) → n < cfg0.N → Vec F S2x256x1024 .f32 × Vec F S8x256x512 .f32
  | 0, hn => (outOf (runA m c ⟨0, hn⟩ ((first_iff _).mpr rfl)).1, stateOf (runA m c ⟨0, hn⟩ ((first_iff _).mpr rfl)).2.1)
  | n + 1, hn =>
    (outOf (runB m c ⟨n + 1, hn⟩ (fun h => Nat.succ_ne_zero n ((first_iff _).mp h)) (leaves c n (Nat.lt_of_succ_lt hn)).2).1,
     stateOf (runB m c ⟨n + 1, hn⟩ (fun h => Nat.succ_ne_zero n ((first_iff _).mp h)) (leaves c n (Nat.lt_of_succ_lt hn)).2).2.1)

/-- `leaves` at the first point, and at a later one. -/
theorem leaves_A (c : Dev nD) (t : Fin cfg0.N) (h0 : t.val = 0) :
    leaves m c t.val t.isLt = (outOf (runA m c t ((first_iff t).mpr h0)).1, stateOf (runA m c t ((first_iff t).mpr h0)).2.1) := by
  obtain ⟨n, hn⟩ := t
  cases n with
  | zero => exact rfl
  | succ n => exact absurd h0 (Nat.succ_ne_zero n)
theorem leaves_B (c : Dev nD) (t : Fin cfg0.N) (h0 : ¬t.val = 0) :
    leaves m c t.val t.isLt = (outOf (runB m c t (fun h => h0 ((first_iff t).mp h)) (leaves m c (t.val - 1) (Nat.lt_of_le_of_lt (Nat.sub_le _ _) t.isLt)).2).1,
      stateOf (runB m c t (fun h => h0 ((first_iff t).mp h)) (leaves m c (t.val - 1) (Nat.lt_of_le_of_lt (Nat.sub_le _ _) t.isLt)).2).2.1) := by
  obtain ⟨n, hn⟩ := t
  cases n with
  | zero => exact absurd rfl h0
  | succ n => exact rfl

/-! ## The launch -/

/-- The scoped rest with the scratch buffers as memrefs. -/
theorem PhiA_eq (c : Dev nD) :
    (Pipeline.ΦA spec0 c : sProp 𝕄)
      = iprop(iprop((∃ d, owns (c : Thread nD τ) sc16 fullShare d) ∗ (∃ d, owns (c : Thread nD τ) sc17 fullShare d)) ∗ (∃ r, prngReg c r)) := by
  unfold Pipeline.ΦA; rw [scopedRest0_eq]; simp only [sc16, sc17, owns_whole]; try rfl

/-- The invariant between points: before the first the scratch is at anything, afterwards the state scratch holds what
    the point before left. -/
def Inv (c : Dev nD) : (n : ℕ) → n ≤ cfg0.N → sProp 𝕄
  | 0, _ => Pipeline.ΦA spec0 c
  | n + 1, hn => iprop(iprop(owns (c : Thread nD τ) sc16 fullShare (leaves m c n hn).2 ∗ (∃ d, owns (c : Thread nD τ) sc17 fullShare d)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) : Inv m c (n + 1) hn = iprop(iprop(owns (c : Thread nD τ) sc16 fullShare (leaves m c n hn).2 ∗ (∃ d, owns (c : Thread nD τ) sc17 fullShare d)) ∗ (∃ r, prngReg c r)) := rfl
theorem Inv_pos (c : Dev nD) (n : ℕ) (h : n ≤ cfg0.N) (hz : n ≠ 0) :
    Inv m c n h = iprop(iprop(owns (c : Thread nD τ) sc16 fullShare (leaves m c (n - 1) (by omega)).2 ∗ (∃ d, owns (c : Thread nD τ) sc17 fullShare d)) ∗ (∃ r, prngReg c r)) := by
  cases n with
  | zero => exact absurd rfl hz
  | succ n => rfl

/-- The pipeline's data: the arrays as the region finds them; after a point every input at its block, the result block
    at what `leaves` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (leaves m c t.val t.isLt).1
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Inv_castSucc (c : Dev nD) (t : Fin cfg0.N) :
    (dats m 0 c).Φ t.castSucc = Inv m c t.val (Nat.le_of_lt t.isLt) := by
  dsimp only [dats]; exact Pipeline.Dat.Φ_castSucc (Inv m c) t
theorem after_1 (c : Dev nD) (t : Fin cfg0.N) : (dats m 0 c).after 0 t = iblk m c 0 t := by dsimp only [dats]
theorem after_2 (c : Dev nD) (t : Fin cfg0.N) : (dats m 0 c).after 1 t = iblk m c 1 t := by dsimp only [dats]
theorem after_3 (c : Dev nD) (t : Fin cfg0.N) : (dats m 0 c).after 2 t = iblk m c 2 t := by dsimp only [dats]
theorem after_4 (c : Dev nD) (t : Fin cfg0.N) : (dats m 0 c).after 3 t = iblk m c 3 t := by dsimp only [dats]
theorem after_5 (c : Dev nD) (t : Fin cfg0.N) : (dats m 0 c).after 4 t = iblk m c 4 t := by dsimp only [dats]
theorem after_6 (c : Dev nD) (t : Fin cfg0.N) : (dats m 0 c).after 5 t = iblk m c 5 t := by dsimp only [dats]
theorem after_7 (c : Dev nD) (t : Fin cfg0.N) : (dats m 0 c).after 6 t = iblk m c 6 t := by dsimp only [dats]
theorem after_8 (c : Dev nD) (t : Fin cfg0.N) : (dats m 0 c).after 7 t = iblk m c 7 t := by dsimp only [dats]
theorem after_9 (c : Dev nD) (t : Fin cfg0.N) : (dats m 0 c).after 8 t = iblk m c 8 t := by dsimp only [dats]
theorem after_10 (c : Dev nD) (t : Fin cfg0.N) : (dats m 0 c).after 9 t = iblk m c 9 t := by dsimp only [dats]
theorem after_11 (c : Dev nD) (t : Fin cfg0.N) : (dats m 0 c).after 10 t = iblk m c 10 t := by dsimp only [dats]
theorem after_12 (c : Dev nD) (t : Fin cfg0.N) : (dats m 0 c).after 11 t = iblk m c 11 t := by dsimp only [dats]
theorem after_13 (c : Dev nD) (t : Fin cfg0.N) : (dats m 0 c).after 12 t = iblk m c 12 t := by dsimp only [dats]
theorem after_14 (c : Dev nD) (t : Fin cfg0.N) : (dats m 0 c).after 13 t = iblk m c 13 t := by dsimp only [dats]
theorem after_15 (c : Dev nD) (t : Fin cfg0.N) : (dats m 0 c).after 14 t = (leaves m c t.val t.isLt).1 := by dsimp only [dats]
theorem before_1 (c : Dev nD) (t : Fin cfg0.N) (d) : (dats m 0 c).before 0 t d = iblk m c 0 t :=
  before0_0_of m (dats m 0 c) (A_eq m c 0) (after_1 m c) t d
theorem before_2 (c : Dev nD) (t : Fin cfg0.N) (d) : (dats m 0 c).before 1 t d = iblk m c 1 t :=
  before0_1_of m (dats m 0 c) (A_eq m c 1) (after_2 m c) t d
theorem before_3 (c : Dev nD) (t : Fin cfg0.N) (d) : (dats m 0 c).before 2 t d = iblk m c 2 t :=
  before0_2_of m (dats m 0 c) (A_eq m c 2) (after_3 m c) t d
theorem before_4 (c : Dev nD) (t : Fin cfg0.N) (d) : (dats m 0 c).before 3 t d = iblk m c 3 t :=
  before0_3_of m (dats m 0 c) (A_eq m c 3) (after_4 m c) t d
theorem before_5 (c : Dev nD) (t : Fin cfg0.N) (d) : (dats m 0 c).before 4 t d = iblk m c 4 t :=
  before0_4_of m (dats m 0 c) (A_eq m c 4) (after_5 m c) t d
theorem before_6 (c : Dev nD) (t : Fin cfg0.N) (d) : (dats m 0 c).before 5 t d = iblk m c 5 t :=
  before0_5_of m (dats m 0 c) (A_eq m c 5) (after_6 m c) t d
theorem before_7 (c : Dev nD) (t : Fin cfg0.N) (d) : (dats m 0 c).before 6 t d = iblk m c 6 t :=
  before0_6_of m (dats m 0 c) (A_eq m c 6) (after_7 m c) t d
theorem before_8 (c : Dev nD) (t : Fin cfg0.N) (d) : (dats m 0 c).before 7 t d = iblk m c 7 t :=
  before0_7_of m (dats m 0 c) (A_eq m c 7) (after_8 m c) t d
theorem before_9 (c : Dev nD) (t : Fin cfg0.N) (d) : (dats m 0 c).before 8 t d = iblk m c 8 t :=
  before0_8_of m (dats m 0 c) (A_eq m c 8) (after_9 m c) t d
theorem before_10 (c : Dev nD) (t : Fin cfg0.N) (d) : (dats m 0 c).before 9 t d = iblk m c 9 t :=
  before0_9_of m (dats m 0 c) (A_eq m c 9) (after_10 m c) t d
theorem before_11 (c : Dev nD) (t : Fin cfg0.N) (d) : (dats m 0 c).before 10 t d = iblk m c 10 t :=
  before0_10_of m (dats m 0 c) (A_eq m c 10) (after_11 m c) t d
theorem before_12 (c : Dev nD) (t : Fin cfg0.N) (d) : (dats m 0 c).before 11 t d = iblk m c 11 t :=
  before0_11_of m (dats m 0 c) (A_eq m c 11) (after_12 m c) t d
theorem before_13 (c : Dev nD) (t : Fin cfg0.N) (d) : (dats m 0 c).before 12 t d = iblk m c 12 t :=
  before0_12_of m (dats m 0 c) (A_eq m c 12) (after_13 m c) t d
theorem before_14 (c : Dev nD) (t : Fin cfg0.N) (d) : (dats m 0 c).before 13 t d = iblk m c 13 t :=
  before0_13_of m (dats m 0 c) (A_eq m c 13) (after_14 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (g1 t) fullShare ((dats m 0 c).before 0 t d))
    ∗ (∃ d, owns (c : Thread nD τ) (g2 t) fullShare ((dats m 0 c).before 1 t d))
    ∗ (∃ d, owns (c : Thread nD τ) (g3 t) fullShare ((dats m 0 c).before 2 t d))
    ∗ (∃ d, owns (c : Thread nD τ) (g4 t) fullShare ((dats m 0 c).before 3 t d))
    ∗ (∃ d, owns (c : Thread nD τ) (g5 t) fullShare ((dats m 0 c).before 4 t d))
    ∗ (∃ d, owns (c : Thread nD τ) (g6 t) fullShare ((dats m 0 c).before 5 t d))
    ∗ (∃ d, owns (c : Thread nD τ) (g7 t) fullShare ((dats m 0 c).before 6 t d))
    ∗ (∃ d, owns (c : Thread nD τ) (g8 t) fullShare ((dats m 0 c).before 7 t d))
    ∗ (∃ d, owns (c : Thread nD τ) (g9 t) fullShare ((dats m 0 c).before 8 t d))
    ∗ (∃ d, owns (c : Thread nD τ) (g10 t) fullShare ((dats m 0 c).before 9 t d))
    ∗ (∃ d, owns (c : Thread nD τ) (g11 t) fullShare ((dats m 0 c).before 10 t d))
    ∗ (∃ d, owns (c : Thread nD τ) (g12 t) fullShare ((dats m 0 c).before 11 t d))
    ∗ (∃ d, owns (c : Thread nD τ) (g13 t) fullShare ((dats m 0 c).before 12 t d))
    ∗ (∃ d, owns (c : Thread nD τ) (g14 t) fullShare ((dats m 0 c).before 13 t d))
    ∗ (∃ d, owns (c : Thread nD τ) (g15 t) fullShare ((dats m 0 c).before 14 t d)))
def bodyPost (c : Dev nD) (t : Fin cfg0.N) : sProp 𝕄 :=
  iprop((dats m 0 c).Φ t.succ ∗ (dats m 0 c).owesAt () t.succ
    ∗ owns (c : Thread nD τ) (g1 t) fullShare ((dats m 0 c).after 0 t)
    ∗ owns (c : Thread nD τ) (g2 t) fullShare ((dats m 0 c).after 1 t)
    ∗ owns (c : Thread nD τ) (g3 t) fullShare ((dats m 0 c).after 2 t)
    ∗ owns (c : Thread nD τ) (g4 t) fullShare ((dats m 0 c).after 3 t)
    ∗ owns (c : Thread nD τ) (g5 t) fullShare ((dats m 0 c).after 4 t)
    ∗ owns (c : Thread nD τ) (g6 t) fullShare ((dats m 0 c).after 5 t)
    ∗ owns (c : Thread nD τ) (g7 t) fullShare ((dats m 0 c).after 6 t)
    ∗ owns (c : Thread nD τ) (g8 t) fullShare ((dats m 0 c).after 7 t)
    ∗ owns (c : Thread nD τ) (g9 t) fullShare ((dats m 0 c).after 8 t)
    ∗ owns (c : Thread nD τ) (g10 t) fullShare ((dats m 0 c).after 9 t)
    ∗ owns (c : Thread nD τ) (g11 t) fullShare ((dats m 0 c).after 10 t)
    ∗ owns (c : Thread nD τ) (g12 t) fullShare ((dats m 0 c).after 11 t)
    ∗ owns (c : Thread nD τ) (g13 t) fullShare ((dats m 0 c).after 12 t)
    ∗ owns (c : Thread nD τ) (g14 t) fullShare ((dats m 0 c).after 13 t)
    ∗ owns (c : Thread nD τ) (g15 t) fullShare ((dats m 0 c).after 14 t))

set_option maxHeartbeats 12800000 in
/-- The body at the first point. -/
theorem sound_bodyA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before_1, before_2, before_3, before_4, before_5, before_6, before_7, before_8, before_9, before_10, before_11, before_12, before_13, before_14]
  rw [show (dats m 0 c).owesAt () t.succ = (dats m 0 c).owesAt () t.castSucc from rfl,
    after_1, after_2, after_3, after_4, after_5, after_6, after_7, after_8, after_9, after_10, after_11, after_12, after_13, after_14, after_15]
  rw [show (dats m 0 c).Φ t.succ = Inv m c (t.val + 1) t.isLt from rfl, Inv_succ, Inv_castSucc m c t]
  rw [Inv_zero m c _ _ h0, PhiA_eq, leaves_A m c t h0]
  dsimp only
  iintro ⟨⟨⟨HS, HT⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA m c t ((first_iff t).mpr h0)).2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [HS]; · iexact HS
  isplitl [HT]; · iexact HT
  iintro ⟨H1, H2, H3, H4, H5, H6, H7, H8, H9, H10, H11, H12, H13, H14, ⟨%e15, H15⟩, ⟨%es, HS⟩, ⟨%et, HT⟩⟩
  isplitl [HS HT Hg]
  · isplitl [HS HT]
    · isplitl [HS]
      · unfold owns; iexists _; isplitr
        swap; · iexact HS
        ipureintro; exact View.read_writes_of_cover _ _ _ _ _ (state_coverA c _ _ _ _ _ _ _ _ _ _ _ _ _ _ _ _ _ _ _ _ _ _ _ _ _ _ _ _ _ _ _ _ _ _ _ _ _ _ _ _ _ _ _ _ _ _ _ _ _ _)
      iexists _; unfold owns; iexists _; isplitr
      swap; · iexact HT
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (out_coverA c _ _ _ _ _ _ _ _ _ _ _ _ _ _ _ _ _ _ _ _ _ _ _ _ _ _ _ _ _ _ _ _ _ _ _ _ _ _ _ _ _ _ _ _ _ _ _ _ _ _)

set_option maxHeartbeats 12800000 in
/-- The body at a later point. -/
theorem sound_bodyB (c : Dev nD) (t : Fin cfg0.N) (h0 : ¬t.val = 0) :
    bodyPre m c t ⊢ wp frame (wpE (defs₀ (F := F)) Variants.none c none) Set.univ (bodyAt0 t) (fun _ => bodyPost m c t) := by
  unfold bodyPre bodyPost bodyAt0
  simp only [before_1, before_2, before_3, before_4, before_5, before_6, before_7, before_8, before_9, before_10, before_11, before_12, before_13, before_14]
  rw [show (dats m 0 c).owesAt () t.succ = (dats m 0 c).owesAt () t.castSucc from rfl,
    after_1, after_2, after_3, after_4, after_5, after_6, after_7, after_8, after_9, after_10, after_11, after_12, after_13, after_14, after_15]
  rw [show (dats m 0 c).Φ t.succ = Inv m c (t.val + 1) t.isLt from rfl, Inv_succ, Inv_castSucc m c t]
  rw [Inv_pos m c _ _ h0, leaves_B m c t h0]
  dsimp only
  iintro ⟨⟨⟨HS, HT⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB m c t (fun h => h0 ((first_iff t).mp h)) (leaves m c (t.val - 1) (Nat.lt_of_le_of_lt (Nat.sub_le _ _) t.isLt)).2).2.2.2 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [HS]; · iexact HS
  isplitl [HT]; · iexact HT
  iintro ⟨H1, H2, H3, H4, H5, H6, H7, H8, H9, H10, H11, H12, H13, H14, ⟨%e15, H15⟩, ⟨%es, HS⟩, ⟨%et, HT⟩⟩
  isplitl [HS HT Hg]
  · isplitl [HS HT]
    · isplitl [HS]
      · unfold owns; iexists _; isplitr
        swap; · iexact HS
        ipureintro; exact View.read_writes_of_cover _ _ _ _ _ (state_coverB c _ _ _ _ _ _ _ _ _ _ _ _ _ _ _ _ _ _ _ _ _ _ _ _ _ _ _ _ _ _ _ _ _ _ _ _ _ _ _ _ _ _ _ _ _ _ _ _ _ _ _)
      iexists _; unfold owns; iexists _; isplitr
      swap; · iexact HT
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  unfold owns; iexists _; isplitr
  swap; · iexact H15
  ipureintro; exact View.read_writes_of_cover _ _ _ _ _ (out_coverB c _ _ _ _ _ _ _ _ _ _ _ _ _ _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  by_cases h0 : t.val = 0
  · exact triple_restated (sound_bodyA m c t h0) rfl .rfl fun _ => .rfl
  · exact triple_restated (sound_bodyB m c t h0) rfl .rfl fun _ => .rfl

/-- The invariant before the first point is what the launch hands over. -/
theorem Inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- The invariant after the last point gives the scratch back. -/
theorem Inv_out (c : Dev nD) : (dats m 0 c).Φ (Fin.last cfg0.N) ⊢ Pipeline.ΦA spec0 c := by
  have hN : cfg0.N = 64 := N_0
  rw [show (dats m 0 c).Φ (Fin.last cfg0.N) = Inv m c (Fin.last cfg0.N).val (Nat.le_of_lt_succ (Fin.last cfg0.N).isLt) from rfl,
    Inv_pos m c _ _ (by rw [Fin.val_last]; omega), PhiA_eq]
  iintro ⟨⟨HS, HT⟩, Hg⟩
  isplitl [HS HT]
  · isplitl [HS]
    · iexists _; iexact HS
    iexact HT
  iexact Hg

set_option backward.isDefEq.respectTransparency.types false in
/-- Every fair execution of the program ends with the arrays at what the pipeline's data computes and all semaphores
    at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := Inv_in m) (hout := Inv_out m)

theorem run_main : θ_run defs (onTc (τ := τ) (main (F := F))) (s₀ m ρ) (Pipeline.FramePost cfgs (dats m) 0 (V m)) :=
  (θ_run defs _ _).mono (fun _ h => h.1) (run_quiescent m ρ)

/-- The frame claim: the program terminates, its arguments unchanged, its semaphores at zero. -/
theorem frame_ok : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.KernelIdeal.Ret

end
-- ==== Proof.Ret.Form.lean ====
module

public import Idealize.ShloMosaic.Lib.Pointwise

@[expose] public section

/-! The formulas of the retention layer, over scalars: what one chunk of the recurrence does, and what follows it on a row.
No program is mentioned here; the kernel's module and the reference's module both read their results as these. -/

noncomputable section

namespace Cert.RetForm

open Idealize.ShloMosaic

section
variable {R : Type} [AddCommMonoid R] [Mul R]

/-- The state before chunk `n`, by the recurrence over chunks of `C` rows: each chunk scales it by `cd` and adds the
    products of its keys, each scaled by `kd`, with its values. -/
def stN (C : ℕ) (k : ℕ → Fin 256 → R) (v : ℕ → Fin 512 → R) (kd : Fin C → R) (cd : R) : ℕ → Fin 256 → Fin 512 → R
  | 0 => fun _ _ => 0
  | n + 1 => fun d e => stN C k v kd cd n d e * cd + ∑ j : Fin C, k (C * n + j) d * kd j * v (C * n + j) e

/-- Row `i` of chunk `n`: the chunk's own part (scores, masked by `dm`, times values), and the part read from the state. -/
def oC (C : ℕ) (q k : ℕ → Fin 256 → R) (v : ℕ → Fin 512 → R) (dm : Fin C → Fin C → R) (qd kd : Fin C → R) (cd : R)
    (n : ℕ) (i : Fin C) (e : Fin 512) : R :=
  (∑ j : Fin C, (∑ d, q (C * n + i) d * k (C * n + j) d) * dm i j * v (C * n + j) e)
    + ∑ d, q (C * n + i) d * qd i * stN C k v kd cd n d e
end

/-- The literals: a half, the two row lengths, and the norms' epsilon. -/
abbrev half : EReal := Ideal.ofBits .f32 1056964608#32
abbrev c512 : EReal := Ideal.ofBits .f32 1140850688#32
abbrev c1024 : EReal := Ideal.ofBits .f32 1149239296#32
abbrev eps : EReal := Ideal.ofBits .f32 897988541#32

/-- The gate, its sigmoid written through the hyperbolic tangent. -/
def silT (g : EReal) : EReal := g * (half + half * Ideal.tanh (half * g))

/-- The mean of a head's row, and the row normalised to mean zero and unit variance. -/
def mean512 (o : Fin 512 → EReal) : EReal := Ideal.div (∑ e, o e) c512
def gn (o : Fin 512 → EReal) (e : Fin 512) : EReal :=
  (o e - mean512 o) * Ideal.rsqrt (mean512 (fun e => (o e - mean512 o) * (o e - mean512 o)) + eps)

/-- A row divided by its root mean square. -/
def rms (x : Fin 1024 → EReal) (n : Fin 1024) : EReal :=
  x n * Ideal.rsqrt (Ideal.div (∑ n, x n * x n) c1024 + eps)

/-- The head and the place in the head of one of the 2048 columns. -/
def hd (c : Fin 2048) : Fin 4 := ⟨c.val / 512, by omega⟩
def pl (c : Fin 2048) : Fin 512 := ⟨c.val % 512, Nat.mod_lt _ (by decide)⟩

/-- What follows the recurrence on one row: head norm, gate, projection, residual, and the final norm. -/
def tail (o : Fin 4 → Fin 512 → EReal) (g : Fin 2048 → EReal) (h : Fin 1024 → EReal) (gw gb : Fin 2048 → EReal)
    (w : Fin 2048 → Fin 1024 → EReal) (fw : Fin 1024 → EReal) (n : Fin 1024) : EReal :=
  rms (fun n => h n + ∑ c, (silT (g c) * (gn (o (hd c)) (pl c) * gw c + gb c)) * w c n) n * fw n

/-- The row of the two sequences' joined array where row `t` of sequence `b` lies (defined for every `t`; past the end it
    wraps around). -/
def row (b t : ℕ) : Fin 32768 := ⟨(16384 * b + t) % 32768, Nat.mod_lt _ (by decide)⟩

/-- The column of a head's query or key, and the column of a head's value. -/
def cq (h : Fin 4) (d : Fin 256) : Fin 1024 := ⟨256 * h.val + d.val, by omega⟩
def cv (h : Fin 4) (e : Fin 512) : Fin 2048 := ⟨512 * h.val + e.val, by omega⟩

theorem hd_cv (h : Fin 4) (e : Fin 512) : hd (cv h e) = h := Fin.ext (by show (512 * h.val + e.val) / 512 = h.val; omega)
theorem pl_cv (h : Fin 4) (e : Fin 512) : pl (cv h e) = e := Fin.ext (by show (512 * h.val + e.val) % 512 = e.val; omega)
theorem cv_hd (c : Fin 2048) : cv (hd c) (pl c) = c := Fin.ext (by show 512 * (c.val / 512) + c.val % 512 = c.val; omega)

/-- A sequence's queries, keys and values at a head, read from the arguments. -/
def qs (Q : (⟨2, ![32768, 1024]⟩ : Shape).Idx → EReal) (b : ℕ) (h : Fin 4) (t : ℕ) (d : Fin 256) : EReal := Q (ix2 (row b t) (cq h d))
def ks (K : (⟨2, ![1024, 32768]⟩ : Shape).Idx → EReal) (b : ℕ) (h : Fin 4) (t : ℕ) (d : Fin 256) : EReal := K (ix2 (cq h d) (row b t))
def vs (V : (⟨2, ![32768, 2048]⟩ : Shape).Idx → EReal) (b : ℕ) (h : Fin 4) (t : ℕ) (e : Fin 512) : EReal := V (ix2 (row b t) (cv h e))

end Cert.RetForm
-- ==== Proof.Ret.Math.lean ====
module

public import proofs.«01_k».proof.Proof.Ret.Form
public import Mathlib.Tactic.FieldSimp
public import Mathlib.Tactic.Linarith

@[expose] public section

/-! The mathematics of the chunked recurrence: over the reals, with the decay `exp (ℓ n)`, a row of any chunking is one sum over
all rows up to it, so two chunkings agree; and on finite extended reals the formulas are those of the reals. -/

noncomputable section

namespace Cert.RetForm

open Idealize.ShloMosaic

/-- The decay tables for the rate `ℓ` and chunks of `C` rows: between two rows of a chunk, from a row back to the chunk's start,
    from a row on to the chunk's end, and across a chunk. -/
def dmR (ℓ : ℝ) (i j : ℕ) : ℝ := if j ≤ i then Real.exp (ℓ * ((i : ℝ) - j)) else 0
def qdR (ℓ : ℝ) (i : ℕ) : ℝ := Real.exp (ℓ * ((i : ℝ) + 1))
def kdR (ℓ : ℝ) (C j : ℕ) : ℝ := Real.exp (ℓ * ((C : ℝ) - 1 - j))
def cdR (ℓ : ℝ) (C : ℕ) : ℝ := Real.exp (ℓ * C)

/-- Row `t` at column `e` as one sum over the rows up to `t`. -/
def full (ℓ : ℝ) (q k : ℕ → Fin 256 → ℝ) (v : ℕ → Fin 512 → ℝ) (t : ℕ) (e : Fin 512) : ℝ :=
  ∑ s ∈ Finset.range (t + 1), (∑ d, q t d * k s d) * Real.exp (ℓ * ((t : ℝ) - s)) * v s e

/-- The state before chunk `n`, as one sum over the rows before it. -/
theorem stN_closed (ℓ : ℝ) (C : ℕ) (k : ℕ → Fin 256 → ℝ) (v : ℕ → Fin 512 → ℝ) (n : ℕ) (d : Fin 256) (e : Fin 512) :
    stN C k v (fun j => kdR ℓ C j) (cdR ℓ C) n d e
      = ∑ s ∈ Finset.range (C * n), k s d * Real.exp (ℓ * ((C : ℝ) * n - 1 - s)) * v s e := by
  induction n with
  | zero => simp [stN]
  | succ n ih =>
    simp only [stN]
    rw [ih, Nat.mul_succ, Finset.sum_range_add, Finset.sum_mul, ← Fin.sum_univ_eq_sum_range (n := C)]
    congr 1
    · refine Finset.sum_congr rfl fun s _ => ?_
      have h : Real.exp (ℓ * ((C : ℝ) * (n + 1 : ℕ) - 1 - s)) = Real.exp (ℓ * ((C : ℝ) * n - 1 - s)) * cdR ℓ C := by
        rw [cdR, ← Real.exp_add]; congr 1; push_cast; ring
      rw [h]; ring
    · refine Finset.sum_congr rfl fun j _ => ?_
      have h : Real.exp (ℓ * ((C : ℝ) * (n + 1 : ℕ) - 1 - (C * n + (j : ℕ) : ℕ))) = kdR ℓ C j := by
        rw [kdR]; congr 1; push_cast; ring
      rw [h]

/-- A row of a chunk, as one sum over the rows up to it. -/
theorem oC_closed (ℓ : ℝ) (C : ℕ) (q k : ℕ → Fin 256 → ℝ) (v : ℕ → Fin 512 → ℝ) (n : ℕ) (i : Fin C) (e : Fin 512) :
    oC C q k v (fun i j => dmR ℓ i j) (fun i => qdR ℓ i) (fun j => kdR ℓ C j) (cdR ℓ C) n i e = full ℓ q k v (C * n + i) e := by
  unfold oC full
  rw [Nat.add_assoc, Finset.sum_range_add, add_comm]
  congr 1
  · simp only [stN_closed, Finset.mul_sum]
    rw [Finset.sum_comm]
    refine Finset.sum_congr rfl fun s _ => ?_
    have h : Real.exp (ℓ * (((C * n + (i : ℕ) : ℕ) : ℝ) - s)) = qdR ℓ i * Real.exp (ℓ * ((C : ℝ) * n - 1 - s)) := by
      rw [qdR, ← Real.exp_add]; congr 1; push_cast; ring
    rw [h, Finset.sum_mul, Finset.sum_mul]
    exact Finset.sum_congr rfl fun d _ => by ring
  · have hf : ∀ j : Fin C, (∑ d, q (C * n + i) d * k (C * n + j) d) * dmR ℓ i j * v (C * n + j) e
        = (fun j : ℕ => if j ≤ i then (∑ d, q (C * n + i) d * k (C * n + j) d) * Real.exp (ℓ * ((i : ℝ) - j)) * v (C * n + j) e else 0) j := by
      intro j
      simp only [dmR]
      split <;> simp
    rw [Finset.sum_congr rfl fun j _ => hf j,
      Fin.sum_univ_eq_sum_range (fun j : ℕ => if j ≤ i then (∑ d, q (C * n + i) d * k (C * n + j) d) * Real.exp (ℓ * ((i : ℝ) - j)) * v (C * n + j) e else 0) C,
      ← Finset.sum_filter]
    have hr : (Finset.range C).filter (fun j => j ≤ (i : ℕ)) = Finset.range (i + 1) := by
      ext j
      have := i.isLt
      simp only [Finset.mem_filter, Finset.mem_range]
      omega
    rw [hr]
    refine Finset.sum_congr rfl fun s _ => ?_
    have h : ((C * n + (i : ℕ) : ℕ) : ℝ) - ((C * n + s : ℕ) : ℝ) = (i : ℝ) - s := by push_cast; ring
    rw [h]

/-! ## From the reals to the extended reals -/

/-- A finite sum of reals, in the extended reals. -/
theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The state of real rows, in the extended reals. -/
theorem stN_coe (C : ℕ) (k : ℕ → Fin 256 → ℝ) (v : ℕ → Fin 512 → ℝ) (kd : Fin C → ℝ) (cd : ℝ) (n : ℕ) (d : Fin 256) (e : Fin 512) :
    stN C (fun t d => ((k t d : ℝ) : EReal)) (fun t e => ((v t e : ℝ) : EReal)) (fun j => ((kd j : ℝ) : EReal)) (cd : EReal) n d e
      = ((stN C k v kd cd n d e : ℝ) : EReal) := by
  induction n generalizing d e with
  | zero => simp [stN]
  | succ n ih =>
    simp only [stN, ih, ← EReal.coe_mul, sum_coe, ← EReal.coe_add]

/-- A row of real rows, in the extended reals. -/
theorem oC_coe (C : ℕ) (q k : ℕ → Fin 256 → ℝ) (v : ℕ → Fin 512 → ℝ) (dm : Fin C → Fin C → ℝ) (qd kd : Fin C → ℝ) (cd : ℝ)
    (n : ℕ) (i : Fin C) (e : Fin 512) :
    oC C (fun t d => ((q t d : ℝ) : EReal)) (fun t d => ((k t d : ℝ) : EReal)) (fun t e => ((v t e : ℝ) : EReal))
        (fun i j => ((dm i j : ℝ) : EReal)) (fun i => ((qd i : ℝ) : EReal)) (fun j => ((kd j : ℝ) : EReal)) (cd : EReal) n i e
      = ((oC C q k v dm qd kd cd n i e : ℝ) : EReal) := by
  simp only [oC, stN_coe, ← EReal.coe_mul, sum_coe, ← EReal.coe_add]

/-- **Two chunkings agree.** On finite rows, with the decay tables of a real rate, the row at `t` is the same in chunks of 256 rows
    and of 128. -/
theorem chunks_agree (ℓ : ℝ) (q k : ℕ → Fin 256 → EReal) (v : ℕ → Fin 512 → EReal)
    (hq : ∀ t d, ∃ r : ℝ, q t d = r) (hk : ∀ t d, ∃ r : ℝ, k t d = r) (hv : ∀ t e, ∃ r : ℝ, v t e = r)
    (n n' : ℕ) (i : Fin 256) (i' : Fin 128) (ht : 256 * n + i = 128 * n' + i') (e : Fin 512) :
    oC 256 q k v (fun i j => ((dmR ℓ i j : ℝ) : EReal)) (fun i => ((qdR ℓ i : ℝ) : EReal)) (fun j => ((kdR ℓ 256 j : ℝ) : EReal))
        ((cdR ℓ 256 : ℝ) : EReal) n i e
      = oC 128 q k v (fun i j => ((dmR ℓ i j : ℝ) : EReal)) (fun i => ((qdR ℓ i : ℝ) : EReal)) (fun j => ((kdR ℓ 128 j : ℝ) : EReal))
        ((cdR ℓ 128 : ℝ) : EReal) n' i' e := by
  choose q' hq' using hq
  choose k' hk' using hk
  choose v' hv' using hv
  obtain rfl : q = fun t d => ((q' t d : ℝ) : EReal) := funext fun t => funext fun d => hq' t d
  obtain rfl : k = fun t d => ((k' t d : ℝ) : EReal) := funext fun t => funext fun d => hk' t d
  obtain rfl : v = fun t d => ((v' t d : ℝ) : EReal) := funext fun t => funext fun d => hv' t d
  rw [oC_coe 256 q' k' v' (fun i j => dmR ℓ i j) (fun i => qdR ℓ i) (fun j => kdR ℓ 256 j) (cdR ℓ 256) n i e,
    oC_coe 128 q' k' v' (fun i j => dmR ℓ i j) (fun i => qdR ℓ i) (fun j => kdR ℓ 128 j) (cdR ℓ 128) n' i' e,
    oC_closed, oC_closed, ht]

/-! ## The gate -/

/-- The gate, its sigmoid written through the exponential. -/
def silE (g : EReal) : EReal := g * Ideal.div 1 (1 + Ideal.exp (-g))

theorem half_eq : half = (((1 : ℝ) / 2 : ℝ) : EReal) := by
  simp [half, Ideal.ofBits, Ideal.ieee, -EReal.coe_mul]; norm_num

/-- The logistic function through the hyperbolic tangent of half the argument. -/
theorem sig_real (x : ℝ) : 1 / 2 + 1 / 2 * Real.tanh (1 / 2 * x) = 1 * (1 + Real.exp (-x))⁻¹ := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have p1 := Real.exp_pos (1 / 2 * x)
  have p2 := Real.exp_pos (-(1 / 2 * x))
  rw [Real.tanh_eq_sinh_div_cosh, Real.sinh_eq, Real.cosh_eq, h1]
  generalize Real.exp (1 / 2 * x) = a at *
  generalize Real.exp (-(1 / 2 * x)) = b at *
  have h3 : a + b ≠ 0 := by positivity
  have h4 : 1 + b * b ≠ 0 := by positivity
  field_simp
  nlinarith [h2]

/-- The logistic function through the hyperbolic tangent, and through the exponential. -/
def sigT (g : EReal) : EReal := half + half * Ideal.tanh (half * g)
def sigE (g : EReal) : EReal := Ideal.div 1 (1 + Ideal.exp (-g))

/-- The two are the same, on every extended real. -/
theorem sigT_eq (g : EReal) : sigT g = sigE g := by
  unfold sigT sigE
  rw [half_eq]
  induction g using EReal.rec with
  | bot =>
    have h1 : (((1 : ℝ) / 2 : ℝ) : EReal) * ⊥ = ⊥ := EReal.coe_mul_bot_of_pos (by norm_num)
    rw [h1, show Ideal.tanh ⊥ = ((-1 : ℝ) : EReal) from (show Ideal.tanh ⊥ = -1 from rfl).trans (by simp), ← EReal.coe_mul, ← EReal.coe_add]
    have h2 : ((1 : ℝ) / 2 + 1 / 2 * -1) = 0 := by norm_num
    have h3 : (1 : EReal) + ⊤ = ⊤ := by rw [← EReal.coe_one]; exact EReal.coe_add_top 1
    rw [h2, EReal.neg_bot, show Ideal.exp ⊤ = ⊤ from rfl, h3]
    simp [Ideal.div]
  | top =>
    have h1 : (((1 : ℝ) / 2 : ℝ) : EReal) * ⊤ = ⊤ := EReal.coe_mul_top_of_pos (by norm_num)
    rw [h1, show Ideal.tanh ⊤ = ((1 : ℝ) : EReal) from (show Ideal.tanh ⊤ = 1 from rfl).trans (by simp), ← EReal.coe_mul, ← EReal.coe_add]
    have h2 : ((1 : ℝ) / 2 + 1 / 2 * 1) = 1 := by norm_num
    rw [h2, EReal.neg_top, show Ideal.exp ⊥ = 0 from rfl]
    simp [Ideal.div]
  | coe x =>
    have hp : (1 + Real.exp (-x)) ≠ 0 := by have := Real.exp_pos (-x); positivity
    rw [← EReal.coe_mul, show Ideal.tanh (((1 / 2 * x : ℝ)) : EReal) = ((Real.tanh (1 / 2 * x) : ℝ) : EReal) from rfl,
      ← EReal.coe_mul, ← EReal.coe_add, sig_real, ← EReal.coe_neg,
      show Ideal.exp ((-x : ℝ) : EReal) = ((Real.exp (-x) : ℝ) : EReal) from rfl, ← EReal.coe_one, ← EReal.coe_add]
    congr 1
    unfold Ideal.div
    rw [if_neg (by exact_mod_cast hp), ← EReal.coe_inv, ← EReal.coe_mul]

/-- **The two gates are the same**, on every extended real. -/
theorem silT_eq (g : EReal) : silT g = silE g := congrArg (g * ·) (sigT_eq g)

end Cert.RetForm
-- ==== Proof.Ret.Finite.lean ====
module

public import proofs.«01_k».proof.Defs
public import proofs.«01_k».proof.Proof.Ret.Math

@[expose] public section

/-! What the precondition says: every query, key and value is a real number. -/

noncomputable section

namespace Cert.RetFinite

open Idealize.ShloMosaic Idealize.ShloMosaic.Tactic Cert.Pre_finite_rows

/-- The side conditions the precondition's operations take. -/
theorem facts : Cert.Pre_finite_rows.Facts where
  bitsLt_bf16_f32 := by decide
  transposes_S1024x32768_S32768x1024_1_0 := by decide
  slices_S32768x2048_S32768x1024_0_0 := by decide
  slices_S32768x2048_S32768x1024_0_1024 := by decide
  bcast_S_S32768x1024 := by decide

/-- A number whose difference with itself is zero is real. -/
theorem real_of_sub (x : EReal) (h : x - x = 0) : ∃ r : ℝ, x = r := by
  induction x using EReal.rec with
  | bot => exact absurd h (by simp)
  | coe r => exact ⟨r, rfl⟩
  | top => exact absurd h (by simp)

theorem and_one (a b : BitVec 1) (h : a &&& b = 1#1) : a = 1#1 ∧ b = 1#1 := by
  revert h; revert a b; decide

theorem eq_of_cmp (x y : EReal) (h : Ideal.cmp .oeq x y = 1#1) : x = y := by
  by_contra hne
  simp [Ideal.cmp, hne] at h

/-- The precondition element by element. -/
theorem fn_at [Cert.Pre_finite_rows.Facts] (q : S32768x1024.Idx → EReal) (k : S1024x32768.Idx → EReal) (v g : S32768x2048.Idx → EReal)
    (h : S32768x1024.Idx → EReal) (gw gb : S2048.Idx → EReal) (w : S2048x1024.Idx → EReal) (fw : S1024.Idx → EReal)
    (H : fn (F := Ideal) q k v g h gw gb w fw = fun _ => 1#1) (r : Fin 32768) (j : Fin 1024) :
    q (ix2 r j) - q (ix2 r j) = 0 ∧ k (ix2 j r) - k (ix2 j r) = 0
      ∧ v (ix2 r ⟨j.val, by omega⟩) - v (ix2 r ⟨j.val, by omega⟩) = 0
      ∧ v (ix2 r ⟨1024 + j.val, by omega⟩) - v (ix2 r ⟨1024 + j.val, by omega⟩) = 0 := by
  have h0 := congrFun H (ix2 r j)
  simp only [fn, fn_part1] at h0
  obtain ⟨h1, hd⟩ := and_one _ _ h0
  obtain ⟨h2, hc⟩ := and_one _ _ h1
  obtain ⟨ha, hb⟩ := and_one _ _ h2
  have ea := eq_of_cmp _ _ ha
  have eb := eq_of_cmp _ _ hb
  have ec := eq_of_cmp _ _ hc
  have ed := eq_of_cmp _ _ hd
  refine ⟨?_, ?_, ?_, ?_⟩
  · refine Eq.trans ?_ (ea.trans ?_)
    · pointwise
    · pointwise
  · refine Eq.trans ?_ (eb.trans ?_)
    · pointwise
    · pointwise
  · refine Eq.trans ?_ (ec.trans ?_)
    · pointwise
    · pointwise
  · refine Eq.trans ?_ (ed.trans ?_)
    · pointwise
    · pointwise

variable [Cert.Pre_finite_rows.Facts] (q : S32768x1024.Idx → EReal) (k : S1024x32768.Idx → EReal) (v g : S32768x2048.Idx → EReal)
  (h : S32768x1024.Idx → EReal) (gw gb : S2048.Idx → EReal) (w : S2048x1024.Idx → EReal) (fw : S1024.Idx → EReal)

/-- Every query is real. -/
theorem q_real (H : fn (F := Ideal) q k v g h gw gb w fw = fun _ => 1#1) (y : S32768x1024.Idx) : ∃ r : ℝ, q y = r := by
  rw [eq_ix2 y]
  exact real_of_sub _ (fn_at q k v g h gw gb w fw H (y 0) (y 1)).1

/-- Every key is real. -/
theorem k_real (H : fn (F := Ideal) q k v g h gw gb w fw = fun _ => 1#1) (y : S1024x32768.Idx) : ∃ r : ℝ, k y = r := by
  rw [eq_ix2 y]
  exact real_of_sub _ (fn_at q k v g h gw gb w fw H (y 1) (y 0)).2.1

/-- Every value is real. -/
theorem v_real (H : fn (F := Ideal) q k v g h gw gb w fw = fun _ => 1#1) (y : S32768x2048.Idx) : ∃ r : ℝ, v y = r := by
  rw [eq_ix2 y]
  by_cases hy : (y 1).val < 1024
  · exact real_of_sub _ (fn_at q k v g h gw gb w fw H (y 0) ⟨(y 1).val, hy⟩).2.2.1
  · have hl : (y 1).val < 2048 := (y 1).isLt
    have e : y 1 = (⟨1024 + ((y 1).val - 1024), by omega⟩ : Fin 2048) := Fin.ext (by show (y 1).val = 1024 + ((y 1).val - 1024); omega)
    rw [e]
    exact real_of_sub _ (fn_at q k v g h gw gb w fw H (y 0) ⟨(y 1).val - 1024, by omega⟩).2.2.2

end Cert.RetFinite
-- ==== Proof.Ret.KernelIdeal.Pay.lean ====
module

public import proofs.«01_k».proof.Proof.Gen.KernelIdeal.Skeleton
public import proofs.«01_k».proof.Proof.Ret.Form

@[expose] public section

/-! The arithmetic of one grid point's body, read at an index: the state a head leaves, a head's gated row, and the block. -/

set_option maxRecDepth 16384

noncomputable section

namespace Cert.KernelIdeal.Ret

open Idealize.ShloMosaic Idealize.ShloMosaic.TcCoe Idealize.ShloMosaic.Tactic
open Idealize.SL.Sem
open Cert.KernelIdeal Cert.KernelIdeal.Gen Cert.RetForm

variable (q kt : FVec Ideal S256x256 .bf16) (v g : FVec Ideal S256x512 .bf16) (dm qd kd : FVec Ideal S1x256x256 .f32)
  (st : FVec Ideal S1x256x512 .f32) (cd : FVec Ideal S1x1x512 .f32) (gw gb : FVec Ideal S1x512 .f32)

/-- The state a head leaves, as the body's arithmetic. -/
def pSt : FVec Ideal S1x256x512 .f32 := k0_pay9 (F := Ideal) (k0_pay4 v) (k0_pay6 st) (k0_pay8 kt) kd cd
/-- A head's gated row, as the body's arithmetic. -/
def pY : FVec Ideal S1x256x512 .bf16 := k0_pay12 (F := Ideal) (k0_pay10 (k0_pay5 q kt v dm) (k0_pay7 q st qd) gw) (k0_pay11 gb) g

/-- A head's new state at an index. -/
theorem pSt_apply (i : Fin 256) (e : Fin 512) : pSt kt v kd st cd (ix3 0 i e)
    = st (ix3 0 i e) * cd (ix3 0 0 e) + ∑ x : Fin 256, kt (ix2 i x) * kd (ix3 0 i x) * v (ix2 x e) := by
  unfold pSt
  pointwise [k0_pay9, k0_pay4, k0_pay6, k0_pay8]

/-- The same, its operands given by their entries. -/
theorem pSt_of {kt v kd st cd} {KT KD : Fin 256 → Fin 256 → EReal} {V S : Fin 256 → Fin 512 → EReal} {CD : Fin 512 → EReal}
    (hkt : ∀ i j, kt (ix2 i j) = KT i j) (hv : ∀ i j, v (ix2 i j) = V i j) (hkd : ∀ i j, kd (ix3 0 i j) = KD i j)
    (hst : ∀ i j, st (ix3 0 i j) = S i j) (hcd : ∀ j, cd (ix3 0 0 j) = CD j) (i : Fin 256) (e : Fin 512) :
    pSt kt v kd st cd (ix3 0 i e) = S i e * CD e + ∑ x : Fin 256, KT i x * KD i x * V x e := by
  rw [pSt_apply, hst, hcd]
  simp only [hkt, hv, hkd]

/-- A head's row before its norm. -/
def pO (i : Fin 256) (e : Fin 512) : EReal :=
  (∑ x : Fin 256, (∑ d : Fin 256, q (ix2 i d) * kt (ix2 d x)) * dm (ix3 0 i x) * v (ix2 x e))
    + ∑ d : Fin 256, q (ix2 i d) * qd (ix3 0 i d) * st (ix3 0 d e)

/-- A head's gated row at an index. -/
theorem pY_apply (i : Fin 256) (e : Fin 512) : pY q kt v g dm qd st gw gb (ix3 0 i e)
    = silT (g (ix2 i e)) * (gn (pO q kt v dm qd st i) e * gw (ix2 0 e) + gb (ix2 0 e)) := by
  unfold pY silT gn mean512 pO
  pointwise [k0_pay12, k0_pay10, k0_pay5, k0_pay7, k0_pay11, k0_pay3, k0_pay4, k0_pay6]

/-- A head's row before its norm, its operands given by their entries. -/
theorem pO_of {q kt v dm qd st} {Q KT DM QD : Fin 256 → Fin 256 → EReal} {V S : Fin 256 → Fin 512 → EReal}
    (hq : ∀ i j, q (ix2 i j) = Q i j) (hkt : ∀ i j, kt (ix2 i j) = KT i j) (hv : ∀ i j, v (ix2 i j) = V i j)
    (hdm : ∀ i j, dm (ix3 0 i j) = DM i j) (hqd : ∀ i j, qd (ix3 0 i j) = QD i j) (hst : ∀ i j, st (ix3 0 i j) = S i j)
    (i : Fin 256) (e : Fin 512) : pO q kt v dm qd st i e
      = (∑ x : Fin 256, (∑ d : Fin 256, Q i d * KT d x) * DM i x * V x e) + ∑ d : Fin 256, Q i d * QD i d * S d e := by
  unfold pO
  simp only [hq, hkt, hv, hdm, hqd, hst]

/-- A head's gated row, its operands given by their entries. -/
theorem pY_of {q kt v g dm qd st gw gb} {O G : Fin 256 → Fin 512 → EReal} {W B : Fin 512 → EReal}
    (ho : ∀ i e, pO q kt v dm qd st i e = O i e) (hg : ∀ i j, g (ix2 i j) = G i j) (hw : ∀ j, gw (ix2 0 j) = W j)
    (hb : ∀ j, gb (ix2 0 j) = B j) (i : Fin 256) (e : Fin 512) :
    pY q kt v g dm qd st gw gb (ix3 0 i e) = silT (G i e) * (gn (O i) e * W e + B e) := by
  rw [pY_apply, hg, hw, hb, show pO q kt v dm qd st i = O i from funext (ho i)]

/-- A block's row at an index. -/
theorem pOut_apply (h : FVec Ideal S1x256x1024 .f32) (y : FVec Ideal S1x256x2048 .bf16) (w : FVec Ideal S2048x1024 .bf16)
    (fw : FVec Ideal S1x1024 .f32) (i : Fin 256) (n : Fin 1024) : k0_pay39 (F := Ideal) h y w fw (ix3 0 i n)
    = rms (fun n => h (ix3 0 i n) + ∑ c : Fin 2048, y (ix3 0 i c) * w (ix2 c n)) n * fw (ix2 0 n) := by
  unfold rms
  pointwise [k0_pay39]

/-- A block's row, its operands given by their entries. -/
theorem pOut_of {h : FVec Ideal S1x256x1024 .f32} {y : FVec Ideal S1x256x2048 .bf16} {w : FVec Ideal S2048x1024 .bf16}
    {fw : FVec Ideal S1x1024 .f32} {H : Fin 256 → Fin 1024 → EReal} {Y : Fin 256 → Fin 2048 → EReal}
    {W : Fin 2048 → Fin 1024 → EReal} {FW : Fin 1024 → EReal}
    (hh : ∀ i j, h (ix3 0 i j) = H i j) (hy : ∀ i j, y (ix3 0 i j) = Y i j) (hw : ∀ i j, w (ix2 i j) = W i j)
    (hf : ∀ j, fw (ix2 0 j) = FW j) (i : Fin 256) (n : Fin 1024) : k0_pay39 (F := Ideal) h y w fw (ix3 0 i n)
    = rms (fun n => H i n + ∑ c : Fin 2048, Y i c * W c n) n * FW n := by
  rw [pOut_apply, hf]
  simp only [hh, hy, hw]

/-- The block's arithmetic of the second sequence is that of the first. -/
theorem pOut_second (h : FVec Ideal S1x256x1024 .f32) (y : FVec Ideal S1x256x2048 .bf16) (w : FVec Ideal S2048x1024 .bf16)
    (fw : FVec Ideal S1x1024 .f32) : k0_pay1 (F := Ideal) (k0_pay78 h) (k0_pay79 y) w fw = k0_pay39 h y w fw := rfl

/-! The eight (sequence, head) pairs run the same arithmetic, cut at different places: each is the first's. -/

theorem st_00 : k0_pay9 (F := Ideal) (k0_pay4 v) (k0_pay6 st) (k0_pay8 kt) kd cd = pSt kt v kd st cd := rfl
theorem st_01 : k0_pay17 (F := Ideal) kt (k0_pay14 v) st kd cd = pSt kt v kd st cd := rfl
theorem st_02 : k0_pay27 (F := Ideal) (k0_pay22 v) (k0_pay24 st) (k0_pay26 kt) kd cd = pSt kt v kd st cd := rfl
theorem st_03 : k0_pay35 (F := Ideal) kt (k0_pay32 v) st kd cd = pSt kt v kd st cd := rfl
theorem st_10 : k0_pay46 (F := Ideal) (k0_pay45 kt v st kd cd) = pSt kt v kd st cd := rfl
theorem st_11 : k0_pay55 (F := Ideal) kt (k0_pay52 v) st kd cd = pSt kt v kd st cd := rfl
theorem st_12 : k0_pay65 (F := Ideal) (k0_pay64 kt v st kd cd) = pSt kt v kd st cd := rfl
theorem st_13 : k0_pay74 (F := Ideal) kt (k0_pay71 v) st kd cd = pSt kt v kd st cd := rfl

theorem y_00 : k0_pay12 (F := Ideal) (k0_pay10 (k0_pay5 q kt v dm) (k0_pay7 q st qd) gw) (k0_pay11 gb) g
    = pY q kt v g dm qd st gw gb := rfl
theorem y_01 : k0_pay20 (F := Ideal) (k0_pay19 (k0_pay18 (k0_pay13 q) (k0_pay14 v) (k0_pay15 q kt) dm st qd) gw gb g)
    = pY q kt v g dm qd st gw gb := rfl
theorem y_02 : k0_pay30 (F := Ideal) (k0_pay28 (k0_pay23 q kt v dm) (k0_pay25 q st qd) gw) (k0_pay29 gb) g
    = pY q kt v g dm qd st gw gb := rfl
theorem y_03 : k0_pay38 (F := Ideal) (k0_pay37 (k0_pay36 (k0_pay31 q) (k0_pay32 v) (k0_pay33 q kt) dm st qd) gw gb g)
    = pY q kt v g dm qd st gw gb := rfl
theorem y_10 : k0_pay50 (F := Ideal) (k0_pay47 (k0_pay42 (k0_pay40 q) kt v dm) (k0_pay44 (k0_pay40 q) st qd) gw gb)
    (k0_pay48 g) (k0_pay49 g) (Scalar.ofBits .f32 0x3F000000#32) = pY q kt v g dm qd st gw gb := rfl
theorem y_11 : k0_pay58 (F := Ideal) (k0_pay56 (k0_pay51 q) (k0_pay53 q kt v dm) st qd)
    (k0_pay57 (k0_pay51 q) (k0_pay53 q kt v dm) st qd) gw gb g = pY q kt v g dm qd st gw gb := rfl
theorem y_12 : k0_pay69 (F := Ideal) (k0_pay66 (k0_pay61 (k0_pay59 q) kt v dm) (k0_pay63 (k0_pay59 q) st qd) gw gb)
    (k0_pay67 g) (k0_pay68 g) (Scalar.ofBits .f32 0x3F000000#32) = pY q kt v g dm qd st gw gb := rfl
theorem y_13 : k0_pay77 (F := Ideal) (k0_pay75 (k0_pay70 q) (k0_pay72 q kt v dm) st qd)
    (k0_pay76 (k0_pay70 q) (k0_pay72 q kt v dm) st qd) gw gb g = pY q kt v g dm qd st gw gb := rfl

end Cert.KernelIdeal.Ret
-- ==== Proof.Ret.KernelIdeal.Loads.lean ====
module

public import proofs.«01_k».proof.Proof.Gen.KernelIdeal.Skeleton
public import Idealize.ShloMosaic.Lib.Pointwise
public import Idealize.ShloMosaic.Lib.Pipeline.ValueKit
public import Idealize.ShloMosaic.Lib.WholeRead
public import Idealize.ShloMosaic.Lib.Exec.Geometry

@[expose] public section

/-! What the body's loads read: an index of the block a memref holds. -/

set_option maxRecDepth 16384

noncomputable section

namespace Cert.KernelIdeal.Ret

open Idealize.ShloMosaic Idealize.ShloMosaic.TcCoe Idealize.ShloMosaic.Tactic
open Idealize.SL.Sem
open Cert.KernelIdeal.Gen

variable {e : EltTy}

/-- A load of some columns of one slab of a rank-3 block, the slab's unit axis dropped. -/
theorem ld_slab {A B C n : ℕ} (M : Memref sig .tc .vmem ⟨3, ![A, B, C]⟩ e) (hM : M.IsWhole)
    (X : (⟨3, ![A, B, C]⟩ : Shape).Idx → Elt Ideal e) {b co : ℕ}
    (i₁ : ∀ a, (![b, 0, 0] : Fin 3 → ℕ) a + (![1, B, C] : Fin 3 → ℕ) a ≤ (![A, B, C] : Fin 3 → ℕ) a)
    (p) (sq) (i₂ : ∀ a, (![0, co] : Fin 2 → ℕ) a + (![B, n] : Fin 2 → ℕ) a ≤ (![B, C] : Fin 2 → ℕ) a) {b' : Fin A} (hb : b'.val = b)
    {J : Fin n → Fin C} (hJ : ∀ j, (J j).val = co + j.val) (i : Fin B) (j : Fin n) :
    View.readAt (Elt Ideal) ((M.slice (Rect.unit (s := ⟨3, ![A, B, C]⟩) ![b, 0, 0] ![1, B, C] i₁) p).squeeze ⟨2, ![B, C]⟩ sq).view
        (Rect.unit (s := ⟨2, ![B, C]⟩) ![0, co] ![B, n] i₂).toLoadRect (hM.unread X) (ix2 i j)
      = X (ix3 b' i (J j)) := by
  refine (hM.readAt_slice_reshape_unread X _ _ _ _).trans (congrArg X ?_)
  rw [Shape.reshapeEquiv_cons_one]
  funext a
  refine Fin.ext ?_
  match a with
  | 0 => exact hb.symm
  | 1 => show 0 + 1 * (0 + 1 * i.val) = i.val; omega
  | 2 => show 0 + 1 * (co + 1 * j.val) = (J j).val; rw [hJ]; omega

/-- A load of a box of a rank-2 block. -/
theorem ld_box {A B n k : ℕ} (M : Memref sig .tc .vmem ⟨2, ![A, B]⟩ e) (hM : M.IsWhole)
    (X : (⟨2, ![A, B]⟩ : Shape).Idx → Elt Ideal e) {r co : ℕ}
    (i₁ : ∀ a, (![r, co] : Fin 2 → ℕ) a + (![n, k] : Fin 2 → ℕ) a ≤ (![A, B] : Fin 2 → ℕ) a)
    {I : Fin n → Fin A} (hI : ∀ i, (I i).val = r + i.val) {J : Fin k → Fin B} (hJ : ∀ j, (J j).val = co + j.val)
    (i : Fin n) (j : Fin k) :
    View.readAt (Elt Ideal) M.view (Rect.unit (s := ⟨2, ![A, B]⟩) ![r, co] ![n, k] i₁).toLoadRect (hM.unread X) (ix2 i j)
      = X (ix2 (I i) (J j)) := by
  refine (hM.readAt_unread X _ _).trans (congrArg X ?_)
  funext a
  refine Fin.ext ?_
  match a with
  | 0 => show r + 1 * i.val = (I i).val; rw [hI]; omega
  | 1 => show co + 1 * j.val = (J j).val; rw [hJ]; omega

/-- A load of one slab of a rank-3 block. -/
theorem ld_one {A B C : ℕ} (M : Memref sig .tc .vmem ⟨3, ![A, B, C]⟩ e) (hM : M.IsWhole)
    (X : (⟨3, ![A, B, C]⟩ : Shape).Idx → Elt Ideal e) {b : ℕ}
    (i₁ : ∀ a, (![b, 0, 0] : Fin 3 → ℕ) a + (![1, B, C] : Fin 3 → ℕ) a ≤ (![A, B, C] : Fin 3 → ℕ) a)
    {b' : Fin A} (hb : b'.val = b) (z : Fin 1) (i : Fin B) (j : Fin C) :
    View.readAt (Elt Ideal) M.view (Rect.unit (s := ⟨3, ![A, B, C]⟩) ![b, 0, 0] ![1, B, C] i₁).toLoadRect (hM.unread X) (ix3 z i j)
      = X (ix3 b' i j) := by
  refine (hM.readAt_unread X _ _).trans (congrArg X ?_)
  funext a
  refine Fin.ext ?_
  match a with
  | 0 => show b + 1 * z.val = b'.val; omega
  | 1 => show 0 + 1 * i.val = i.val; omega
  | 2 => show 0 + 1 * j.val = j.val; omega

/-- Where a slab of a group of slabs sits. -/
theorem within_idx {A B C D b h : ℕ}
    (i₁ : ∀ a, (![b, 0, 0] : Fin 3 → ℕ) a + (![D, B, C] : Fin 3 → ℕ) a ≤ (![A, B, C] : Fin 3 → ℕ) a)
    (i₂ : ∀ a, (![h, 0, 0] : Fin 3 → ℕ) a + (![1, B, C] : Fin 3 → ℕ) a ≤ (![D, B, C] : Fin 3 → ℕ) a)
    {k : Fin A} (hk : k.val = b + h) (z : Fin 1) (i : Fin B) (j : Fin C) :
    (Rect.unit (s := ⟨3, ![A, B, C]⟩) ![b, 0, 0] ![D, B, C] i₁).emb
        ((Rect.unit (s := ⟨3, ![D, B, C]⟩) ![h, 0, 0] ![1, B, C] i₂).emb (ix3 z i j)) = ix3 k i j := by
  funext a
  refine Fin.ext ?_
  match a with
  | 0 => show b + 1 * (h + 1 * z.val) = k.val; omega
  | 1 => show 0 + 1 * (0 + 1 * i.val) = i.val; omega
  | 2 => show 0 + 1 * (0 + 1 * j.val) = j.val; omega

/-- Where a slab of a group of slabs sits, the group's rectangle and the slab's as one. -/
theorem within_emb {A B C D b h : ℕ}
    (i₁ : ∀ a, (![b, 0, 0] : Fin 3 → ℕ) a + (![D, B, C] : Fin 3 → ℕ) a ≤ (![A, B, C] : Fin 3 → ℕ) a)
    (i₂ : ∀ a, (![h, 0, 0] : Fin 3 → ℕ) a + (![1, B, C] : Fin 3 → ℕ) a ≤ (![D, B, C] : Fin 3 → ℕ) a)
    (p) {k : Fin A} (hk : k.val = b + h) (z : Fin 1) (i : Fin B) (j : Fin C) :
    ((Rect.unit (s := ⟨3, ![A, B, C]⟩) ![b, 0, 0] ![D, B, C] i₁).within
        (Rect.unit (s := ⟨3, ![D, B, C]⟩) ![h, 0, 0] ![1, B, C] i₂) p).emb (ix3 z i j) = ix3 k i j := by
  funext a
  refine Fin.ext ?_
  match a with
  | 0 => show b + h + 1 * z.val = k.val; omega
  | 1 => show 0 + 0 + 1 * i.val = i.val; omega
  | 2 => show 0 + 0 + 1 * j.val = j.val; omega

/-- A load of one slab of a group of slabs of a rank-3 block. -/
theorem ld_within {A B C D : ℕ} (M : Memref sig .tc .vmem ⟨3, ![A, B, C]⟩ e) (hM : M.IsWhole)
    (X : (⟨3, ![A, B, C]⟩ : Shape).Idx → Elt Ideal e) {b h : ℕ}
    (i₁ : ∀ a, (![b, 0, 0] : Fin 3 → ℕ) a + (![D, B, C] : Fin 3 → ℕ) a ≤ (![A, B, C] : Fin 3 → ℕ) a)
    (i₂ : ∀ a, (![h, 0, 0] : Fin 3 → ℕ) a + (![1, B, C] : Fin 3 → ℕ) a ≤ (![D, B, C] : Fin 3 → ℕ) a)
    (p) {k : Fin A} (hk : k.val = b + h) (z : Fin 1) (i : Fin B) (j : Fin C) :
    View.readAt (Elt Ideal) M.view ((Rect.unit (s := ⟨3, ![A, B, C]⟩) ![b, 0, 0] ![D, B, C] i₁).withinL
        (Rect.unit (s := ⟨3, ![D, B, C]⟩) ![h, 0, 0] ![1, B, C] i₂).toLoadRect p) (hM.unread X) (ix3 z i j)
      = X (ix3 k i j) := by
  refine (hM.readAt_unread X _ _).trans (congrArg X ?_)
  exact (Rect.idx_withinL _ _ p _).trans (within_idx i₁ i₂ hk z i j)
/-- A slab of a group of slabs holds the indices of that slab, and no others. -/
theorem within_mem {A B C D b h : ℕ}
    (i₁ : ∀ a, (![b, 0, 0] : Fin 3 → ℕ) a + (![D, B, C] : Fin 3 → ℕ) a ≤ (![A, B, C] : Fin 3 → ℕ) a)
    (i₂ : ∀ a, (![h, 0, 0] : Fin 3 → ℕ) a + (![1, B, C] : Fin 3 → ℕ) a ≤ (![D, B, C] : Fin 3 → ℕ) a)
    (p) {k : Fin A} (hk : k.val = b + h) (i : Fin B) (j : Fin C) :
    ix3 k i j ∈ ((Rect.unit (s := ⟨3, ![A, B, C]⟩) ![b, 0, 0] ![D, B, C] i₁).within
        (Rect.unit (s := ⟨3, ![D, B, C]⟩) ![h, 0, 0] ![1, B, C] i₂) p).set := by
  rw [← within_emb i₁ i₂ p hk 0 i j]
  exact LoadRect.idx_mem _ _

theorem within_not_mem {A B C D b h : ℕ}
    (i₁ : ∀ a, (![b, 0, 0] : Fin 3 → ℕ) a + (![D, B, C] : Fin 3 → ℕ) a ≤ (![A, B, C] : Fin 3 → ℕ) a)
    (i₂ : ∀ a, (![h, 0, 0] : Fin 3 → ℕ) a + (![1, B, C] : Fin 3 → ℕ) a ≤ (![D, B, C] : Fin 3 → ℕ) a)
    (p) {k : Fin A} (hk : k.val ≠ b + h) (i : Fin B) (j : Fin C) :
    ix3 k i j ∉ ((Rect.unit (s := ⟨3, ![A, B, C]⟩) ![b, 0, 0] ![D, B, C] i₁).within
        (Rect.unit (s := ⟨3, ![D, B, C]⟩) ![h, 0, 0] ![1, B, C] i₂) p).set := by
  intro hm
  obtain ⟨l, hl, he⟩ := (LoadRect.mem_set _).mp hm 0
  change l < 1 at hl
  change k.val = b + h + 1 * l at he
  omega

/-- Under the newest write a list of writes reads that write; off it, what the rest reads. -/
theorem canon_step {S : Shape} (G : S.Idx → Elt Ideal e) {p : View.Piece (Elt Ideal) S e} {L : List (View.Piece (Elt Ideal) S e)}
    {y : S.Idx} (hp : ∀ x, p.2 x = G (p.1.emb x)) (hL : y ∉ p.1.set → View.canon L y = G y) : View.canon (p :: L) y = G y := by
  by_cases hm : y ∈ p.1.set
  · obtain ⟨x, rfl⟩ := p.1.exists_idx_of_mem hm
    rw [show p.1.idx x = p.1.emb x from rfl, View.canon_cons_emb]
    exact hp x
  · rw [View.canon_cons_of_not_mem _ _ hm]
    exact hL hm

/-- The state of nothing. -/
def zeroSt : Vec Ideal S8x256x512 .f32 := fun _ => (0 : EReal)

/-- The zeros the first point stores into the whole state. -/
theorem canon_zero (y : S8x256x512.Idx) : View.canon (Val := Elt Ideal) (e := .f32)
    [⟨Rect.unit ![0, 0, 0] S8x256x512.size inb_S8x256x512_S8x256x512_0_0_0, Gen.k0_pay2 (F := Ideal)⟩] y = zeroSt y := by
  rw [View.canon_cons_unit_lit inb_S8x256x512_S8x256x512_0_0_0 _ _ (by decide)]
  obtain ⟨a, b, c, rfl⟩ : ∃ a b c, y = ix3 a b c := ⟨y 0, y 1, y 2, eq_ix3 y⟩
  show Gen.k0_pay2 (F := Ideal) (ix3 a b c) = (0 : EReal)
  pointwise [Gen.k0_pay2]

/-- A load of a slab of a group of slabs from a list of writes. -/
theorem readCov_within {A B C D b h : ℕ} {κ : Kind} {sp : Space} (v : View sig κ sp ⟨3, ![A, B, C]⟩ e) (L : List (View.Piece (Elt Ideal) ⟨3, ![A, B, C]⟩ e))
    (i₁ : ∀ a, (![b, 0, 0] : Fin 3 → ℕ) a + (![D, B, C] : Fin 3 → ℕ) a ≤ (![A, B, C] : Fin 3 → ℕ) a)
    (i₂ : ∀ a, (![h, 0, 0] : Fin 3 → ℕ) a + (![1, B, C] : Fin 3 → ℕ) a ≤ (![D, B, C] : Fin 3 → ℕ) a)
    (p) {k : Fin A} (hk : k.val = b + h) (z : Fin 1) (i : Fin B) (j : Fin C) :
    v.readCov L ((Rect.unit (s := ⟨3, ![A, B, C]⟩) ![b, 0, 0] ![D, B, C] i₁).withinL
        (Rect.unit (s := ⟨3, ![D, B, C]⟩) ![h, 0, 0] ![1, B, C] i₂).toLoadRect p) (ix3 z i j) = View.canon L (ix3 k i j) := by
  rw [View.readCov_eq_canon']
  exact congrArg (View.canon L) ((Rect.idx_withinL _ _ p _).trans (within_idx i₁ i₂ hk z i j))

/-! At the first point each head reads its slab of the state from the zeros, under the slabs the heads before it stored. -/

theorem ldz_00 {κ : Kind} {sp : Space} (v : View sig κ sp S8x256x512 .f32)
     (q) (i : Fin 256) (j : Fin 512) :
    v.readCov [⟨Rect.unit ![0, 0, 0] S8x256x512.size inb_S8x256x512_S8x256x512_0_0_0, Gen.k0_pay2 (F := Ideal)⟩]
      ((Rect.unit (s := S8x256x512) ![0, 0, 0] ![4, 256, 512] inb_S8x256x512_S4x256x512_0_0_0).withinL
        (Rect.unit (s := S4x256x512) ![0, 0, 0] ![1, 256, 512] inb_S4x256x512_S1x256x512_0_0_0).toLoadRect q) (ix3 0 i j)
      = zeroSt (ix3 0 i j) := by
  refine (readCov_within (A := 8) (B := 256) (C := 512) (D := 4) (b := 0) (h := 0) v _ _ _ q (k := 0) rfl 0 i j).trans ?_
  exact canon_zero _

theorem ldz_01 {κ : Kind} {sp : Space} (v : View sig κ sp S8x256x512 .f32) (p0)
    (w0 : ((Rect.unit (s := S8x256x512) ![0, 0, 0] ![4, 256, 512] inb_S8x256x512_S4x256x512_0_0_0).within (Rect.unit (s := S4x256x512) ![0, 0, 0] ![1, 256, 512] inb_S4x256x512_S1x256x512_0_0_0) p0).shape.Idx → Elt Ideal .f32) (q) (i : Fin 256) (j : Fin 512) :
    v.readCov [⟨((Rect.unit (s := S8x256x512) ![0, 0, 0] ![4, 256, 512] inb_S8x256x512_S4x256x512_0_0_0).within (Rect.unit (s := S4x256x512) ![0, 0, 0] ![1, 256, 512] inb_S4x256x512_S1x256x512_0_0_0) p0), w0⟩,
      ⟨Rect.unit ![0, 0, 0] S8x256x512.size inb_S8x256x512_S8x256x512_0_0_0, Gen.k0_pay2 (F := Ideal)⟩]
      ((Rect.unit (s := S8x256x512) ![0, 0, 0] ![4, 256, 512] inb_S8x256x512_S4x256x512_0_0_0).withinL
        (Rect.unit (s := S4x256x512) ![1, 0, 0] ![1, 256, 512] inb_S4x256x512_S1x256x512_1_0_0).toLoadRect q) (ix3 0 i j)
      = zeroSt (ix3 1 i j) := by
  refine (readCov_within (A := 8) (B := 256) (C := 512) (D := 4) (b := 0) (h := 1) v _ _ _ q (k := 1) rfl 0 i j).trans ?_
  refine Eq.trans (View.canon_cons_of_not_mem _ _ ?_) ?_
  · exact within_not_mem (A := 8) (B := 256) (C := 512) (D := 4) (b := 0) (h := 0) inb_S8x256x512_S4x256x512_0_0_0 inb_S4x256x512_S1x256x512_0_0_0 p0 (k := 1) (by decide) i j
  exact canon_zero _

theorem ldz_02 {κ : Kind} {sp : Space} (v : View sig κ sp S8x256x512 .f32) (p0) (p1)
    (w0 : ((Rect.unit (s := S8x256x512) ![0, 0, 0] ![4, 256, 512] inb_S8x256x512_S4x256x512_0_0_0).within (Rect.unit (s := S4x256x512) ![0, 0, 0] ![1, 256, 512] inb_S4x256x512_S1x256x512_0_0_0) p0).shape.Idx → Elt Ideal .f32)
    (w1 : ((Rect.unit (s := S8x256x512) ![0, 0, 0] ![4, 256, 512] inb_S8x256x512_S4x256x512_0_0_0).within (Rect.unit (s := S4x256x512) ![1, 0, 0] ![1, 256, 512] inb_S4x256x512_S1x256x512_1_0_0) p1).shape.Idx → Elt Ideal .f32) (q) (i : Fin 256) (j : Fin 512) :
    v.readCov [⟨((Rect.unit (s := S8x256x512) ![0, 0, 0] ![4, 256, 512] inb_S8x256x512_S4x256x512_0_0_0).within (Rect.unit (s := S4x256x512) ![1, 0, 0] ![1, 256, 512] inb_S4x256x512_S1x256x512_1_0_0) p1), w1⟩,
      ⟨((Rect.unit (s := S8x256x512) ![0, 0, 0] ![4, 256, 512] inb_S8x256x512_S4x256x512_0_0_0).within (Rect.unit (s := S4x256x512) ![0, 0, 0] ![1, 256, 512] inb_S4x256x512_S1x256x512_0_0_0) p0), w0⟩,
      ⟨Rect.unit ![0, 0, 0] S8x256x512.size inb_S8x256x512_S8x256x512_0_0_0, Gen.k0_pay2 (F := Ideal)⟩]
      ((Rect.unit (s := S8x256x512) ![0, 0, 0] ![4, 256, 512] inb_S8x256x512_S4x256x512_0_0_0).withinL
        (Rect.unit (s := S4x256x512) ![2, 0, 0] ![1, 256, 512] inb_S4x256x512_S1x256x512_2_0_0).toLoadRect q) (ix3 0 i j)
      = zeroSt (ix3 2 i j) := by
  refine (readCov_within (A := 8) (B := 256) (C := 512) (D := 4) (b := 0) (h := 2) v _ _ _ q (k := 2) rfl 0 i j).trans ?_
  refine Eq.trans (View.canon_cons_of_not_mem _ _ ?_) ?_
  · exact within_not_mem (A := 8) (B := 256) (C := 512) (D := 4) (b := 0) (h := 1) inb_S8x256x512_S4x256x512_0_0_0 inb_S4x256x512_S1x256x512_1_0_0 p1 (k := 2) (by decide) i j
  refine Eq.trans (View.canon_cons_of_not_mem _ _ ?_) ?_
  · exact within_not_mem (A := 8) (B := 256) (C := 512) (D := 4) (b := 0) (h := 0) inb_S8x256x512_S4x256x512_0_0_0 inb_S4x256x512_S1x256x512_0_0_0 p0 (k := 2) (by decide) i j
  exact canon_zero _

theorem ldz_03 {κ : Kind} {sp : Space} (v : View sig κ sp S8x256x512 .f32) (p0) (p1) (p2)
    (w0 : ((Rect.unit (s := S8x256x512) ![0, 0, 0] ![4, 256, 512] inb_S8x256x512_S4x256x512_0_0_0).within (Rect.unit (s := S4x256x512) ![0, 0, 0] ![1, 256, 512] inb_S4x256x512_S1x256x512_0_0_0) p0).shape.Idx → Elt Ideal .f32)
    (w1 : ((Rect.unit (s := S8x256x512) ![0, 0, 0] ![4, 256, 512] inb_S8x256x512_S4x256x512_0_0_0).within (Rect.unit (s := S4x256x512) ![1, 0, 0] ![1, 256, 512] inb_S4x256x512_S1x256x512_1_0_0) p1).shape.Idx → Elt Ideal .f32)
    (w2 : ((Rect.unit (s := S8x256x512) ![0, 0, 0] ![4, 256, 512] inb_S8x256x512_S4x256x512_0_0_0).within (Rect.unit (s := S4x256x512) ![2, 0, 0] ![1, 256, 512] inb_S4x256x512_S1x256x512_2_0_0) p2).shape.Idx → Elt Ideal .f32) (q) (i : Fin 256) (j : Fin 512) :
    v.readCov [⟨((Rect.unit (s := S8x256x512) ![0, 0, 0] ![4, 256, 512] inb_S8x256x512_S4x256x512_0_0_0).within (Rect.unit (s := S4x256x512) ![2, 0, 0] ![1, 256, 512] inb_S4x256x512_S1x256x512_2_0_0) p2), w2⟩,
      ⟨((Rect.unit (s := S8x256x512) ![0, 0, 0] ![4, 256, 512] inb_S8x256x512_S4x256x512_0_0_0).within (Rect.unit (s := S4x256x512) ![1, 0, 0] ![1, 256, 512] inb_S4x256x512_S1x256x512_1_0_0) p1), w1⟩,
      ⟨((Rect.unit (s := S8x256x512) ![0, 0, 0] ![4, 256, 512] inb_S8x256x512_S4x256x512_0_0_0).within (Rect.unit (s := S4x256x512) ![0, 0, 0] ![1, 256, 512] inb_S4x256x512_S1x256x512_0_0_0) p0), w0⟩,
      ⟨Rect.unit ![0, 0, 0] S8x256x512.size inb_S8x256x512_S8x256x512_0_0_0, Gen.k0_pay2 (F := Ideal)⟩]
      ((Rect.unit (s := S8x256x512) ![0, 0, 0] ![4, 256, 512] inb_S8x256x512_S4x256x512_0_0_0).withinL
        (Rect.unit (s := S4x256x512) ![3, 0, 0] ![1, 256, 512] inb_S4x256x512_S1x256x512_3_0_0).toLoadRect q) (ix3 0 i j)
      = zeroSt (ix3 3 i j) := by
  refine (readCov_within (A := 8) (B := 256) (C := 512) (D := 4) (b := 0) (h := 3) v _ _ _ q (k := 3) rfl 0 i j).trans ?_
  refine Eq.trans (View.canon_cons_of_not_mem _ _ ?_) ?_
  · exact within_not_mem (A := 8) (B := 256) (C := 512) (D := 4) (b := 0) (h := 2) inb_S8x256x512_S4x256x512_0_0_0 inb_S4x256x512_S1x256x512_2_0_0 p2 (k := 3) (by decide) i j
  refine Eq.trans (View.canon_cons_of_not_mem _ _ ?_) ?_
  · exact within_not_mem (A := 8) (B := 256) (C := 512) (D := 4) (b := 0) (h := 1) inb_S8x256x512_S4x256x512_0_0_0 inb_S4x256x512_S1x256x512_1_0_0 p1 (k := 3) (by decide) i j
  refine Eq.trans (View.canon_cons_of_not_mem _ _ ?_) ?_
  · exact within_not_mem (A := 8) (B := 256) (C := 512) (D := 4) (b := 0) (h := 0) inb_S8x256x512_S4x256x512_0_0_0 inb_S4x256x512_S1x256x512_0_0_0 p0 (k := 3) (by decide) i j
  exact canon_zero _

theorem ldz_10 {κ : Kind} {sp : Space} (v : View sig κ sp S8x256x512 .f32) (p0) (p1) (p2) (p3)
    (w0 : ((Rect.unit (s := S8x256x512) ![0, 0, 0] ![4, 256, 512] inb_S8x256x512_S4x256x512_0_0_0).within (Rect.unit (s := S4x256x512) ![0, 0, 0] ![1, 256, 512] inb_S4x256x512_S1x256x512_0_0_0) p0).shape.Idx → Elt Ideal .f32)
    (w1 : ((Rect.unit (s := S8x256x512) ![0, 0, 0] ![4, 256, 512] inb_S8x256x512_S4x256x512_0_0_0).within (Rect.unit (s := S4x256x512) ![1, 0, 0] ![1, 256, 512] inb_S4x256x512_S1x256x512_1_0_0) p1).shape.Idx → Elt Ideal .f32)
    (w2 : ((Rect.unit (s := S8x256x512) ![0, 0, 0] ![4, 256, 512] inb_S8x256x512_S4x256x512_0_0_0).within (Rect.unit (s := S4x256x512) ![2, 0, 0] ![1, 256, 512] inb_S4x256x512_S1x256x512_2_0_0) p2).shape.Idx → Elt Ideal .f32)
    (w3 : ((Rect.unit (s := S8x256x512) ![0, 0, 0] ![4, 256, 512] inb_S8x256x512_S4x256x512_0_0_0).within (Rect.unit (s := S4x256x512) ![3, 0, 0] ![1, 256, 512] inb_S4x256x512_S1x256x512_3_0_0) p3).shape.Idx → Elt Ideal .f32) (q) (i : Fin 256) (j : Fin 512) :
    v.readCov [⟨((Rect.unit (s := S8x256x512) ![0, 0, 0] ![4, 256, 512] inb_S8x256x512_S4x256x512_0_0_0).within (Rect.unit (s := S4x256x512) ![3, 0, 0] ![1, 256, 512] inb_S4x256x512_S1x256x512_3_0_0) p3), w3⟩,
      ⟨((Rect.unit (s := S8x256x512) ![0, 0, 0] ![4, 256, 512] inb_S8x256x512_S4x256x512_0_0_0).within (Rect.unit (s := S4x256x512) ![2, 0, 0] ![1, 256, 512] inb_S4x256x512_S1x256x512_2_0_0) p2), w2⟩,
      ⟨((Rect.unit (s := S8x256x512) ![0, 0, 0] ![4, 256, 512] inb_S8x256x512_S4x256x512_0_0_0).within (Rect.unit (s := S4x256x512) ![1, 0, 0] ![1, 256, 512] inb_S4x256x512_S1x256x512_1_0_0) p1), w1⟩,
      ⟨((Rect.unit (s := S8x256x512) ![0, 0, 0] ![4, 256, 512] inb_S8x256x512_S4x256x512_0_0_0).within (Rect.unit (s := S4x256x512) ![0, 0, 0] ![1, 256, 512] inb_S4x256x512_S1x256x512_0_0_0) p0), w0⟩,
      ⟨Rect.unit ![0, 0, 0] S8x256x512.size inb_S8x256x512_S8x256x512_0_0_0, Gen.k0_pay2 (F := Ideal)⟩]
      ((Rect.unit (s := S8x256x512) ![4, 0, 0] ![4, 256, 512] inb_S8x256x512_S4x256x512_4_0_0).withinL
        (Rect.unit (s := S4x256x512) ![0, 0, 0] ![1, 256, 512] inb_S4x256x512_S1x256x512_0_0_0).toLoadRect q) (ix3 0 i j)
      = zeroSt (ix3 4 i j) := by
  refine (readCov_within (A := 8) (B := 256) (C := 512) (D := 4) (b := 4) (h := 0) v _ _ _ q (k := 4) rfl 0 i j).trans ?_
  refine Eq.trans (View.canon_cons_of_not_mem _ _ ?_) ?_
  · exact within_not_mem (A := 8) (B := 256) (C := 512) (D := 4) (b := 0) (h := 3) inb_S8x256x512_S4x256x512_0_0_0 inb_S4x256x512_S1x256x512_3_0_0 p3 (k := 4) (by decide) i j
  refine Eq.trans (View.canon_cons_of_not_mem _ _ ?_) ?_
  · exact within_not_mem (A := 8) (B := 256) (C := 512) (D := 4) (b := 0) (h := 2) inb_S8x256x512_S4x256x512_0_0_0 inb_S4x256x512_S1x256x512_2_0_0 p2 (k := 4) (by decide) i j
  refine Eq.trans (View.canon_cons_of_not_mem _ _ ?_) ?_
  · exact within_not_mem (A := 8) (B := 256) (C := 512) (D := 4) (b := 0) (h := 1) inb_S8x256x512_S4x256x512_0_0_0 inb_S4x256x512_S1x256x512_1_0_0 p1 (k := 4) (by decide) i j
  refine Eq.trans (View.canon_cons_of_not_mem _ _ ?_) ?_
  · exact within_not_mem (A := 8) (B := 256) (C := 512) (D := 4) (b := 0) (h := 0) inb_S8x256x512_S4x256x512_0_0_0 inb_S4x256x512_S1x256x512_0_0_0 p0 (k := 4) (by decide) i j
  exact canon_zero _

theorem ldz_11 {κ : Kind} {sp : Space} (v : View sig κ sp S8x256x512 .f32) (p0) (p1) (p2) (p3) (p4)
    (w0 : ((Rect.unit (s := S8x256x512) ![0, 0, 0] ![4, 256, 512] inb_S8x256x512_S4x256x512_0_0_0).within (Rect.unit (s := S4x256x512) ![0, 0, 0] ![1, 256, 512] inb_S4x256x512_S1x256x512_0_0_0) p0).shape.Idx → Elt Ideal .f32)
    (w1 : ((Rect.unit (s := S8x256x512) ![0, 0, 0] ![4, 256, 512] inb_S8x256x512_S4x256x512_0_0_0).within (Rect.unit (s := S4x256x512) ![1, 0, 0] ![1, 256, 512] inb_S4x256x512_S1x256x512_1_0_0) p1).shape.Idx → Elt Ideal .f32)
    (w2 : ((Rect.unit (s := S8x256x512) ![0, 0, 0] ![4, 256, 512] inb_S8x256x512_S4x256x512_0_0_0).within (Rect.unit (s := S4x256x512) ![2, 0, 0] ![1, 256, 512] inb_S4x256x512_S1x256x512_2_0_0) p2).shape.Idx → Elt Ideal .f32)
    (w3 : ((Rect.unit (s := S8x256x512) ![0, 0, 0] ![4, 256, 512] inb_S8x256x512_S4x256x512_0_0_0).within (Rect.unit (s := S4x256x512) ![3, 0, 0] ![1, 256, 512] inb_S4x256x512_S1x256x512_3_0_0) p3).shape.Idx → Elt Ideal .f32)
    (w4 : ((Rect.unit (s := S8x256x512) ![4, 0, 0] ![4, 256, 512] inb_S8x256x512_S4x256x512_4_0_0).within (Rect.unit (s := S4x256x512) ![0, 0, 0] ![1, 256, 512] inb_S4x256x512_S1x256x512_0_0_0) p4).shape.Idx → Elt Ideal .f32) (q) (i : Fin 256) (j : Fin 512) :
    v.readCov [⟨((Rect.unit (s := S8x256x512) ![4, 0, 0] ![4, 256, 512] inb_S8x256x512_S4x256x512_4_0_0).within (Rect.unit (s := S4x256x512) ![0, 0, 0] ![1, 256, 512] inb_S4x256x512_S1x256x512_0_0_0) p4), w4⟩,
      ⟨((Rect.unit (s := S8x256x512) ![0, 0, 0] ![4, 256, 512] inb_S8x256x512_S4x256x512_0_0_0).within (Rect.unit (s := S4x256x512) ![3, 0, 0] ![1, 256, 512] inb_S4x256x512_S1x256x512_3_0_0) p3), w3⟩,
      ⟨((Rect.unit (s := S8x256x512) ![0, 0, 0] ![4, 256, 512] inb_S8x256x512_S4x256x512_0_0_0).within (Rect.unit (s := S4x256x512) ![2, 0, 0] ![1, 256, 512] inb_S4x256x512_S1x256x512_2_0_0) p2), w2⟩,
      ⟨((Rect.unit (s := S8x256x512) ![0, 0, 0] ![4, 256, 512] inb_S8x256x512_S4x256x512_0_0_0).within (Rect.unit (s := S4x256x512) ![1, 0, 0] ![1, 256, 512] inb_S4x256x512_S1x256x512_1_0_0) p1), w1⟩,
      ⟨((Rect.unit (s := S8x256x512) ![0, 0, 0] ![4, 256, 512] inb_S8x256x512_S4x256x512_0_0_0).within (Rect.unit (s := S4x256x512) ![0, 0, 0] ![1, 256, 512] inb_S4x256x512_S1x256x512_0_0_0) p0), w0⟩,
      ⟨Rect.unit ![0, 0, 0] S8x256x512.size inb_S8x256x512_S8x256x512_0_0_0, Gen.k0_pay2 (F := Ideal)⟩]
      ((Rect.unit (s := S8x256x512) ![4, 0, 0] ![4, 256, 512] inb_S8x256x512_S4x256x512_4_0_0).withinL
        (Rect.unit (s := S4x256x512) ![1, 0, 0] ![1, 256, 512] inb_S4x256x512_S1x256x512_1_0_0).toLoadRect q) (ix3 0 i j)
      = zeroSt (ix3 5 i j) := by
  refine (readCov_within (A := 8) (B := 256) (C := 512) (D := 4) (b := 4) (h := 1) v _ _ _ q (k := 5) rfl 0 i j).trans ?_
  refine Eq.trans (View.canon_cons_of_not_mem _ _ ?_) ?_
  · exact within_not_mem (A := 8) (B := 256) (C := 512) (D := 4) (b := 4) (h := 0) inb_S8x256x512_S4x256x512_4_0_0 inb_S4x256x512_S1x256x512_0_0_0 p4 (k := 5) (by decide) i j
  refine Eq.trans (View.canon_cons_of_not_mem _ _ ?_) ?_
  · exact within_not_mem (A := 8) (B := 256) (C := 512) (D := 4) (b := 0) (h := 3) inb_S8x256x512_S4x256x512_0_0_0 inb_S4x256x512_S1x256x512_3_0_0 p3 (k := 5) (by decide) i j
  refine Eq.trans (View.canon_cons_of_not_mem _ _ ?_) ?_
  · exact within_not_mem (A := 8) (B := 256) (C := 512) (D := 4) (b := 0) (h := 2) inb_S8x256x512_S4x256x512_0_0_0 inb_S4x256x512_S1x256x512_2_0_0 p2 (k := 5) (by decide) i j
  refine Eq.trans (View.canon_cons_of_not_mem _ _ ?_) ?_
  · exact within_not_mem (A := 8) (B := 256) (C := 512) (D := 4) (b := 0) (h := 1) inb_S8x256x512_S4x256x512_0_0_0 inb_S4x256x512_S1x256x512_1_0_0 p1 (k := 5) (by decide) i j
  refine Eq.trans (View.canon_cons_of_not_mem _ _ ?_) ?_
  · exact within_not_mem (A := 8) (B := 256) (C := 512) (D := 4) (b := 0) (h := 0) inb_S8x256x512_S4x256x512_0_0_0 inb_S4x256x512_S1x256x512_0_0_0 p0 (k := 5) (by decide) i j
  exact canon_zero _

theorem ldz_12 {κ : Kind} {sp : Space} (v : View sig κ sp S8x256x512 .f32) (p0) (p1) (p2) (p3) (p4) (p5)
    (w0 : ((Rect.unit (s := S8x256x512) ![0, 0, 0] ![4, 256, 512] inb_S8x256x512_S4x256x512_0_0_0).within (Rect.unit (s := S4x256x512) ![0, 0, 0] ![1, 256, 512] inb_S4x256x512_S1x256x512_0_0_0) p0).shape.Idx → Elt Ideal .f32)
    (w1 : ((Rect.unit (s := S8x256x512) ![0, 0, 0] ![4, 256, 512] inb_S8x256x512_S4x256x512_0_0_0).within (Rect.unit (s := S4x256x512) ![1, 0, 0] ![1, 256, 512] inb_S4x256x512_S1x256x512_1_0_0) p1).shape.Idx → Elt Ideal .f32)
    (w2 : ((Rect.unit (s := S8x256x512) ![0, 0, 0] ![4, 256, 512] inb_S8x256x512_S4x256x512_0_0_0).within (Rect.unit (s := S4x256x512) ![2, 0, 0] ![1, 256, 512] inb_S4x256x512_S1x256x512_2_0_0) p2).shape.Idx → Elt Ideal .f32)
    (w3 : ((Rect.unit (s := S8x256x512) ![0, 0, 0] ![4, 256, 512] inb_S8x256x512_S4x256x512_0_0_0).within (Rect.unit (s := S4x256x512) ![3, 0, 0] ![1, 256, 512] inb_S4x256x512_S1x256x512_3_0_0) p3).shape.Idx → Elt Ideal .f32)
    (w4 : ((Rect.unit (s := S8x256x512) ![4, 0, 0] ![4, 256, 512] inb_S8x256x512_S4x256x512_4_0_0).within (Rect.unit (s := S4x256x512) ![0, 0, 0] ![1, 256, 512] inb_S4x256x512_S1x256x512_0_0_0) p4).shape.Idx → Elt Ideal .f32)
    (w5 : ((Rect.unit (s := S8x256x512) ![4, 0, 0] ![4, 256, 512] inb_S8x256x512_S4x256x512_4_0_0).within (Rect.unit (s := S4x256x512) ![1, 0, 0] ![1, 256, 512] inb_S4x256x512_S1x256x512_1_0_0) p5).shape.Idx → Elt Ideal .f32) (q) (i : Fin 256) (j : Fin 512) :
    v.readCov [⟨((Rect.unit (s := S8x256x512) ![4, 0, 0] ![4, 256, 512] inb_S8x256x512_S4x256x512_4_0_0).within (Rect.unit (s := S4x256x512) ![1, 0, 0] ![1, 256, 512] inb_S4x256x512_S1x256x512_1_0_0) p5), w5⟩,
      ⟨((Rect.unit (s := S8x256x512) ![4, 0, 0] ![4, 256, 512] inb_S8x256x512_S4x256x512_4_0_0).within (Rect.unit (s := S4x256x512) ![0, 0, 0] ![1, 256, 512] inb_S4x256x512_S1x256x512_0_0_0) p4), w4⟩,
      ⟨((Rect.unit (s := S8x256x512) ![0, 0, 0] ![4, 256, 512] inb_S8x256x512_S4x256x512_0_0_0).within (Rect.unit (s := S4x256x512) ![3, 0, 0] ![1, 256, 512] inb_S4x256x512_S1x256x512_3_0_0) p3), w3⟩,
      ⟨((Rect.unit (s := S8x256x512) ![0, 0, 0] ![4, 256, 512] inb_S8x256x512_S4x256x512_0_0_0).within (Rect.unit (s := S4x256x512) ![2, 0, 0] ![1, 256, 512] inb_S4x256x512_S1x256x512_2_0_0) p2), w2⟩,
      ⟨((Rect.unit (s := S8x256x512) ![0, 0, 0] ![4, 256, 512] inb_S8x256x512_S4x256x512_0_0_0).within (Rect.unit (s := S4x256x512) ![1, 0, 0] ![1, 256, 512] inb_S4x256x512_S1x256x512_1_0_0) p1), w1⟩,
      ⟨((Rect.unit (s := S8x256x512) ![0, 0, 0] ![4, 256, 512] inb_S8x256x512_S4x256x512_0_0_0).within (Rect.unit (s := S4x256x512) ![0, 0, 0] ![1, 256, 512] inb_S4x256x512_S1x256x512_0_0_0) p0), w0⟩,
      ⟨Rect.unit ![0, 0, 0] S8x256x512.size inb_S8x256x512_S8x256x512_0_0_0, Gen.k0_pay2 (F := Ideal)⟩]
      ((Rect.unit (s := S8x256x512) ![4, 0, 0] ![4, 256, 512] inb_S8x256x512_S4x256x512_4_0_0).withinL
        (Rect.unit (s := S4x256x512) ![2, 0, 0] ![1, 256, 512] inb_S4x256x512_S1x256x512_2_0_0).toLoadRect q) (ix3 0 i j)
      = zeroSt (ix3 6 i j) := by
  refine (readCov_within (A := 8) (B := 256) (C := 512) (D := 4) (b := 4) (h := 2) v _ _ _ q (k := 6) rfl 0 i j).trans ?_
  refine Eq.trans (View.canon_cons_of_not_mem _ _ ?_) ?_
  · exact within_not_mem (A := 8) (B := 256) (C := 512) (D := 4) (b := 4) (h := 1) inb_S8x256x512_S4x256x512_4_0_0 inb_S4x256x512_S1x256x512_1_0_0 p5 (k := 6) (by decide) i j
  refine Eq.trans (View.canon_cons_of_not_mem _ _ ?_) ?_
  · exact within_not_mem (A := 8) (B := 256) (C := 512) (D := 4) (b := 4) (h := 0) inb_S8x256x512_S4x256x512_4_0_0 inb_S4x256x512_S1x256x512_0_0_0 p4 (k := 6) (by decide) i j
  refine Eq.trans (View.canon_cons_of_not_mem _ _ ?_) ?_
  · exact within_not_mem (A := 8) (B := 256) (C := 512) (D := 4) (b := 0) (h := 3) inb_S8x256x512_S4x256x512_0_0_0 inb_S4x256x512_S1x256x512_3_0_0 p3 (k := 6) (by decide) i j
  refine Eq.trans (View.canon_cons_of_not_mem _ _ ?_) ?_
  · exact within_not_mem (A := 8) (B := 256) (C := 512) (D := 4) (b := 0) (h := 2) inb_S8x256x512_S4x256x512_0_0_0 inb_S4x256x512_S1x256x512_2_0_0 p2 (k := 6) (by decide) i j
  refine Eq.trans (View.canon_cons_of_not_mem _ _ ?_) ?_
  · exact within_not_mem (A := 8) (B := 256) (C := 512) (D := 4) (b := 0) (h := 1) inb_S8x256x512_S4x256x512_0_0_0 inb_S4x256x512_S1x256x512_1_0_0 p1 (k := 6) (by decide) i j
  refine Eq.trans (View.canon_cons_of_not_mem _ _ ?_) ?_
  · exact within_not_mem (A := 8) (B := 256) (C := 512) (D := 4) (b := 0) (h := 0) inb_S8x256x512_S4x256x512_0_0_0 inb_S4x256x512_S1x256x512_0_0_0 p0 (k := 6) (by decide) i j
  exact canon_zero _

theorem ldz_13 {κ : Kind} {sp : Space} (v : View sig κ sp S8x256x512 .f32) (p0) (p1) (p2) (p3) (p4) (p5) (p6)
    (w0 : ((Rect.unit (s := S8x256x512) ![0, 0, 0] ![4, 256, 512] inb_S8x256x512_S4x256x512_0_0_0).within (Rect.unit (s := S4x256x512) ![0, 0, 0] ![1, 256, 512] inb_S4x256x512_S1x256x512_0_0_0) p0).shape.Idx → Elt Ideal .f32)
    (w1 : ((Rect.unit (s := S8x256x512) ![0, 0, 0] ![4, 256, 512] inb_S8x256x512_S4x256x512_0_0_0).within (Rect.unit (s := S4x256x512) ![1, 0, 0] ![1, 256, 512] inb_S4x256x512_S1x256x512_1_0_0) p1).shape.Idx → Elt Ideal .f32)
    (w2 : ((Rect.unit (s := S8x256x512) ![0, 0, 0] ![4, 256, 512] inb_S8x256x512_S4x256x512_0_0_0).within (Rect.unit (s := S4x256x512) ![2, 0, 0] ![1, 256, 512] inb_S4x256x512_S1x256x512_2_0_0) p2).shape.Idx → Elt Ideal .f32)
    (w3 : ((Rect.unit (s := S8x256x512) ![0, 0, 0] ![4, 256, 512] inb_S8x256x512_S4x256x512_0_0_0).within (Rect.unit (s := S4x256x512) ![3, 0, 0] ![1, 256, 512] inb_S4x256x512_S1x256x512_3_0_0) p3).shape.Idx → Elt Ideal .f32)
    (w4 : ((Rect.unit (s := S8x256x512) ![4, 0, 0] ![4, 256, 512] inb_S8x256x512_S4x256x512_4_0_0).within (Rect.unit (s := S4x256x512) ![0, 0, 0] ![1, 256, 512] inb_S4x256x512_S1x256x512_0_0_0) p4).shape.Idx → Elt Ideal .f32)
    (w5 : ((Rect.unit (s := S8x256x512) ![4, 0, 0] ![4, 256, 512] inb_S8x256x512_S4x256x512_4_0_0).within (Rect.unit (s := S4x256x512) ![1, 0, 0] ![1, 256, 512] inb_S4x256x512_S1x256x512_1_0_0) p5).shape.Idx → Elt Ideal .f32)
    (w6 : ((Rect.unit (s := S8x256x512) ![4, 0, 0] ![4, 256, 512] inb_S8x256x512_S4x256x512_4_0_0).within (Rect.unit (s := S4x256x512) ![2, 0, 0] ![1, 256, 512] inb_S4x256x512_S1x256x512_2_0_0) p6).shape.Idx → Elt Ideal .f32) (q) (i : Fin 256) (j : Fin 512) :
    v.readCov [⟨((Rect.unit (s := S8x256x512) ![4, 0, 0] ![4, 256, 512] inb_S8x256x512_S4x256x512_4_0_0).within (Rect.unit (s := S4x256x512) ![2, 0, 0] ![1, 256, 512] inb_S4x256x512_S1x256x512_2_0_0) p6), w6⟩,
      ⟨((Rect.unit (s := S8x256x512) ![4, 0, 0] ![4, 256, 512] inb_S8x256x512_S4x256x512_4_0_0).within (Rect.unit (s := S4x256x512) ![1, 0, 0] ![1, 256, 512] inb_S4x256x512_S1x256x512_1_0_0) p5), w5⟩,
      ⟨((Rect.unit (s := S8x256x512) ![4, 0, 0] ![4, 256, 512] inb_S8x256x512_S4x256x512_4_0_0).within (Rect.unit (s := S4x256x512) ![0, 0, 0] ![1, 256, 512] inb_S4x256x512_S1x256x512_0_0_0) p4), w4⟩,
      ⟨((Rect.unit (s := S8x256x512) ![0, 0, 0] ![4, 256, 512] inb_S8x256x512_S4x256x512_0_0_0).within (Rect.unit (s := S4x256x512) ![3, 0, 0] ![1, 256, 512] inb_S4x256x512_S1x256x512_3_0_0) p3), w3⟩,
      ⟨((Rect.unit (s := S8x256x512) ![0, 0, 0] ![4, 256, 512] inb_S8x256x512_S4x256x512_0_0_0).within (Rect.unit (s := S4x256x512) ![2, 0, 0] ![1, 256, 512] inb_S4x256x512_S1x256x512_2_0_0) p2), w2⟩,
      ⟨((Rect.unit (s := S8x256x512) ![0, 0, 0] ![4, 256, 512] inb_S8x256x512_S4x256x512_0_0_0).within (Rect.unit (s := S4x256x512) ![1, 0, 0] ![1, 256, 512] inb_S4x256x512_S1x256x512_1_0_0) p1), w1⟩,
      ⟨((Rect.unit (s := S8x256x512) ![0, 0, 0] ![4, 256, 512] inb_S8x256x512_S4x256x512_0_0_0).within (Rect.unit (s := S4x256x512) ![0, 0, 0] ![1, 256, 512] inb_S4x256x512_S1x256x512_0_0_0) p0), w0⟩,
      ⟨Rect.unit ![0, 0, 0] S8x256x512.size inb_S8x256x512_S8x256x512_0_0_0, Gen.k0_pay2 (F := Ideal)⟩]
      ((Rect.unit (s := S8x256x512) ![4, 0, 0] ![4, 256, 512] inb_S8x256x512_S4x256x512_4_0_0).withinL
        (Rect.unit (s := S4x256x512) ![3, 0, 0] ![1, 256, 512] inb_S4x256x512_S1x256x512_3_0_0).toLoadRect q) (ix3 0 i j)
      = zeroSt (ix3 7 i j) := by
  refine (readCov_within (A := 8) (B := 256) (C := 512) (D := 4) (b := 4) (h := 3) v _ _ _ q (k := 7) rfl 0 i j).trans ?_
  refine Eq.trans (View.canon_cons_of_not_mem _ _ ?_) ?_
  · exact within_not_mem (A := 8) (B := 256) (C := 512) (D := 4) (b := 4) (h := 2) inb_S8x256x512_S4x256x512_4_0_0 inb_S4x256x512_S1x256x512_2_0_0 p6 (k := 7) (by decide) i j
  refine Eq.trans (View.canon_cons_of_not_mem _ _ ?_) ?_
  · exact within_not_mem (A := 8) (B := 256) (C := 512) (D := 4) (b := 4) (h := 1) inb_S8x256x512_S4x256x512_4_0_0 inb_S4x256x512_S1x256x512_1_0_0 p5 (k := 7) (by decide) i j
  refine Eq.trans (View.canon_cons_of_not_mem _ _ ?_) ?_
  · exact within_not_mem (A := 8) (B := 256) (C := 512) (D := 4) (b := 4) (h := 0) inb_S8x256x512_S4x256x512_4_0_0 inb_S4x256x512_S1x256x512_0_0_0 p4 (k := 7) (by decide) i j
  refine Eq.trans (View.canon_cons_of_not_mem _ _ ?_) ?_
  · exact within_not_mem (A := 8) (B := 256) (C := 512) (D := 4) (b := 0) (h := 3) inb_S8x256x512_S4x256x512_0_0_0 inb_S4x256x512_S1x256x512_3_0_0 p3 (k := 7) (by decide) i j
  refine Eq.trans (View.canon_cons_of_not_mem _ _ ?_) ?_
  · exact within_not_mem (A := 8) (B := 256) (C := 512) (D := 4) (b := 0) (h := 2) inb_S8x256x512_S4x256x512_0_0_0 inb_S4x256x512_S1x256x512_2_0_0 p2 (k := 7) (by decide) i j
  refine Eq.trans (View.canon_cons_of_not_mem _ _ ?_) ?_
  · exact within_not_mem (A := 8) (B := 256) (C := 512) (D := 4) (b := 0) (h := 1) inb_S8x256x512_S4x256x512_0_0_0 inb_S4x256x512_S1x256x512_1_0_0 p1 (k := 7) (by decide) i j
  refine Eq.trans (View.canon_cons_of_not_mem _ _ ?_) ?_
  · exact within_not_mem (A := 8) (B := 256) (C := 512) (D := 4) (b := 0) (h := 0) inb_S8x256x512_S4x256x512_0_0_0 inb_S4x256x512_S1x256x512_0_0_0 p0 (k := 7) (by decide) i j
  exact canon_zero _

end Cert.KernelIdeal.Ret
-- ==== Proof.Ret.KernelIdeal.Block.lean ====
module

public import proofs.«01_k».proof.Proof.Ret.KernelIdeal.Frame
public import proofs.«01_k».proof.Proof.Ret.KernelIdeal.Pay
public import proofs.«01_k».proof.Proof.Ret.KernelIdeal.Loads

@[expose] public section

/-! What one grid point's body leaves, as formulas in its input blocks and the state it starts from. -/

set_option maxRecDepth 16384

noncomputable section

namespace Cert.KernelIdeal.Ret

open Idealize.ShloMosaic Idealize.ShloMosaic.TcCoe Idealize.ShloMosaic.Tactic
open Idealize.SL.Sem
open Cert.KernelIdeal Cert.KernelIdeal.Gen Cert.RetForm

/-- The slab of a sequence's head's state. -/
def sx (b : Fin 2) (h : Fin 4) : Fin 8 := ⟨4 * b.val + h.val, by omega⟩

/-- The transposed keys of a sequence. -/
def ktOf (x2 x3 : Vec Ideal S1024x256 .bf16) : Fin 2 → Vec Ideal S1024x256 .bf16
  | 0 => x2
  | 1 => x3

section
variable (x1 : Vec Ideal S2x256x1024 .bf16) (x2 : Vec Ideal S1024x256 .bf16) (x3 : Vec Ideal S1024x256 .bf16) (x4 : Vec Ideal S2x256x2048 .bf16) (x5 : Vec Ideal S2x256x2048 .bf16) (x6 : Vec Ideal S2x256x1024 .f32) (x7 : Vec Ideal S4x256x256 .f32) (x8 : Vec Ideal S4x256x256 .f32) (x9 : Vec Ideal S4x256x256 .f32) (x10 : Vec Ideal S4x1x512 .f32) (x11 : Vec Ideal S1x2048 .f32) (x12 : Vec Ideal S1x2048 .f32) (x13 : Vec Ideal S2048x1024 .bf16) (x14 : Vec Ideal S1x1024 .f32) (xs : Vec Ideal S8x256x512 .f32)

/-- A head's row before its norm. -/
def bO (b : Fin 2) (h : Fin 4) (i : Fin 256) (e : Fin 512) : EReal :=
  (∑ x : Fin 256, (∑ d : Fin 256, x1 (ix3 b i (cq h d)) * ktOf x2 x3 b (ix2 (cq h d) x)) * x7 (ix3 h i x) * x4 (ix3 b x (cv h e)))
    + ∑ d : Fin 256, x1 (ix3 b i (cq h d)) * x8 (ix3 h i d) * xs (ix3 (sx b h) d e)

/-- A head's new state. -/
def bSt (b : Fin 2) (h : Fin 4) (i : Fin 256) (e : Fin 512) : EReal :=
  xs (ix3 (sx b h) i e) * x10 (ix3 h 0 e)
    + ∑ x : Fin 256, ktOf x2 x3 b (ix2 (cq h i) x) * x9 (ix3 h i x) * x4 (ix3 b x (cv h e))

/-- A gated row. -/
def bY (b : Fin 2) (i : Fin 256) (c : Fin 2048) : EReal :=
  silT (x5 (ix3 b i c)) * (gn (fun e => bO x1 x2 x3 x4 x7 x8 xs b (hd c) i e) (pl c) * x11 (ix2 0 c) + x12 (ix2 0 c))

/-- A row of the result. -/
def bOut (b : Fin 2) (i : Fin 256) (n : Fin 1024) : EReal :=
  tail (fun h e => bO x1 x2 x3 x4 x7 x8 xs b h i e) (fun c => x5 (ix3 b i c)) (fun n => x6 (ix3 b i n))
    (fun c => x11 (ix2 0 c)) (fun c => x12 (ix2 0 c)) (fun c n => x13 (ix2 c n)) (fun n => x14 (ix2 0 n)) n
end

/-- A column's index in a slab's columns. -/
theorem slab_emb {A B C n b co : ℕ}
    (i₁ : ∀ a, (![b, 0, co] : Fin 3 → ℕ) a + (![1, B, n] : Fin 3 → ℕ) a ≤ (![A, B, C] : Fin 3 → ℕ) a)
    {b' : Fin A} (hb : b'.val = b) {J : Fin n → Fin C} (hJ : ∀ j, (J j).val = co + j.val) (z : Fin 1) (i : Fin B) (j : Fin n) :
    (Rect.unit (s := ⟨3, ![A, B, C]⟩) ![b, 0, co] ![1, B, n] i₁).emb (ix3 z i j) = ix3 b' i (J j) := by
  funext a
  refine Fin.ext ?_
  match a with
  | 0 => show b + 1 * z.val = b'.val; omega
  | 1 => show 0 + 1 * i.val = i.val; omega
  | 2 => show co + 1 * j.val = (J j).val; rw [hJ]; omega

/-- A column lies in a slab's columns. -/
theorem slab_mem {A B C n b co : ℕ}
    (i₁ : ∀ a, (![b, 0, co] : Fin 3 → ℕ) a + (![1, B, n] : Fin 3 → ℕ) a ≤ (![A, B, C] : Fin 3 → ℕ) a)
    {b' : Fin A} (hb : b'.val = b) (i : Fin B) (c : Fin C) (h₁ : co ≤ c.val) (h₂ : c.val < co + n) :
    ix3 b' i c ∈ (Rect.unit (s := ⟨3, ![A, B, C]⟩) ![b, 0, co] ![1, B, n] i₁).set := by
  rw [Rect.mem_set_unit]
  intro a
  match a with
  | 0 => exact ⟨show b ≤ b'.val by omega, show b'.val < b + 1 by omega⟩
  | 1 => exact ⟨Nat.zero_le _, show i.val < 0 + B by omega⟩
  | 2 => exact ⟨h₁, h₂⟩

/-- The state of the eight slabs as one function of the index. -/
def stG (x2 x3 : Vec Ideal S1024x256 .bf16) (x4 : Vec Ideal S2x256x2048 .bf16) (x9 : Vec Ideal S4x256x256 .f32) (x10 : Vec Ideal S4x1x512 .f32) (xs : Vec Ideal S8x256x512 .f32) (y : S8x256x512.Idx) : EReal :=
  bSt x2 x3 x4 x9 x10 xs ⟨(y 0).val / 4, by have := (y 0).isLt; change _ < 8 at this; omega⟩ ⟨(y 0).val % 4, Nat.mod_lt _ (by decide)⟩ (y 1) (y 2)

/-- The gated rows of both sequences as one function of the index. -/
def yG (x1 : Vec Ideal S2x256x1024 .bf16) (x2 x3 : Vec Ideal S1024x256 .bf16) (x4 x5 : Vec Ideal S2x256x2048 .bf16) (x7 x8 : Vec Ideal S4x256x256 .f32) (x11 x12 : Vec Ideal S1x2048 .f32) (xs : Vec Ideal S8x256x512 .f32) (y : S2x256x2048.Idx) : EReal :=
  bY x1 x2 x3 x4 x5 x7 x8 x11 x12 xs (y 0) (y 1) (y 2)

theorem stG_apply (x2 x3 : Vec Ideal S1024x256 .bf16) (x4 : Vec Ideal S2x256x2048 .bf16) (x9 : Vec Ideal S4x256x256 .f32) (x10 : Vec Ideal S4x1x512 .f32) (xs : Vec Ideal S8x256x512 .f32) (b : Fin 2) (h : Fin 4) (i : Fin 256) (e : Fin 512) :
    stG x2 x3 x4 x9 x10 xs (ix3 (sx b h) i e) = bSt x2 x3 x4 x9 x10 xs b h i e := by
  have hb : (⟨(sx b h).val / 4, by have := (sx b h).isLt; omega⟩ : Fin 2) = b := Fin.ext (by show (4 * b.val + h.val) / 4 = b.val; omega)
  have hh : (⟨(sx b h).val % 4, Nat.mod_lt _ (by decide)⟩ : Fin 4) = h := Fin.ext (by show (4 * b.val + h.val) % 4 = h.val; omega)
  show bSt x2 x3 x4 x9 x10 xs ⟨(sx b h).val / 4, _⟩ ⟨(sx b h).val % 4, _⟩ i e = _
  rw [hb, hh]
theorem yG_apply (x1 : Vec Ideal S2x256x1024 .bf16) (x2 x3 : Vec Ideal S1024x256 .bf16) (x4 x5 : Vec Ideal S2x256x2048 .bf16) (x7 x8 : Vec Ideal S4x256x256 .f32) (x11 x12 : Vec Ideal S1x2048 .f32) (xs : Vec Ideal S8x256x512 .f32) (b : Fin 2) (h : Fin 4) (i : Fin 256) (e : Fin 512) :
    yG x1 x2 x3 x4 x5 x7 x8 x11 x12 xs (ix3 b i (cv h e))
      = silT (x5 (ix3 b i (cv h e))) * (gn (fun e => bO x1 x2 x3 x4 x7 x8 xs b h i e) e * x11 (ix2 0 (cv h e)) + x12 (ix2 0 (cv h e))) := by
  show bY x1 x2 x3 x4 x5 x7 x8 x11 x12 xs b i (cv h e) = _
  unfold bY
  rw [hd_cv, pl_cv]

set_option maxHeartbeats 4000000 in
/-- The state the body leaves. -/
theorem state_eq (c : Dev nD) (i0 : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc : ¬isFirst i0)
    (x1 : Vec Ideal S2x256x1024 .bf16) (x2 : Vec Ideal S1024x256 .bf16) (x3 : Vec Ideal S1024x256 .bf16) (x4 : Vec Ideal S2x256x2048 .bf16) (x5 : Vec Ideal S2x256x2048 .bf16) (x6 : Vec Ideal S2x256x1024 .f32) (x7 : Vec Ideal S4x256x256 .f32) (x8 : Vec Ideal S4x256x256 .f32) (x9 : Vec Ideal S4x256x256 .f32) (x10 : Vec Ideal S4x1x512 .f32) (x11 : Vec Ideal S1x2048 .f32) (x12 : Vec Ideal S1x2048 .f32) (x13 : Vec Ideal S2048x1024 .bf16) (x14 : Vec Ideal S1x1024 .f32) (xs : Vec Ideal S8x256x512 .f32) (b : Fin 2) (h : Fin 4) (i : Fin 256) (e : Fin 512) :
    stateOf (bodyRunB (F := Ideal) c i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xs).2.1 (ix3 (sx b h) i e) = bSt x2 x3 x4 x9 x10 xs b h i e := by
  have hy := state_coverB (F := Ideal) c i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xs (ix3 (sx b h) i e)
  unfold stateOf
  rw [View.read_writes_junk_eq_canon]
  refine (View.canon_apply_of_pieces (stG x2 x3 x4 x9 x10 xs) _ ?_ _ hy).trans ?_
  · unfold bodyRunB
    dsimp only
    frame_open
    simp only [List.forall_mem_cons, List.not_mem_nil, false_imp_iff, implies_true, and_true]
    refine ⟨?_, ?_, ?_, ?_, ?_, ?_, ?_, ?_⟩ <;> intro x <;>
      obtain ⟨z, i, e, rfl⟩ : ∃ (z : Fin 1) (i : Fin 256) (e : Fin 512), x = ix3 z i e := ⟨x 0, x 1, x 2, eq_ix3 x⟩ <;>
      obtain rfl : z = 0 := Subsingleton.elim _ _
    · refine Eq.trans (congrFun (st_13 _ _ _ _ _) (ix3 0 i e)) ?_
      exact (pSt_of (ld_box arg3 harg3 x3 (r := 768) (co := 0) _ (I := cq 3) (fun _ => rfl) (J := id) (fun j => (Nat.zero_add j.val).symm)) (ld_slab arg4 harg4 x4 (b := 1) (co := 1536) _ (fun _ => rfl) squeezes_S1x256x2048_S256x2048 _ (b' := 1) rfl (J := cv 3) (fun _ => rfl)) (ld_one arg9 harg9 x9 (b := 3) _ (b' := 3) rfl 0) (ld_within arg16 harg16 xs (b := 4) (h := 3) _ _ _ (k := sx 1 3) rfl 0) (ld_one arg10 harg10 x10 (b := 3) _ (b' := 3) rfl 0 0) i e).trans ((congrArg (stG x2 x3 x4 x9 x10 xs) (within_emb (A := 8) (B := 256) (C := 512) (D := 4) (b := 4) (h := 3) _ _ _ (k := sx 1 3) rfl 0 i e)).trans (stG_apply x2 x3 x4 x9 x10 xs 1 3 i e)).symm
    · refine Eq.trans (congrFun (st_12 _ _ _ _ _) (ix3 0 i e)) ?_
      exact (pSt_of (ld_box arg3 harg3 x3 (r := 512) (co := 0) _ (I := cq 2) (fun _ => rfl) (J := id) (fun j => (Nat.zero_add j.val).symm)) (ld_slab arg4 harg4 x4 (b := 1) (co := 1024) _ (fun _ => rfl) squeezes_S1x256x2048_S256x2048 _ (b' := 1) rfl (J := cv 2) (fun _ => rfl)) (ld_one arg9 harg9 x9 (b := 2) _ (b' := 2) rfl 0) (ld_within arg16 harg16 xs (b := 4) (h := 2) _ _ _ (k := sx 1 2) rfl 0) (ld_one arg10 harg10 x10 (b := 2) _ (b' := 2) rfl 0 0) i e).trans ((congrArg (stG x2 x3 x4 x9 x10 xs) (within_emb (A := 8) (B := 256) (C := 512) (D := 4) (b := 4) (h := 2) _ _ _ (k := sx 1 2) rfl 0 i e)).trans (stG_apply x2 x3 x4 x9 x10 xs 1 2 i e)).symm
    · refine Eq.trans (congrFun (st_11 _ _ _ _ _) (ix3 0 i e)) ?_
      exact (pSt_of (ld_box arg3 harg3 x3 (r := 256) (co := 0) _ (I := cq 1) (fun _ => rfl) (J := id) (fun j => (Nat.zero_add j.val).symm)) (ld_slab arg4 harg4 x4 (b := 1) (co := 512) _ (fun _ => rfl) squeezes_S1x256x2048_S256x2048 _ (b' := 1) rfl (J := cv 1) (fun _ => rfl)) (ld_one arg9 harg9 x9 (b := 1) _ (b' := 1) rfl 0) (ld_within arg16 harg16 xs (b := 4) (h := 1) _ _ _ (k := sx 1 1) rfl 0) (ld_one arg10 harg10 x10 (b := 1) _ (b' := 1) rfl 0 0) i e).trans ((congrArg (stG x2 x3 x4 x9 x10 xs) (within_emb (A := 8) (B := 256) (C := 512) (D := 4) (b := 4) (h := 1) _ _ _ (k := sx 1 1) rfl 0 i e)).trans (stG_apply x2 x3 x4 x9 x10 xs 1 1 i e)).symm
    · refine Eq.trans (congrFun (st_10 _ _ _ _ _) (ix3 0 i e)) ?_
      exact (pSt_of (ld_box arg3 harg3 x3 (r := 0) (co := 0) _ (I := cq 0) (fun _ => rfl) (J := id) (fun j => (Nat.zero_add j.val).symm)) (ld_slab arg4 harg4 x4 (b := 1) (co := 0) _ (fun _ => rfl) squeezes_S1x256x2048_S256x2048 _ (b' := 1) rfl (J := cv 0) (fun _ => rfl)) (ld_one arg9 harg9 x9 (b := 0) _ (b' := 0) rfl 0) (ld_within arg16 harg16 xs (b := 4) (h := 0) _ _ _ (k := sx 1 0) rfl 0) (ld_one arg10 harg10 x10 (b := 0) _ (b' := 0) rfl 0 0) i e).trans ((congrArg (stG x2 x3 x4 x9 x10 xs) (within_emb (A := 8) (B := 256) (C := 512) (D := 4) (b := 4) (h := 0) _ _ _ (k := sx 1 0) rfl 0 i e)).trans (stG_apply x2 x3 x4 x9 x10 xs 1 0 i e)).symm
    · refine Eq.trans (congrFun (st_03 _ _ _ _ _) (ix3 0 i e)) ?_
      exact (pSt_of (ld_box arg2 harg2 x2 (r := 768) (co := 0) _ (I := cq 3) (fun _ => rfl) (J := id) (fun j => (Nat.zero_add j.val).symm)) (ld_slab arg4 harg4 x4 (b := 0) (co := 1536) _ (fun _ => rfl) squeezes_S1x256x2048_S256x2048 _ (b' := 0) rfl (J := cv 3) (fun _ => rfl)) (ld_one arg9 harg9 x9 (b := 3) _ (b' := 3) rfl 0) (ld_within arg16 harg16 xs (b := 0) (h := 3) _ _ _ (k := sx 0 3) rfl 0) (ld_one arg10 harg10 x10 (b := 3) _ (b' := 3) rfl 0 0) i e).trans ((congrArg (stG x2 x3 x4 x9 x10 xs) (within_emb (A := 8) (B := 256) (C := 512) (D := 4) (b := 0) (h := 3) _ _ _ (k := sx 0 3) rfl 0 i e)).trans (stG_apply x2 x3 x4 x9 x10 xs 0 3 i e)).symm
    · refine Eq.trans (congrFun (st_02 _ _ _ _ _) (ix3 0 i e)) ?_
      exact (pSt_of (ld_box arg2 harg2 x2 (r := 512) (co := 0) _ (I := cq 2) (fun _ => rfl) (J := id) (fun j => (Nat.zero_add j.val).symm)) (ld_slab arg4 harg4 x4 (b := 0) (co := 1024) _ (fun _ => rfl) squeezes_S1x256x2048_S256x2048 _ (b' := 0) rfl (J := cv 2) (fun _ => rfl)) (ld_one arg9 harg9 x9 (b := 2) _ (b' := 2) rfl 0) (ld_within arg16 harg16 xs (b := 0) (h := 2) _ _ _ (k := sx 0 2) rfl 0) (ld_one arg10 harg10 x10 (b := 2) _ (b' := 2) rfl 0 0) i e).trans ((congrArg (stG x2 x3 x4 x9 x10 xs) (within_emb (A := 8) (B := 256) (C := 512) (D := 4) (b := 0) (h := 2) _ _ _ (k := sx 0 2) rfl 0 i e)).trans (stG_apply x2 x3 x4 x9 x10 xs 0 2 i e)).symm
    · refine Eq.trans (congrFun (st_01 _ _ _ _ _) (ix3 0 i e)) ?_
      exact (pSt_of (ld_box arg2 harg2 x2 (r := 256) (co := 0) _ (I := cq 1) (fun _ => rfl) (J := id) (fun j => (Nat.zero_add j.val).symm)) (ld_slab arg4 harg4 x4 (b := 0) (co := 512) _ (fun _ => rfl) squeezes_S1x256x2048_S256x2048 _ (b' := 0) rfl (J := cv 1) (fun _ => rfl)) (ld_one arg9 harg9 x9 (b := 1) _ (b' := 1) rfl 0) (ld_within arg16 harg16 xs (b := 0) (h := 1) _ _ _ (k := sx 0 1) rfl 0) (ld_one arg10 harg10 x10 (b := 1) _ (b' := 1) rfl 0 0) i e).trans ((congrArg (stG x2 x3 x4 x9 x10 xs) (within_emb (A := 8) (B := 256) (C := 512) (D := 4) (b := 0) (h := 1) _ _ _ (k := sx 0 1) rfl 0 i e)).trans (stG_apply x2 x3 x4 x9 x10 xs 0 1 i e)).symm
    · refine Eq.trans (congrFun (st_00 _ _ _ _ _) (ix3 0 i e)) ?_
      exact (pSt_of (ld_box arg2 harg2 x2 (r := 0) (co := 0) _ (I := cq 0) (fun _ => rfl) (J := id) (fun j => (Nat.zero_add j.val).symm)) (ld_slab arg4 harg4 x4 (b := 0) (co := 0) _ (fun _ => rfl) squeezes_S1x256x2048_S256x2048 _ (b' := 0) rfl (J := cv 0) (fun _ => rfl)) (ld_one arg9 harg9 x9 (b := 0) _ (b' := 0) rfl 0) (ld_within arg16 harg16 xs (b := 0) (h := 0) _ _ _ (k := sx 0 0) rfl 0) (ld_one arg10 harg10 x10 (b := 0) _ (b' := 0) rfl 0 0) i e).trans ((congrArg (stG x2 x3 x4 x9 x10 xs) (within_emb (A := 8) (B := 256) (C := 512) (D := 4) (b := 0) (h := 0) _ _ _ (k := sx 0 0) rfl 0 i e)).trans (stG_apply x2 x3 x4 x9 x10 xs 0 0 i e)).symm
  · exact stG_apply x2 x3 x4 x9 x10 xs b h i e

set_option maxHeartbeats 8000000 in
/-- The block of the result the body leaves. -/
theorem out_eq (c : Dev nD) (i0 : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc : ¬isFirst i0)
    (x1 : Vec Ideal S2x256x1024 .bf16) (x2 : Vec Ideal S1024x256 .bf16) (x3 : Vec Ideal S1024x256 .bf16) (x4 : Vec Ideal S2x256x2048 .bf16) (x5 : Vec Ideal S2x256x2048 .bf16) (x6 : Vec Ideal S2x256x1024 .f32) (x7 : Vec Ideal S4x256x256 .f32) (x8 : Vec Ideal S4x256x256 .f32) (x9 : Vec Ideal S4x256x256 .f32) (x10 : Vec Ideal S4x1x512 .f32) (x11 : Vec Ideal S1x2048 .f32) (x12 : Vec Ideal S1x2048 .f32) (x13 : Vec Ideal S2048x1024 .bf16) (x14 : Vec Ideal S1x1024 .f32) (xs : Vec Ideal S8x256x512 .f32) (b : Fin 2) (i : Fin 256) (n : Fin 1024) :
    outOf (bodyRunB (F := Ideal) c i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xs).1 (ix3 b i n) = bOut x1 x2 x3 x4 x5 x6 x7 x8 x11 x12 x13 x14 xs b i n := by
  have hy := out_coverB (F := Ideal) c i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xs (ix3 b i n)
  unfold outOf
  rw [View.read_writes_junk_eq_canon]
  refine View.canon_apply_of_pieces (fun y : S2x256x1024.Idx => bOut x1 x2 x3 x4 x5 x6 x7 x8 x11 x12 x13 x14 xs (y 0) (y 1) (y 2)) _ ?_ _ hy
  unfold bodyRunB
  dsimp only
  frame_open
  simp only [List.forall_mem_cons, List.not_mem_nil, false_imp_iff, implies_true, and_true]
  refine ⟨?_, ?_⟩ <;> intro x <;>
    obtain ⟨z, i, n, rfl⟩ : ∃ (z : Fin 1) (i : Fin 256) (e : Fin 1024), x = ix3 z i e := ⟨x 0, x 1, x 2, eq_ix3 x⟩ <;>
    obtain rfl : z = 0 := Subsingleton.elim _ _
  · refine ((congrFun (pOut_second _ _ _ _) _).trans (pOut_of (H := fun i n => x6 (ix3 1 i n)) (Y := bY x1 x2 x3 x4 x5 x7 x8 x11 x12 xs 1) (W := fun c n => x13 (ix2 c n)) (FW := fun n => x14 (ix2 0 n)) (ld_one arg6 harg6 x6 (b := 1) _ (b' := 1) rfl 0) ?_ (ld_box arg13 harg13 x13 (r := 0) (co := 0) _ (I := id) (fun i => (Nat.zero_add i.val).symm) (J := id) (fun i => (Nat.zero_add i.val).symm)) (ld_box arg14 harg14 x14 (r := 0) (co := 0) _ (I := id) (fun i => (Nat.zero_add i.val).symm) (J := id) (fun i => (Nat.zero_add i.val).symm) 0) i n)).trans ?_
    · intro i c
      rw [View.readCov_eq_canon']
      refine (congrArg (View.canon _) (slab_emb (A := 2) (B := 256) (C := 2048) (n := 2048) (b := 1) (co := 0) _ (b' := 1) rfl (J := id) (fun j => (Nat.zero_add j.val).symm) 0 i c)).trans ?_
      refine View.canon_apply_of_pieces (Val := Elt Ideal) (S := S2x256x2048) (e := .bf16) (yG x1 x2 x3 x4 x5 x7 x8 x11 x12 xs) _ ?_ _ ?_
      · simp only [List.forall_mem_cons, List.not_mem_nil, false_imp_iff, implies_true, and_true]
        refine ⟨?_, ?_, ?_, ?_, ?_, ?_, ?_, ?_⟩ <;> intro x <;>
          obtain ⟨z, i, e, rfl⟩ : ∃ (z : Fin 1) (i : Fin 256) (e : Fin 512), x = ix3 z i e := ⟨x 0, x 1, x 2, eq_ix3 x⟩ <;>
          obtain rfl : z = 0 := Subsingleton.elim _ _
        · refine Eq.trans (congrFun (y_13 _ _ _ _ _ _ _ _ _) (ix3 0 i e)) ?_
          exact (pY_of (pO_of (ld_slab arg1 harg1 x1 (b := 1) (co := 768) _ (fun _ => rfl) squeezes_S1x256x1024_S256x1024 _ (b' := 1) rfl (J := cq 3) (fun _ => rfl)) (ld_box arg3 harg3 x3 (r := 768) (co := 0) _ (I := cq 3) (fun _ => rfl) (J := id) (fun j => (Nat.zero_add j.val).symm)) (ld_slab arg4 harg4 x4 (b := 1) (co := 1536) _ (fun _ => rfl) squeezes_S1x256x2048_S256x2048 _ (b' := 1) rfl (J := cv 3) (fun _ => rfl)) (ld_one arg7 harg7 x7 (b := 3) _ (b' := 3) rfl 0) (ld_one arg8 harg8 x8 (b := 3) _ (b' := 3) rfl 0) (ld_within arg16 harg16 xs (b := 4) (h := 3) _ _ _ (k := sx 1 3) rfl 0)) (ld_slab arg5 harg5 x5 (b := 1) (co := 1536) _ (fun _ => rfl) squeezes_S1x256x2048_S256x2048 _ (b' := 1) rfl (J := cv 3) (fun _ => rfl)) (ld_box arg11 harg11 x11 (r := 0) (co := 1536) _ (I := id) (fun i => (Nat.zero_add i.val).symm) (J := cv 3) (fun _ => rfl) 0) (ld_box arg12 harg12 x12 (r := 0) (co := 1536) _ (I := id) (fun i => (Nat.zero_add i.val).symm) (J := cv 3) (fun _ => rfl) 0) i e).trans ((congrArg (yG x1 x2 x3 x4 x5 x7 x8 x11 x12 xs) (slab_emb (A := 2) (B := 256) (C := 2048) (n := 512) (b := 1) (co := 1536) _ (b' := 1) rfl (J := cv 3) (fun _ => rfl) 0 i e)).trans (yG_apply x1 x2 x3 x4 x5 x7 x8 x11 x12 xs 1 3 i e)).symm
        · refine Eq.trans (congrFun (y_12 _ _ _ _ _ _ _ _ _) (ix3 0 i e)) ?_
          exact (pY_of (pO_of (ld_slab arg1 harg1 x1 (b := 1) (co := 512) _ (fun _ => rfl) squeezes_S1x256x1024_S256x1024 _ (b' := 1) rfl (J := cq 2) (fun _ => rfl)) (ld_box arg3 harg3 x3 (r := 512) (co := 0) _ (I := cq 2) (fun _ => rfl) (J := id) (fun j => (Nat.zero_add j.val).symm)) (ld_slab arg4 harg4 x4 (b := 1) (co := 1024) _ (fun _ => rfl) squeezes_S1x256x2048_S256x2048 _ (b' := 1) rfl (J := cv 2) (fun _ => rfl)) (ld_one arg7 harg7 x7 (b := 2) _ (b' := 2) rfl 0) (ld_one arg8 harg8 x8 (b := 2) _ (b' := 2) rfl 0) (ld_within arg16 harg16 xs (b := 4) (h := 2) _ _ _ (k := sx 1 2) rfl 0)) (ld_slab arg5 harg5 x5 (b := 1) (co := 1024) _ (fun _ => rfl) squeezes_S1x256x2048_S256x2048 _ (b' := 1) rfl (J := cv 2) (fun _ => rfl)) (ld_box arg11 harg11 x11 (r := 0) (co := 1024) _ (I := id) (fun i => (Nat.zero_add i.val).symm) (J := cv 2) (fun _ => rfl) 0) (ld_box arg12 harg12 x12 (r := 0) (co := 1024) _ (I := id) (fun i => (Nat.zero_add i.val).symm) (J := cv 2) (fun _ => rfl) 0) i e).trans ((congrArg (yG x1 x2 x3 x4 x5 x7 x8 x11 x12 xs) (slab_emb (A := 2) (B := 256) (C := 2048) (n := 512) (b := 1) (co := 1024) _ (b' := 1) rfl (J := cv 2) (fun _ => rfl) 0 i e)).trans (yG_apply x1 x2 x3 x4 x5 x7 x8 x11 x12 xs 1 2 i e)).symm
        · refine Eq.trans (congrFun (y_11 _ _ _ _ _ _ _ _ _) (ix3 0 i e)) ?_
          exact (pY_of (pO_of (ld_slab arg1 harg1 x1 (b := 1) (co := 256) _ (fun _ => rfl) squeezes_S1x256x1024_S256x1024 _ (b' := 1) rfl (J := cq 1) (fun _ => rfl)) (ld_box arg3 harg3 x3 (r := 256) (co := 0) _ (I := cq 1) (fun _ => rfl) (J := id) (fun j => (Nat.zero_add j.val).symm)) (ld_slab arg4 harg4 x4 (b := 1) (co := 512) _ (fun _ => rfl) squeezes_S1x256x2048_S256x2048 _ (b' := 1) rfl (J := cv 1) (fun _ => rfl)) (ld_one arg7 harg7 x7 (b := 1) _ (b' := 1) rfl 0) (ld_one arg8 harg8 x8 (b := 1) _ (b' := 1) rfl 0) (ld_within arg16 harg16 xs (b := 4) (h := 1) _ _ _ (k := sx 1 1) rfl 0)) (ld_slab arg5 harg5 x5 (b := 1) (co := 512) _ (fun _ => rfl) squeezes_S1x256x2048_S256x2048 _ (b' := 1) rfl (J := cv 1) (fun _ => rfl)) (ld_box arg11 harg11 x11 (r := 0) (co := 512) _ (I := id) (fun i => (Nat.zero_add i.val).symm) (J := cv 1) (fun _ => rfl) 0) (ld_box arg12 harg12 x12 (r := 0) (co := 512) _ (I := id) (fun i => (Nat.zero_add i.val).symm) (J := cv 1) (fun _ => rfl) 0) i e).trans ((congrArg (yG x1 x2 x3 x4 x5 x7 x8 x11 x12 xs) (slab_emb (A := 2) (B := 256) (C := 2048) (n := 512) (b := 1) (co := 512) _ (b' := 1) rfl (J := cv 1) (fun _ => rfl) 0 i e)).trans (yG_apply x1 x2 x3 x4 x5 x7 x8 x11 x12 xs 1 1 i e)).symm
        · refine Eq.trans (congrFun (y_10 _ _ _ _ _ _ _ _ _) (ix3 0 i e)) ?_
          exact (pY_of (pO_of (ld_slab arg1 harg1 x1 (b := 1) (co := 0) _ (fun _ => rfl) squeezes_S1x256x1024_S256x1024 _ (b' := 1) rfl (J := cq 0) (fun _ => rfl)) (ld_box arg3 harg3 x3 (r := 0) (co := 0) _ (I := cq 0) (fun _ => rfl) (J := id) (fun j => (Nat.zero_add j.val).symm)) (ld_slab arg4 harg4 x4 (b := 1) (co := 0) _ (fun _ => rfl) squeezes_S1x256x2048_S256x2048 _ (b' := 1) rfl (J := cv 0) (fun _ => rfl)) (ld_one arg7 harg7 x7 (b := 0) _ (b' := 0) rfl 0) (ld_one arg8 harg8 x8 (b := 0) _ (b' := 0) rfl 0) (ld_within arg16 harg16 xs (b := 4) (h := 0) _ _ _ (k := sx 1 0) rfl 0)) (ld_slab arg5 harg5 x5 (b := 1) (co := 0) _ (fun _ => rfl) squeezes_S1x256x2048_S256x2048 _ (b' := 1) rfl (J := cv 0) (fun _ => rfl)) (ld_box arg11 harg11 x11 (r := 0) (co := 0) _ (I := id) (fun i => (Nat.zero_add i.val).symm) (J := cv 0) (fun _ => rfl) 0) (ld_box arg12 harg12 x12 (r := 0) (co := 0) _ (I := id) (fun i => (Nat.zero_add i.val).symm) (J := cv 0) (fun _ => rfl) 0) i e).trans ((congrArg (yG x1 x2 x3 x4 x5 x7 x8 x11 x12 xs) (slab_emb (A := 2) (B := 256) (C := 2048) (n := 512) (b := 1) (co := 0) _ (b' := 1) rfl (J := cv 0) (fun _ => rfl) 0 i e)).trans (yG_apply x1 x2 x3 x4 x5 x7 x8 x11 x12 xs 1 0 i e)).symm
        · refine Eq.trans (congrFun (y_03 _ _ _ _ _ _ _ _ _) (ix3 0 i e)) ?_
          exact (pY_of (pO_of (ld_slab arg1 harg1 x1 (b := 0) (co := 768) _ (fun _ => rfl) squeezes_S1x256x1024_S256x1024 _ (b' := 0) rfl (J := cq 3) (fun _ => rfl)) (ld_box arg2 harg2 x2 (r := 768) (co := 0) _ (I := cq 3) (fun _ => rfl) (J := id) (fun j => (Nat.zero_add j.val).symm)) (ld_slab arg4 harg4 x4 (b := 0) (co := 1536) _ (fun _ => rfl) squeezes_S1x256x2048_S256x2048 _ (b' := 0) rfl (J := cv 3) (fun _ => rfl)) (ld_one arg7 harg7 x7 (b := 3) _ (b' := 3) rfl 0) (ld_one arg8 harg8 x8 (b := 3) _ (b' := 3) rfl 0) (ld_within arg16 harg16 xs (b := 0) (h := 3) _ _ _ (k := sx 0 3) rfl 0)) (ld_slab arg5 harg5 x5 (b := 0) (co := 1536) _ (fun _ => rfl) squeezes_S1x256x2048_S256x2048 _ (b' := 0) rfl (J := cv 3) (fun _ => rfl)) (ld_box arg11 harg11 x11 (r := 0) (co := 1536) _ (I := id) (fun i => (Nat.zero_add i.val).symm) (J := cv 3) (fun _ => rfl) 0) (ld_box arg12 harg12 x12 (r := 0) (co := 1536) _ (I := id) (fun i => (Nat.zero_add i.val).symm) (J := cv 3) (fun _ => rfl) 0) i e).trans ((congrArg (yG x1 x2 x3 x4 x5 x7 x8 x11 x12 xs) (slab_emb (A := 2) (B := 256) (C := 2048) (n := 512) (b := 0) (co := 1536) _ (b' := 0) rfl (J := cv 3) (fun _ => rfl) 0 i e)).trans (yG_apply x1 x2 x3 x4 x5 x7 x8 x11 x12 xs 0 3 i e)).symm
        · refine Eq.trans (congrFun (y_02 _ _ _ _ _ _ _ _ _) (ix3 0 i e)) ?_
          exact (pY_of (pO_of (ld_slab arg1 harg1 x1 (b := 0) (co := 512) _ (fun _ => rfl) squeezes_S1x256x1024_S256x1024 _ (b' := 0) rfl (J := cq 2) (fun _ => rfl)) (ld_box arg2 harg2 x2 (r := 512) (co := 0) _ (I := cq 2) (fun _ => rfl) (J := id) (fun j => (Nat.zero_add j.val).symm)) (ld_slab arg4 harg4 x4 (b := 0) (co := 1024) _ (fun _ => rfl) squeezes_S1x256x2048_S256x2048 _ (b' := 0) rfl (J := cv 2) (fun _ => rfl)) (ld_one arg7 harg7 x7 (b := 2) _ (b' := 2) rfl 0) (ld_one arg8 harg8 x8 (b := 2) _ (b' := 2) rfl 0) (ld_within arg16 harg16 xs (b := 0) (h := 2) _ _ _ (k := sx 0 2) rfl 0)) (ld_slab arg5 harg5 x5 (b := 0) (co := 1024) _ (fun _ => rfl) squeezes_S1x256x2048_S256x2048 _ (b' := 0) rfl (J := cv 2) (fun _ => rfl)) (ld_box arg11 harg11 x11 (r := 0) (co := 1024) _ (I := id) (fun i => (Nat.zero_add i.val).symm) (J := cv 2) (fun _ => rfl) 0) (ld_box arg12 harg12 x12 (r := 0) (co := 1024) _ (I := id) (fun i => (Nat.zero_add i.val).symm) (J := cv 2) (fun _ => rfl) 0) i e).trans ((congrArg (yG x1 x2 x3 x4 x5 x7 x8 x11 x12 xs) (slab_emb (A := 2) (B := 256) (C := 2048) (n := 512) (b := 0) (co := 1024) _ (b' := 0) rfl (J := cv 2) (fun _ => rfl) 0 i e)).trans (yG_apply x1 x2 x3 x4 x5 x7 x8 x11 x12 xs 0 2 i e)).symm
        · refine Eq.trans (congrFun (y_01 _ _ _ _ _ _ _ _ _) (ix3 0 i e)) ?_
          exact (pY_of (pO_of (ld_slab arg1 harg1 x1 (b := 0) (co := 256) _ (fun _ => rfl) squeezes_S1x256x1024_S256x1024 _ (b' := 0) rfl (J := cq 1) (fun _ => rfl)) (ld_box arg2 harg2 x2 (r := 256) (co := 0) _ (I := cq 1) (fun _ => rfl) (J := id) (fun j => (Nat.zero_add j.val).symm)) (ld_slab arg4 harg4 x4 (b := 0) (co := 512) _ (fun _ => rfl) squeezes_S1x256x2048_S256x2048 _ (b' := 0) rfl (J := cv 1) (fun _ => rfl)) (ld_one arg7 harg7 x7 (b := 1) _ (b' := 1) rfl 0) (ld_one arg8 harg8 x8 (b := 1) _ (b' := 1) rfl 0) (ld_within arg16 harg16 xs (b := 0) (h := 1) _ _ _ (k := sx 0 1) rfl 0)) (ld_slab arg5 harg5 x5 (b := 0) (co := 512) _ (fun _ => rfl) squeezes_S1x256x2048_S256x2048 _ (b' := 0) rfl (J := cv 1) (fun _ => rfl)) (ld_box arg11 harg11 x11 (r := 0) (co := 512) _ (I := id) (fun i => (Nat.zero_add i.val).symm) (J := cv 1) (fun _ => rfl) 0) (ld_box arg12 harg12 x12 (r := 0) (co := 512) _ (I := id) (fun i => (Nat.zero_add i.val).symm) (J := cv 1) (fun _ => rfl) 0) i e).trans ((congrArg (yG x1 x2 x3 x4 x5 x7 x8 x11 x12 xs) (slab_emb (A := 2) (B := 256) (C := 2048) (n := 512) (b := 0) (co := 512) _ (b' := 0) rfl (J := cv 1) (fun _ => rfl) 0 i e)).trans (yG_apply x1 x2 x3 x4 x5 x7 x8 x11 x12 xs 0 1 i e)).symm
        · refine Eq.trans (congrFun (y_00 _ _ _ _ _ _ _ _ _) (ix3 0 i e)) ?_
          exact (pY_of (pO_of (ld_slab arg1 harg1 x1 (b := 0) (co := 0) _ (fun _ => rfl) squeezes_S1x256x1024_S256x1024 _ (b' := 0) rfl (J := cq 0) (fun _ => rfl)) (ld_box arg2 harg2 x2 (r := 0) (co := 0) _ (I := cq 0) (fun _ => rfl) (J := id) (fun j => (Nat.zero_add j.val).symm)) (ld_slab arg4 harg4 x4 (b := 0) (co := 0) _ (fun _ => rfl) squeezes_S1x256x2048_S256x2048 _ (b' := 0) rfl (J := cv 0) (fun _ => rfl)) (ld_one arg7 harg7 x7 (b := 0) _ (b' := 0) rfl 0) (ld_one arg8 harg8 x8 (b := 0) _ (b' := 0) rfl 0) (ld_within arg16 harg16 xs (b := 0) (h := 0) _ _ _ (k := sx 0 0) rfl 0)) (ld_slab arg5 harg5 x5 (b := 0) (co := 0) _ (fun _ => rfl) squeezes_S1x256x2048_S256x2048 _ (b' := 0) rfl (J := cv 0) (fun _ => rfl)) (ld_box arg11 harg11 x11 (r := 0) (co := 0) _ (I := id) (fun i => (Nat.zero_add i.val).symm) (J := cv 0) (fun _ => rfl) 0) (ld_box arg12 harg12 x12 (r := 0) (co := 0) _ (I := id) (fun i => (Nat.zero_add i.val).symm) (J := cv 0) (fun _ => rfl) 0) i e).trans ((congrArg (yG x1 x2 x3 x4 x5 x7 x8 x11 x12 xs) (slab_emb (A := 2) (B := 256) (C := 2048) (n := 512) (b := 0) (co := 0) _ (b' := 0) rfl (J := cv 0) (fun _ => rfl) 0 i e)).trans (yG_apply x1 x2 x3 x4 x5 x7 x8 x11 x12 xs 0 0 i e)).symm
      · have hc2 : c.val < 2048 := c.isLt
        rcases (by omega : c.val < 512 ∨ (512 ≤ c.val ∧ c.val < 1024) ∨ (1024 ≤ c.val ∧ c.val < 1536) ∨ 1536 ≤ c.val) with h | h | h | h
        · exact ⟨_, List.Mem.tail _ (List.Mem.tail _ (List.Mem.tail _ (List.Mem.head _))), slab_mem (A := 2) (B := 256) (C := 2048) (n := 512) (b := 1) (co := 0) inb_S2x256x2048_S1x256x512_1_0_0 (b' := 1) rfl i c (by omega) (by omega)⟩
        · exact ⟨_, List.Mem.tail _ (List.Mem.tail _ (List.Mem.head _)), slab_mem (A := 2) (B := 256) (C := 2048) (n := 512) (b := 1) (co := 512) inb_S2x256x2048_S1x256x512_1_0_512 (b' := 1) rfl i c (by omega) (by omega)⟩
        · exact ⟨_, List.Mem.tail _ (List.Mem.head _), slab_mem (A := 2) (B := 256) (C := 2048) (n := 512) (b := 1) (co := 1024) inb_S2x256x2048_S1x256x512_1_0_1024 (b' := 1) rfl i c (by omega) (by omega)⟩
        · exact ⟨_, List.Mem.head _, slab_mem (A := 2) (B := 256) (C := 2048) (n := 512) (b := 1) (co := 1536) inb_S2x256x2048_S1x256x512_1_0_1536 (b' := 1) rfl i c (by omega) (by omega)⟩
    · exact (congrArg (fun y : S2x256x1024.Idx => bOut x1 x2 x3 x4 x5 x6 x7 x8 x11 x12 x13 x14 xs (y 0) (y 1) (y 2)) (slab_emb (A := 2) (B := 256) (C := 1024) (n := 1024) (b := 1) (co := 0) _ (b' := 1) rfl (J := id) (fun j => (Nat.zero_add j.val).symm) 0 i n)).symm
  · refine ((pOut_of (H := fun i n => x6 (ix3 0 i n)) (Y := bY x1 x2 x3 x4 x5 x7 x8 x11 x12 xs 0) (W := fun c n => x13 (ix2 c n)) (FW := fun n => x14 (ix2 0 n)) (ld_one arg6 harg6 x6 (b := 0) _ (b' := 0) rfl 0) ?_ (ld_box arg13 harg13 x13 (r := 0) (co := 0) _ (I := id) (fun i => (Nat.zero_add i.val).symm) (J := id) (fun i => (Nat.zero_add i.val).symm)) (ld_box arg14 harg14 x14 (r := 0) (co := 0) _ (I := id) (fun i => (Nat.zero_add i.val).symm) (J := id) (fun i => (Nat.zero_add i.val).symm) 0) i n)).trans ?_
    · intro i c
      rw [View.readCov_eq_canon']
      refine (congrArg (View.canon _) (slab_emb (A := 2) (B := 256) (C := 2048) (n := 2048) (b := 0) (co := 0) _ (b' := 0) rfl (J := id) (fun j => (Nat.zero_add j.val).symm) 0 i c)).trans ?_
      refine View.canon_apply_of_pieces (Val := Elt Ideal) (S := S2x256x2048) (e := .bf16) (yG x1 x2 x3 x4 x5 x7 x8 x11 x12 xs) _ ?_ _ ?_
      · simp only [List.forall_mem_cons, List.not_mem_nil, false_imp_iff, implies_true, and_true]
        refine ⟨?_, ?_, ?_, ?_⟩ <;> intro x <;>
          obtain ⟨z, i, e, rfl⟩ : ∃ (z : Fin 1) (i : Fin 256) (e : Fin 512), x = ix3 z i e := ⟨x 0, x 1, x 2, eq_ix3 x⟩ <;>
          obtain rfl : z = 0 := Subsingleton.elim _ _
        · refine Eq.trans (congrFun (y_03 _ _ _ _ _ _ _ _ _) (ix3 0 i e)) ?_
          exact (pY_of (pO_of (ld_slab arg1 harg1 x1 (b := 0) (co := 768) _ (fun _ => rfl) squeezes_S1x256x1024_S256x1024 _ (b' := 0) rfl (J := cq 3) (fun _ => rfl)) (ld_box arg2 harg2 x2 (r := 768) (co := 0) _ (I := cq 3) (fun _ => rfl) (J := id) (fun j => (Nat.zero_add j.val).symm)) (ld_slab arg4 harg4 x4 (b := 0) (co := 1536) _ (fun _ => rfl) squeezes_S1x256x2048_S256x2048 _ (b' := 0) rfl (J := cv 3) (fun _ => rfl)) (ld_one arg7 harg7 x7 (b := 3) _ (b' := 3) rfl 0) (ld_one arg8 harg8 x8 (b := 3) _ (b' := 3) rfl 0) (ld_within arg16 harg16 xs (b := 0) (h := 3) _ _ _ (k := sx 0 3) rfl 0)) (ld_slab arg5 harg5 x5 (b := 0) (co := 1536) _ (fun _ => rfl) squeezes_S1x256x2048_S256x2048 _ (b' := 0) rfl (J := cv 3) (fun _ => rfl)) (ld_box arg11 harg11 x11 (r := 0) (co := 1536) _ (I := id) (fun i => (Nat.zero_add i.val).symm) (J := cv 3) (fun _ => rfl) 0) (ld_box arg12 harg12 x12 (r := 0) (co := 1536) _ (I := id) (fun i => (Nat.zero_add i.val).symm) (J := cv 3) (fun _ => rfl) 0) i e).trans ((congrArg (yG x1 x2 x3 x4 x5 x7 x8 x11 x12 xs) (slab_emb (A := 2) (B := 256) (C := 2048) (n := 512) (b := 0) (co := 1536) _ (b' := 0) rfl (J := cv 3) (fun _ => rfl) 0 i e)).trans (yG_apply x1 x2 x3 x4 x5 x7 x8 x11 x12 xs 0 3 i e)).symm
        · refine Eq.trans (congrFun (y_02 _ _ _ _ _ _ _ _ _) (ix3 0 i e)) ?_
          exact (pY_of (pO_of (ld_slab arg1 harg1 x1 (b := 0) (co := 512) _ (fun _ => rfl) squeezes_S1x256x1024_S256x1024 _ (b' := 0) rfl (J := cq 2) (fun _ => rfl)) (ld_box arg2 harg2 x2 (r := 512) (co := 0) _ (I := cq 2) (fun _ => rfl) (J := id) (fun j => (Nat.zero_add j.val).symm)) (ld_slab arg4 harg4 x4 (b := 0) (co := 1024) _ (fun _ => rfl) squeezes_S1x256x2048_S256x2048 _ (b' := 0) rfl (J := cv 2) (fun _ => rfl)) (ld_one arg7 harg7 x7 (b := 2) _ (b' := 2) rfl 0) (ld_one arg8 harg8 x8 (b := 2) _ (b' := 2) rfl 0) (ld_within arg16 harg16 xs (b := 0) (h := 2) _ _ _ (k := sx 0 2) rfl 0)) (ld_slab arg5 harg5 x5 (b := 0) (co := 1024) _ (fun _ => rfl) squeezes_S1x256x2048_S256x2048 _ (b' := 0) rfl (J := cv 2) (fun _ => rfl)) (ld_box arg11 harg11 x11 (r := 0) (co := 1024) _ (I := id) (fun i => (Nat.zero_add i.val).symm) (J := cv 2) (fun _ => rfl) 0) (ld_box arg12 harg12 x12 (r := 0) (co := 1024) _ (I := id) (fun i => (Nat.zero_add i.val).symm) (J := cv 2) (fun _ => rfl) 0) i e).trans ((congrArg (yG x1 x2 x3 x4 x5 x7 x8 x11 x12 xs) (slab_emb (A := 2) (B := 256) (C := 2048) (n := 512) (b := 0) (co := 1024) _ (b' := 0) rfl (J := cv 2) (fun _ => rfl) 0 i e)).trans (yG_apply x1 x2 x3 x4 x5 x7 x8 x11 x12 xs 0 2 i e)).symm
        · refine Eq.trans (congrFun (y_01 _ _ _ _ _ _ _ _ _) (ix3 0 i e)) ?_
          exact (pY_of (pO_of (ld_slab arg1 harg1 x1 (b := 0) (co := 256) _ (fun _ => rfl) squeezes_S1x256x1024_S256x1024 _ (b' := 0) rfl (J := cq 1) (fun _ => rfl)) (ld_box arg2 harg2 x2 (r := 256) (co := 0) _ (I := cq 1) (fun _ => rfl) (J := id) (fun j => (Nat.zero_add j.val).symm)) (ld_slab arg4 harg4 x4 (b := 0) (co := 512) _ (fun _ => rfl) squeezes_S1x256x2048_S256x2048 _ (b' := 0) rfl (J := cv 1) (fun _ => rfl)) (ld_one arg7 harg7 x7 (b := 1) _ (b' := 1) rfl 0) (ld_one arg8 harg8 x8 (b := 1) _ (b' := 1) rfl 0) (ld_within arg16 harg16 xs (b := 0) (h := 1) _ _ _ (k := sx 0 1) rfl 0)) (ld_slab arg5 harg5 x5 (b := 0) (co := 512) _ (fun _ => rfl) squeezes_S1x256x2048_S256x2048 _ (b' := 0) rfl (J := cv 1) (fun _ => rfl)) (ld_box arg11 harg11 x11 (r := 0) (co := 512) _ (I := id) (fun i => (Nat.zero_add i.val).symm) (J := cv 1) (fun _ => rfl) 0) (ld_box arg12 harg12 x12 (r := 0) (co := 512) _ (I := id) (fun i => (Nat.zero_add i.val).symm) (J := cv 1) (fun _ => rfl) 0) i e).trans ((congrArg (yG x1 x2 x3 x4 x5 x7 x8 x11 x12 xs) (slab_emb (A := 2) (B := 256) (C := 2048) (n := 512) (b := 0) (co := 512) _ (b' := 0) rfl (J := cv 1) (fun _ => rfl) 0 i e)).trans (yG_apply x1 x2 x3 x4 x5 x7 x8 x11 x12 xs 0 1 i e)).symm
        · refine Eq.trans (congrFun (y_00 _ _ _ _ _ _ _ _ _) (ix3 0 i e)) ?_
          exact (pY_of (pO_of (ld_slab arg1 harg1 x1 (b := 0) (co := 0) _ (fun _ => rfl) squeezes_S1x256x1024_S256x1024 _ (b' := 0) rfl (J := cq 0) (fun _ => rfl)) (ld_box arg2 harg2 x2 (r := 0) (co := 0) _ (I := cq 0) (fun _ => rfl) (J := id) (fun j => (Nat.zero_add j.val).symm)) (ld_slab arg4 harg4 x4 (b := 0) (co := 0) _ (fun _ => rfl) squeezes_S1x256x2048_S256x2048 _ (b' := 0) rfl (J := cv 0) (fun _ => rfl)) (ld_one arg7 harg7 x7 (b := 0) _ (b' := 0) rfl 0) (ld_one arg8 harg8 x8 (b := 0) _ (b' := 0) rfl 0) (ld_within arg16 harg16 xs (b := 0) (h := 0) _ _ _ (k := sx 0 0) rfl 0)) (ld_slab arg5 harg5 x5 (b := 0) (co := 0) _ (fun _ => rfl) squeezes_S1x256x2048_S256x2048 _ (b' := 0) rfl (J := cv 0) (fun _ => rfl)) (ld_box arg11 harg11 x11 (r := 0) (co := 0) _ (I := id) (fun i => (Nat.zero_add i.val).symm) (J := cv 0) (fun _ => rfl) 0) (ld_box arg12 harg12 x12 (r := 0) (co := 0) _ (I := id) (fun i => (Nat.zero_add i.val).symm) (J := cv 0) (fun _ => rfl) 0) i e).trans ((congrArg (yG x1 x2 x3 x4 x5 x7 x8 x11 x12 xs) (slab_emb (A := 2) (B := 256) (C := 2048) (n := 512) (b := 0) (co := 0) _ (b' := 0) rfl (J := cv 0) (fun _ => rfl) 0 i e)).trans (yG_apply x1 x2 x3 x4 x5 x7 x8 x11 x12 xs 0 0 i e)).symm
      · have hc2 : c.val < 2048 := c.isLt
        rcases (by omega : c.val < 512 ∨ (512 ≤ c.val ∧ c.val < 1024) ∨ (1024 ≤ c.val ∧ c.val < 1536) ∨ 1536 ≤ c.val) with h | h | h | h
        · exact ⟨_, List.Mem.tail _ (List.Mem.tail _ (List.Mem.tail _ (List.Mem.head _))), slab_mem (A := 2) (B := 256) (C := 2048) (n := 512) (b := 0) (co := 0) inb_S2x256x2048_S1x256x512_0_0_0 (b' := 0) rfl i c (by omega) (by omega)⟩
        · exact ⟨_, List.Mem.tail _ (List.Mem.tail _ (List.Mem.head _)), slab_mem (A := 2) (B := 256) (C := 2048) (n := 512) (b := 0) (co := 512) inb_S2x256x2048_S1x256x512_0_0_512 (b' := 0) rfl i c (by omega) (by omega)⟩
        · exact ⟨_, List.Mem.tail _ (List.Mem.head _), slab_mem (A := 2) (B := 256) (C := 2048) (n := 512) (b := 0) (co := 1024) inb_S2x256x2048_S1x256x512_0_0_1024 (b' := 0) rfl i c (by omega) (by omega)⟩
        · exact ⟨_, List.Mem.head _, slab_mem (A := 2) (B := 256) (C := 2048) (n := 512) (b := 0) (co := 1536) inb_S2x256x2048_S1x256x512_0_0_1536 (b' := 0) rfl i c (by omega) (by omega)⟩
    · exact (congrArg (fun y : S2x256x1024.Idx => bOut x1 x2 x3 x4 x5 x6 x7 x8 x11 x12 x13 x14 xs (y 0) (y 1) (y 2)) (slab_emb (A := 2) (B := 256) (C := 1024) (n := 1024) (b := 0) (co := 0) _ (b' := 0) rfl (J := id) (fun j => (Nat.zero_add j.val).symm) 0 i n)).symm

end Cert.KernelIdeal.Ret
-- ==== Proof.Ret.KernelIdeal.BlockA.lean ====
module

public import proofs.«01_k».proof.Proof.Ret.KernelIdeal.Block

@[expose] public section

/-! What the first grid point's body leaves: a later point's, from a state of zeros. -/

set_option maxRecDepth 16384

noncomputable section

namespace Cert.KernelIdeal.Ret

open Idealize.ShloMosaic Idealize.ShloMosaic.TcCoe Idealize.ShloMosaic.Tactic
open Idealize.SL.Sem
open Cert.KernelIdeal Cert.KernelIdeal.Gen Cert.RetForm

set_option maxHeartbeats 4000000 in
/-- The state the body leaves. -/
theorem state_eqA (c : Dev nD) (i0 : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc : isFirst i0)
    (x1 : Vec Ideal S2x256x1024 .bf16) (x2 : Vec Ideal S1024x256 .bf16) (x3 : Vec Ideal S1024x256 .bf16) (x4 : Vec Ideal S2x256x2048 .bf16) (x5 : Vec Ideal S2x256x2048 .bf16) (x6 : Vec Ideal S2x256x1024 .f32) (x7 : Vec Ideal S4x256x256 .f32) (x8 : Vec Ideal S4x256x256 .f32) (x9 : Vec Ideal S4x256x256 .f32) (x10 : Vec Ideal S4x1x512 .f32) (x11 : Vec Ideal S1x2048 .f32) (x12 : Vec Ideal S1x2048 .f32) (x13 : Vec Ideal S2048x1024 .bf16) (x14 : Vec Ideal S1x1024 .f32) (b : Fin 2) (h : Fin 4) (i : Fin 256) (e : Fin 512) :
    stateOf (bodyRunA (F := Ideal) c i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14).2.1 (ix3 (sx b h) i e) = bSt x2 x3 x4 x9 x10 zeroSt b h i e := by
  have hy := state_coverA (F := Ideal) c i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 (ix3 (sx b h) i e)
  unfold stateOf
  rw [View.read_writes_junk_eq_canon]
  clear hy
  refine Eq.trans ?_ (stG_apply x2 x3 x4 x9 x10 zeroSt b h i e)
  unfold bodyRunA
  dsimp only
  frame_open
  refine canon_step (e := .f32) (S := S8x256x512) (stG x2 x3 x4 x9 x10 zeroSt) ?_ fun h7 => ?_
  rotate_left
  refine canon_step (e := .f32) (S := S8x256x512) (stG x2 x3 x4 x9 x10 zeroSt) ?_ fun h6 => ?_
  rotate_left
  refine canon_step (e := .f32) (S := S8x256x512) (stG x2 x3 x4 x9 x10 zeroSt) ?_ fun h5 => ?_
  rotate_left
  refine canon_step (e := .f32) (S := S8x256x512) (stG x2 x3 x4 x9 x10 zeroSt) ?_ fun h4 => ?_
  rotate_left
  refine canon_step (e := .f32) (S := S8x256x512) (stG x2 x3 x4 x9 x10 zeroSt) ?_ fun h3 => ?_
  rotate_left
  refine canon_step (e := .f32) (S := S8x256x512) (stG x2 x3 x4 x9 x10 zeroSt) ?_ fun h2 => ?_
  rotate_left
  refine canon_step (e := .f32) (S := S8x256x512) (stG x2 x3 x4 x9 x10 zeroSt) ?_ fun h1 => ?_
  rotate_left
  refine canon_step (e := .f32) (S := S8x256x512) (stG x2 x3 x4 x9 x10 zeroSt) ?_ fun h0 => ?_
  rotate_left
  · exfalso
    have hs : (sx b h).val = 4 * b.val + h.val := rfl
    rcases (by omega : (sx b h).val = 0 ∨ (sx b h).val = 1 ∨ (sx b h).val = 2 ∨ (sx b h).val = 3 ∨ (sx b h).val = 4 ∨ (sx b h).val = 5 ∨ (sx b h).val = 6 ∨ (sx b h).val = 7) with k | k | k | k | k | k | k | k
    · exact h0 (within_mem (A := 8) (B := 256) (C := 512) (D := 4) (b := 0) (h := 0) _ _ (fun _ => rfl) k i e)
    · exact h1 (within_mem (A := 8) (B := 256) (C := 512) (D := 4) (b := 0) (h := 1) _ _ (fun _ => rfl) k i e)
    · exact h2 (within_mem (A := 8) (B := 256) (C := 512) (D := 4) (b := 0) (h := 2) _ _ (fun _ => rfl) k i e)
    · exact h3 (within_mem (A := 8) (B := 256) (C := 512) (D := 4) (b := 0) (h := 3) _ _ (fun _ => rfl) k i e)
    · exact h4 (within_mem (A := 8) (B := 256) (C := 512) (D := 4) (b := 4) (h := 0) _ _ (fun _ => rfl) k i e)
    · exact h5 (within_mem (A := 8) (B := 256) (C := 512) (D := 4) (b := 4) (h := 1) _ _ (fun _ => rfl) k i e)
    · exact h6 (within_mem (A := 8) (B := 256) (C := 512) (D := 4) (b := 4) (h := 2) _ _ (fun _ => rfl) k i e)
    · exact h7 (within_mem (A := 8) (B := 256) (C := 512) (D := 4) (b := 4) (h := 3) _ _ (fun _ => rfl) k i e)
  all_goals
    intro x
    obtain ⟨z, i, e, rfl⟩ : ∃ (z : Fin 1) (i : Fin 256) (e : Fin 512), x = ix3 z i e := ⟨x 0, x 1, x 2, eq_ix3 x⟩
    obtain rfl : z = 0 := Subsingleton.elim _ _
  · refine Eq.trans (congrFun (st_13 _ _ _ _ _) (ix3 0 i e)) ?_
    exact (pSt_of (ld_box arg3 harg3 x3 (r := 768) (co := 0) _ (I := cq 3) (fun _ => rfl) (J := id) (fun j => (Nat.zero_add j.val).symm)) (ld_slab arg4 harg4 x4 (b := 1) (co := 1536) _ (fun _ => rfl) squeezes_S1x256x2048_S256x2048 _ (b' := 1) rfl (J := cv 3) (fun _ => rfl)) (ld_one arg9 harg9 x9 (b := 3) _ (b' := 3) rfl 0) (fun i j => ldz_13 _ _ _ _ _ _ _ _ _ _ _ _ _ _ _ _ i j) (ld_one arg10 harg10 x10 (b := 3) _ (b' := 3) rfl 0 0) i e).trans ((congrArg (stG x2 x3 x4 x9 x10 zeroSt) (within_emb (A := 8) (B := 256) (C := 512) (D := 4) (b := 4) (h := 3) _ _ (fun _ => rfl) (k := sx 1 3) rfl 0 i e)).trans (stG_apply x2 x3 x4 x9 x10 zeroSt 1 3 i e)).symm
  · refine Eq.trans (congrFun (st_12 _ _ _ _ _) (ix3 0 i e)) ?_
    exact (pSt_of (ld_box arg3 harg3 x3 (r := 512) (co := 0) _ (I := cq 2) (fun _ => rfl) (J := id) (fun j => (Nat.zero_add j.val).symm)) (ld_slab arg4 harg4 x4 (b := 1) (co := 1024) _ (fun _ => rfl) squeezes_S1x256x2048_S256x2048 _ (b' := 1) rfl (J := cv 2) (fun _ => rfl)) (ld_one arg9 harg9 x9 (b := 2) _ (b' := 2) rfl 0) (fun i j => ldz_12 _ _ _ _ _ _ _ _ _ _ _ _ _ _ i j) (ld_one arg10 harg10 x10 (b := 2) _ (b' := 2) rfl 0 0) i e).trans ((congrArg (stG x2 x3 x4 x9 x10 zeroSt) (within_emb (A := 8) (B := 256) (C := 512) (D := 4) (b := 4) (h := 2) _ _ (fun _ => rfl) (k := sx 1 2) rfl 0 i e)).trans (stG_apply x2 x3 x4 x9 x10 zeroSt 1 2 i e)).symm
  · refine Eq.trans (congrFun (st_11 _ _ _ _ _) (ix3 0 i e)) ?_
    exact (pSt_of (ld_box arg3 harg3 x3 (r := 256) (co := 0) _ (I := cq 1) (fun _ => rfl) (J := id) (fun j => (Nat.zero_add j.val).symm)) (ld_slab arg4 harg4 x4 (b := 1) (co := 512) _ (fun _ => rfl) squeezes_S1x256x2048_S256x2048 _ (b' := 1) rfl (J := cv 1) (fun _ => rfl)) (ld_one arg9 harg9 x9 (b := 1) _ (b' := 1) rfl 0) (fun i j => ldz_11 _ _ _ _ _ _ _ _ _ _ _ _ i j) (ld_one arg10 harg10 x10 (b := 1) _ (b' := 1) rfl 0 0) i e).trans ((congrArg (stG x2 x3 x4 x9 x10 zeroSt) (within_emb (A := 8) (B := 256) (C := 512) (D := 4) (b := 4) (h := 1) _ _ (fun _ => rfl) (k := sx 1 1) rfl 0 i e)).trans (stG_apply x2 x3 x4 x9 x10 zeroSt 1 1 i e)).symm
  · refine Eq.trans (congrFun (st_10 _ _ _ _ _) (ix3 0 i e)) ?_
    exact (pSt_of (ld_box arg3 harg3 x3 (r := 0) (co := 0) _ (I := cq 0) (fun _ => rfl) (J := id) (fun j => (Nat.zero_add j.val).symm)) (ld_slab arg4 harg4 x4 (b := 1) (co := 0) _ (fun _ => rfl) squeezes_S1x256x2048_S256x2048 _ (b' := 1) rfl (J := cv 0) (fun _ => rfl)) (ld_one arg9 harg9 x9 (b := 0) _ (b' := 0) rfl 0) (fun i j => ldz_10 _ _ _ _ _ _ _ _ _ _ i j) (ld_one arg10 harg10 x10 (b := 0) _ (b' := 0) rfl 0 0) i e).trans ((congrArg (stG x2 x3 x4 x9 x10 zeroSt) (within_emb (A := 8) (B := 256) (C := 512) (D := 4) (b := 4) (h := 0) _ _ (fun _ => rfl) (k := sx 1 0) rfl 0 i e)).trans (stG_apply x2 x3 x4 x9 x10 zeroSt 1 0 i e)).symm
  · refine Eq.trans (congrFun (st_03 _ _ _ _ _) (ix3 0 i e)) ?_
    exact (pSt_of (ld_box arg2 harg2 x2 (r := 768) (co := 0) _ (I := cq 3) (fun _ => rfl) (J := id) (fun j => (Nat.zero_add j.val).symm)) (ld_slab arg4 harg4 x4 (b := 0) (co := 1536) _ (fun _ => rfl) squeezes_S1x256x2048_S256x2048 _ (b' := 0) rfl (J := cv 3) (fun _ => rfl)) (ld_one arg9 harg9 x9 (b := 3) _ (b' := 3) rfl 0) (fun i j => ldz_03 _ _ _ _ _ _ _ _ i j) (ld_one arg10 harg10 x10 (b := 3) _ (b' := 3) rfl 0 0) i e).trans ((congrArg (stG x2 x3 x4 x9 x10 zeroSt) (within_emb (A := 8) (B := 256) (C := 512) (D := 4) (b := 0) (h := 3) _ _ (fun _ => rfl) (k := sx 0 3) rfl 0 i e)).trans (stG_apply x2 x3 x4 x9 x10 zeroSt 0 3 i e)).symm
  · refine Eq.trans (congrFun (st_02 _ _ _ _ _) (ix3 0 i e)) ?_
    exact (pSt_of (ld_box arg2 harg2 x2 (r := 512) (co := 0) _ (I := cq 2) (fun _ => rfl) (J := id) (fun j => (Nat.zero_add j.val).symm)) (ld_slab arg4 harg4 x4 (b := 0) (co := 1024) _ (fun _ => rfl) squeezes_S1x256x2048_S256x2048 _ (b' := 0) rfl (J := cv 2) (fun _ => rfl)) (ld_one arg9 harg9 x9 (b := 2) _ (b' := 2) rfl 0) (fun i j => ldz_02 _ _ _ _ _ _ i j) (ld_one arg10 harg10 x10 (b := 2) _ (b' := 2) rfl 0 0) i e).trans ((congrArg (stG x2 x3 x4 x9 x10 zeroSt) (within_emb (A := 8) (B := 256) (C := 512) (D := 4) (b := 0) (h := 2) _ _ (fun _ => rfl) (k := sx 0 2) rfl 0 i e)).trans (stG_apply x2 x3 x4 x9 x10 zeroSt 0 2 i e)).symm
  · refine Eq.trans (congrFun (st_01 _ _ _ _ _) (ix3 0 i e)) ?_
    exact (pSt_of (ld_box arg2 harg2 x2 (r := 256) (co := 0) _ (I := cq 1) (fun _ => rfl) (J := id) (fun j => (Nat.zero_add j.val).symm)) (ld_slab arg4 harg4 x4 (b := 0) (co := 512) _ (fun _ => rfl) squeezes_S1x256x2048_S256x2048 _ (b' := 0) rfl (J := cv 1) (fun _ => rfl)) (ld_one arg9 harg9 x9 (b := 1) _ (b' := 1) rfl 0) (fun i j => ldz_01 _ _ _ _ i j) (ld_one arg10 harg10 x10 (b := 1) _ (b' := 1) rfl 0 0) i e).trans ((congrArg (stG x2 x3 x4 x9 x10 zeroSt) (within_emb (A := 8) (B := 256) (C := 512) (D := 4) (b := 0) (h := 1) _ _ (fun _ => rfl) (k := sx 0 1) rfl 0 i e)).trans (stG_apply x2 x3 x4 x9 x10 zeroSt 0 1 i e)).symm
  · refine Eq.trans (congrFun (st_00 _ _ _ _ _) (ix3 0 i e)) ?_
    exact (pSt_of (ld_box arg2 harg2 x2 (r := 0) (co := 0) _ (I := cq 0) (fun _ => rfl) (J := id) (fun j => (Nat.zero_add j.val).symm)) (ld_slab arg4 harg4 x4 (b := 0) (co := 0) _ (fun _ => rfl) squeezes_S1x256x2048_S256x2048 _ (b' := 0) rfl (J := cv 0) (fun _ => rfl)) (ld_one arg9 harg9 x9 (b := 0) _ (b' := 0) rfl 0) (fun i j => ldz_00 _ _ i j) (ld_one arg10 harg10 x10 (b := 0) _ (b' := 0) rfl 0 0) i e).trans ((congrArg (stG x2 x3 x4 x9 x10 zeroSt) (within_emb (A := 8) (B := 256) (C := 512) (D := 4) (b := 0) (h := 0) _ _ (fun _ => rfl) (k := sx 0 0) rfl 0 i e)).trans (stG_apply x2 x3 x4 x9 x10 zeroSt 0 0 i e)).symm

set_option maxHeartbeats 8000000 in
/-- The block of the result the body leaves. -/
theorem out_eqA (c : Dev nD) (i0 : grid0.Coords) (arg1 : Memref sig .tc .vmem S2x256x1024 .bf16) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S2x256x2048 .bf16) (harg4 : arg4.IsWhole) (arg5 : Memref sig .tc .vmem S2x256x2048 .bf16) (harg5 : arg5.IsWhole) (arg6 : Memref sig .tc .vmem S2x256x1024 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x256x256 .f32) (harg9 : arg9.IsWhole) (arg10 : Memref sig .tc .vmem S4x1x512 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S2x256x1024 .f32) (harg15 : arg15.IsWhole) (arg16 : Memref sig .tc .vmem S8x256x512 .f32) (harg16 : arg16.IsWhole) (arg17 : Memref sig .tc .vmem S2x256x2048 .bf16) (harg17 : arg17.IsWhole) (hc : isFirst i0)
    (x1 : Vec Ideal S2x256x1024 .bf16) (x2 : Vec Ideal S1024x256 .bf16) (x3 : Vec Ideal S1024x256 .bf16) (x4 : Vec Ideal S2x256x2048 .bf16) (x5 : Vec Ideal S2x256x2048 .bf16) (x6 : Vec Ideal S2x256x1024 .f32) (x7 : Vec Ideal S4x256x256 .f32) (x8 : Vec Ideal S4x256x256 .f32) (x9 : Vec Ideal S4x256x256 .f32) (x10 : Vec Ideal S4x1x512 .f32) (x11 : Vec Ideal S1x2048 .f32) (x12 : Vec Ideal S1x2048 .f32) (x13 : Vec Ideal S2048x1024 .bf16) (x14 : Vec Ideal S1x1024 .f32) (b : Fin 2) (i : Fin 256) (n : Fin 1024) :
    outOf (bodyRunA (F := Ideal) c i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14).1 (ix3 b i n) = bOut x1 x2 x3 x4 x5 x6 x7 x8 x11 x12 x13 x14 zeroSt b i n := by
  have hy := out_coverA (F := Ideal) c i0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 (ix3 b i n)
  unfold outOf
  rw [View.read_writes_junk_eq_canon]
  refine View.canon_apply_of_pieces (fun y : S2x256x1024.Idx => bOut x1 x2 x3 x4 x5 x6 x7 x8 x11 x12 x13 x14 zeroSt (y 0) (y 1) (y 2)) _ ?_ _ hy
  unfold bodyRunA
  dsimp only
  frame_open
  simp only [List.forall_mem_cons, List.not_mem_nil, false_imp_iff, implies_true, and_true]
  refine ⟨?_, ?_⟩ <;> intro x <;>
    obtain ⟨z, i, n, rfl⟩ : ∃ (z : Fin 1) (i : Fin 256) (e : Fin 1024), x = ix3 z i e := ⟨x 0, x 1, x 2, eq_ix3 x⟩ <;>
    obtain rfl : z = 0 := Subsingleton.elim _ _
  · refine ((congrFun (pOut_second _ _ _ _) _).trans (pOut_of (H := fun i n => x6 (ix3 1 i n)) (Y := bY x1 x2 x3 x4 x5 x7 x8 x11  x12 zeroSt 1) (W := fun c n => x13 (ix2 c n)) (FW := fun n => x14 (ix2 0 n)) (ld_one arg6 harg6 x6 (b := 1) _ (b' := 1) rfl 0) ?_ (ld_box arg13 harg13 x13 (r := 0) (co := 0) _ (I := id) (fun i => (Nat.zero_add i.val).symm) (J := id) (fun i => (Nat.zero_add i.val).symm)) (ld_box arg14 harg14 x14 (r := 0) (co := 0) _ (I := id) (fun i => (Nat.zero_add i.val).symm) (J := id) (fun i => (Nat.zero_add i.val).symm) 0) i n)).trans ?_
    · intro i c
      rw [View.readCov_eq_canon']
      refine (congrArg (View.canon _) (slab_emb (A := 2) (B := 256) (C := 2048) (n := 2048) (b := 1) (co := 0) _ (b' := 1) rfl (J := id) (fun j => (Nat.zero_add j.val).symm) 0 i c)).trans ?_
      refine View.canon_apply_of_pieces (Val := Elt Ideal) (S := S2x256x2048) (e := .bf16) (yG x1 x2 x3 x4 x5 x7 x8 x11  x12 zeroSt) _ ?_ _ ?_
      · simp only [List.forall_mem_cons, List.not_mem_nil, false_imp_iff, implies_true, and_true]
        refine ⟨?_, ?_, ?_, ?_, ?_, ?_, ?_, ?_⟩ <;> intro x <;>
          obtain ⟨z, i, e, rfl⟩ : ∃ (z : Fin 1) (i : Fin 256) (e : Fin 512), x = ix3 z i e := ⟨x 0, x 1, x 2, eq_ix3 x⟩ <;>
          obtain rfl : z = 0 := Subsingleton.elim _ _
        · refine Eq.trans (congrFun (y_13 _ _ _ _ _ _ _ _ _) (ix3 0 i e)) ?_
          exact (pY_of (pO_of (ld_slab arg1 harg1 x1 (b := 1) (co := 768) _ (fun _ => rfl) squeezes_S1x256x1024_S256x1024 _ (b' := 1) rfl (J := cq 3) (fun _ => rfl)) (ld_box arg3 harg3 x3 (r := 768) (co := 0) _ (I := cq 3) (fun _ => rfl) (J := id) (fun j => (Nat.zero_add j.val).symm)) (ld_slab arg4 harg4 x4 (b := 1) (co := 1536) _ (fun _ => rfl) squeezes_S1x256x2048_S256x2048 _ (b' := 1) rfl (J := cv 3) (fun _ => rfl)) (ld_one arg7 harg7 x7 (b := 3) _ (b' := 3) rfl 0) (ld_one arg8 harg8 x8 (b := 3) _ (b' := 3) rfl 0) (fun i j => ldz_13 _ _ _ _ _ _ _ _ _ _ _ _ _ _ _ _ i j)) (ld_slab arg5 harg5 x5 (b := 1) (co := 1536) _ (fun _ => rfl) squeezes_S1x256x2048_S256x2048 _ (b' := 1) rfl (J := cv 3) (fun _ => rfl)) (ld_box arg11 harg11 x11 (r := 0) (co := 1536) _ (I := id) (fun i => (Nat.zero_add i.val).symm) (J := cv 3) (fun _ => rfl) 0) (ld_box arg12 harg12 x12 (r := 0) (co := 1536) _ (I := id) (fun i => (Nat.zero_add i.val).symm) (J := cv 3) (fun _ => rfl) 0) i e).trans ((congrArg (yG x1 x2 x3 x4 x5 x7 x8 x11  x12 zeroSt) (slab_emb (A := 2) (B := 256) (C := 2048) (n := 512) (b := 1) (co := 1536) _ (b' := 1) rfl (J := cv 3) (fun _ => rfl) 0 i e)).trans (yG_apply x1 x2 x3 x4 x5 x7 x8 x11  x12 zeroSt 1 3 i e)).symm
        · refine Eq.trans (congrFun (y_12 _ _ _ _ _ _ _ _ _) (ix3 0 i e)) ?_
          exact (pY_of (pO_of (ld_slab arg1 harg1 x1 (b := 1) (co := 512) _ (fun _ => rfl) squeezes_S1x256x1024_S256x1024 _ (b' := 1) rfl (J := cq 2) (fun _ => rfl)) (ld_box arg3 harg3 x3 (r := 512) (co := 0) _ (I := cq 2) (fun _ => rfl) (J := id) (fun j => (Nat.zero_add j.val).symm)) (ld_slab arg4 harg4 x4 (b := 1) (co := 1024) _ (fun _ => rfl) squeezes_S1x256x2048_S256x2048 _ (b' := 1) rfl (J := cv 2) (fun _ => rfl)) (ld_one arg7 harg7 x7 (b := 2) _ (b' := 2) rfl 0) (ld_one arg8 harg8 x8 (b := 2) _ (b' := 2) rfl 0) (fun i j => ldz_12 _ _ _ _ _ _ _ _ _ _ _ _ _ _ i j)) (ld_slab arg5 harg5 x5 (b := 1) (co := 1024) _ (fun _ => rfl) squeezes_S1x256x2048_S256x2048 _ (b' := 1) rfl (J := cv 2) (fun _ => rfl)) (ld_box arg11 harg11 x11 (r := 0) (co := 1024) _ (I := id) (fun i => (Nat.zero_add i.val).symm) (J := cv 2) (fun _ => rfl) 0) (ld_box arg12 harg12 x12 (r := 0) (co := 1024) _ (I := id) (fun i => (Nat.zero_add i.val).symm) (J := cv 2) (fun _ => rfl) 0) i e).trans ((congrArg (yG x1 x2 x3 x4 x5 x7 x8 x11  x12 zeroSt) (slab_emb (A := 2) (B := 256) (C := 2048) (n := 512) (b := 1) (co := 1024) _ (b' := 1) rfl (J := cv 2) (fun _ => rfl) 0 i e)).trans (yG_apply x1 x2 x3 x4 x5 x7 x8 x11  x12 zeroSt 1 2 i e)).symm
        · refine Eq.trans (congrFun (y_11 _ _ _ _ _ _ _ _ _) (ix3 0 i e)) ?_
          exact (pY_of (pO_of (ld_slab arg1 harg1 x1 (b := 1) (co := 256) _ (fun _ => rfl) squeezes_S1x256x1024_S256x1024 _ (b' := 1) rfl (J := cq 1) (fun _ => rfl)) (ld_box arg3 harg3 x3 (r := 256) (co := 0) _ (I := cq 1) (fun _ => rfl) (J := id) (fun j => (Nat.zero_add j.val).symm)) (ld_slab arg4 harg4 x4 (b := 1) (co := 512) _ (fun _ => rfl) squeezes_S1x256x2048_S256x2048 _ (b' := 1) rfl (J := cv 1) (fun _ => rfl)) (ld_one arg7 harg7 x7 (b := 1) _ (b' := 1) rfl 0) (ld_one arg8 harg8 x8 (b := 1) _ (b' := 1) rfl 0) (fun i j => ldz_11 _ _ _ _ _ _ _ _ _ _ _ _ i j)) (ld_slab arg5 harg5 x5 (b := 1) (co := 512) _ (fun _ => rfl) squeezes_S1x256x2048_S256x2048 _ (b' := 1) rfl (J := cv 1) (fun _ => rfl)) (ld_box arg11 harg11 x11 (r := 0) (co := 512) _ (I := id) (fun i => (Nat.zero_add i.val).symm) (J := cv 1) (fun _ => rfl) 0) (ld_box arg12 harg12 x12 (r := 0) (co := 512) _ (I := id) (fun i => (Nat.zero_add i.val).symm) (J := cv 1) (fun _ => rfl) 0) i e).trans ((congrArg (yG x1 x2 x3 x4 x5 x7 x8 x11  x12 zeroSt) (slab_emb (A := 2) (B := 256) (C := 2048) (n := 512) (b := 1) (co := 512) _ (b' := 1) rfl (J := cv 1) (fun _ => rfl) 0 i e)).trans (yG_apply x1 x2 x3 x4 x5 x7 x8 x11  x12 zeroSt 1 1 i e)).symm
        · refine Eq.trans (congrFun (y_10 _ _ _ _ _ _ _ _ _) (ix3 0 i e)) ?_
          exact (pY_of (pO_of (ld_slab arg1 harg1 x1 (b := 1) (co := 0) _ (fun _ => rfl) squeezes_S1x256x1024_S256x1024 _ (b' := 1) rfl (J := cq 0) (fun _ => rfl)) (ld_box arg3 harg3 x3 (r := 0) (co := 0) _ (I := cq 0) (fun _ => rfl) (J := id) (fun j => (Nat.zero_add j.val).symm)) (ld_slab arg4 harg4 x4 (b := 1) (co := 0) _ (fun _ => rfl) squeezes_S1x256x2048_S256x2048 _ (b' := 1) rfl (J := cv 0) (fun _ => rfl)) (ld_one arg7 harg7 x7 (b := 0) _ (b' := 0) rfl 0) (ld_one arg8 harg8 x8 (b := 0) _ (b' := 0) rfl 0) (fun i j => ldz_10 _ _ _ _ _ _ _ _ _ _ i j)) (ld_slab arg5 harg5 x5 (b := 1) (co := 0) _ (fun _ => rfl) squeezes_S1x256x2048_S256x2048 _ (b' := 1) rfl (J := cv 0) (fun _ => rfl)) (ld_box arg11 harg11 x11 (r := 0) (co := 0) _ (I := id) (fun i => (Nat.zero_add i.val).symm) (J := cv 0) (fun _ => rfl) 0) (ld_box arg12 harg12 x12 (r := 0) (co := 0) _ (I := id) (fun i => (Nat.zero_add i.val).symm) (J := cv 0) (fun _ => rfl) 0) i e).trans ((congrArg (yG x1 x2 x3 x4 x5 x7 x8 x11  x12 zeroSt) (slab_emb (A := 2) (B := 256) (C := 2048) (n := 512) (b := 1) (co := 0) _ (b' := 1) rfl (J := cv 0) (fun _ => rfl) 0 i e)).trans (yG_apply x1 x2 x3 x4 x5 x7 x8 x11  x12 zeroSt 1 0 i e)).symm
        · refine Eq.trans (congrFun (y_03 _ _ _ _ _ _ _ _ _) (ix3 0 i e)) ?_
          exact (pY_of (pO_of (ld_slab arg1 harg1 x1 (b := 0) (co := 768) _ (fun _ => rfl) squeezes_S1x256x1024_S256x1024 _ (b' := 0) rfl (J := cq 3) (fun _ => rfl)) (ld_box arg2 harg2 x2 (r := 768) (co := 0) _ (I := cq 3) (fun _ => rfl) (J := id) (fun j => (Nat.zero_add j.val).symm)) (ld_slab arg4 harg4 x4 (b := 0) (co := 1536) _ (fun _ => rfl) squeezes_S1x256x2048_S256x2048 _ (b' := 0) rfl (J := cv 3) (fun _ => rfl)) (ld_one arg7 harg7 x7 (b := 3) _ (b' := 3) rfl 0) (ld_one arg8 harg8 x8 (b := 3) _ (b' := 3) rfl 0) (fun i j => ldz_03 _ _ _ _ _ _ _ _ i j)) (ld_slab arg5 harg5 x5 (b := 0) (co := 1536) _ (fun _ => rfl) squeezes_S1x256x2048_S256x2048 _ (b' := 0) rfl (J := cv 3) (fun _ => rfl)) (ld_box arg11 harg11 x11 (r := 0) (co := 1536) _ (I := id) (fun i => (Nat.zero_add i.val).symm) (J := cv 3) (fun _ => rfl) 0) (ld_box arg12 harg12 x12 (r := 0) (co := 1536) _ (I := id) (fun i => (Nat.zero_add i.val).symm) (J := cv 3) (fun _ => rfl) 0) i e).trans ((congrArg (yG x1 x2 x3 x4 x5 x7 x8 x11  x12 zeroSt) (slab_emb (A := 2) (B := 256) (C := 2048) (n := 512) (b := 0) (co := 1536) _ (b' := 0) rfl (J := cv 3) (fun _ => rfl) 0 i e)).trans (yG_apply x1 x2 x3 x4 x5 x7 x8 x11  x12 zeroSt 0 3 i e)).symm
        · refine Eq.trans (congrFun (y_02 _ _ _ _ _ _ _ _ _) (ix3 0 i e)) ?_
          exact (pY_of (pO_of (ld_slab arg1 harg1 x1 (b := 0) (co := 512) _ (fun _ => rfl) squeezes_S1x256x1024_S256x1024 _ (b' := 0) rfl (J := cq 2) (fun _ => rfl)) (ld_box arg2 harg2 x2 (r := 512) (co := 0) _ (I := cq 2) (fun _ => rfl) (J := id) (fun j => (Nat.zero_add j.val).symm)) (ld_slab arg4 harg4 x4 (b := 0) (co := 1024) _ (fun _ => rfl) squeezes_S1x256x2048_S256x2048 _ (b' := 0) rfl (J := cv 2) (fun _ => rfl)) (ld_one arg7 harg7 x7 (b := 2) _ (b' := 2) rfl 0) (ld_one arg8 harg8 x8 (b := 2) _ (b' := 2) rfl 0) (fun i j => ldz_02 _ _ _ _ _ _ i j)) (ld_slab arg5 harg5 x5 (b := 0) (co := 1024) _ (fun _ => rfl) squeezes_S1x256x2048_S256x2048 _ (b' := 0) rfl (J := cv 2) (fun _ => rfl)) (ld_box arg11 harg11 x11 (r := 0) (co := 1024) _ (I := id) (fun i => (Nat.zero_add i.val).symm) (J := cv 2) (fun _ => rfl) 0) (ld_box arg12 harg12 x12 (r := 0) (co := 1024) _ (I := id) (fun i => (Nat.zero_add i.val).symm) (J := cv 2) (fun _ => rfl) 0) i e).trans ((congrArg (yG x1 x2 x3 x4 x5 x7 x8 x11  x12 zeroSt) (slab_emb (A := 2) (B := 256) (C := 2048) (n := 512) (b := 0) (co := 1024) _ (b' := 0) rfl (J := cv 2) (fun _ => rfl) 0 i e)).trans (yG_apply x1 x2 x3 x4 x5 x7 x8 x11  x12 zeroSt 0 2 i e)).symm
        · refine Eq.trans (congrFun (y_01 _ _ _ _ _ _ _ _ _) (ix3 0 i e)) ?_
          exact (pY_of (pO_of (ld_slab arg1 harg1 x1 (b := 0) (co := 256) _ (fun _ => rfl) squeezes_S1x256x1024_S256x1024 _ (b' := 0) rfl (J := cq 1) (fun _ => rfl)) (ld_box arg2 harg2 x2 (r := 256) (co := 0) _ (I := cq 1) (fun _ => rfl) (J := id) (fun j => (Nat.zero_add j.val).symm)) (ld_slab arg4 harg4 x4 (b := 0) (co := 512) _ (fun _ => rfl) squeezes_S1x256x2048_S256x2048 _ (b' := 0) rfl (J := cv 1) (fun _ => rfl)) (ld_one arg7 harg7 x7 (b := 1) _ (b' := 1) rfl 0) (ld_one arg8 harg8 x8 (b := 1) _ (b' := 1) rfl 0) (fun i j => ldz_01 _ _ _ _ i j)) (ld_slab arg5 harg5 x5 (b := 0) (co := 512) _ (fun _ => rfl) squeezes_S1x256x2048_S256x2048 _ (b' := 0) rfl (J := cv 1) (fun _ => rfl)) (ld_box arg11 harg11 x11 (r := 0) (co := 512) _ (I := id) (fun i => (Nat.zero_add i.val).symm) (J := cv 1) (fun _ => rfl) 0) (ld_box arg12 harg12 x12 (r := 0) (co := 512) _ (I := id) (fun i => (Nat.zero_add i.val).symm) (J := cv 1) (fun _ => rfl) 0) i e).trans ((congrArg (yG x1 x2 x3 x4 x5 x7 x8 x11  x12 zeroSt) (slab_emb (A := 2) (B := 256) (C := 2048) (n := 512) (b := 0) (co := 512) _ (b' := 0) rfl (J := cv 1) (fun _ => rfl) 0 i e)).trans (yG_apply x1 x2 x3 x4 x5 x7 x8 x11  x12 zeroSt 0 1 i e)).symm
        · refine Eq.trans (congrFun (y_00 _ _ _ _ _ _ _ _ _) (ix3 0 i e)) ?_
          exact (pY_of (pO_of (ld_slab arg1 harg1 x1 (b := 0) (co := 0) _ (fun _ => rfl) squeezes_S1x256x1024_S256x1024 _ (b' := 0) rfl (J := cq 0) (fun _ => rfl)) (ld_box arg2 harg2 x2 (r := 0) (co := 0) _ (I := cq 0) (fun _ => rfl) (J := id) (fun j => (Nat.zero_add j.val).symm)) (ld_slab arg4 harg4 x4 (b := 0) (co := 0) _ (fun _ => rfl) squeezes_S1x256x2048_S256x2048 _ (b' := 0) rfl (J := cv 0) (fun _ => rfl)) (ld_one arg7 harg7 x7 (b := 0) _ (b' := 0) rfl 0) (ld_one arg8 harg8 x8 (b := 0) _ (b' := 0) rfl 0) (fun i j => ldz_00 _ _ i j)) (ld_slab arg5 harg5 x5 (b := 0) (co := 0) _ (fun _ => rfl) squeezes_S1x256x2048_S256x2048 _ (b' := 0) rfl (J := cv 0) (fun _ => rfl)) (ld_box arg11 harg11 x11 (r := 0) (co := 0) _ (I := id) (fun i => (Nat.zero_add i.val).symm) (J := cv 0) (fun _ => rfl) 0) (ld_box arg12 harg12 x12 (r := 0) (co := 0) _ (I := id) (fun i => (Nat.zero_add i.val).symm) (J := cv 0) (fun _ => rfl) 0) i e).trans ((congrArg (yG x1 x2 x3 x4 x5 x7 x8 x11  x12 zeroSt) (slab_emb (A := 2) (B := 256) (C := 2048) (n := 512) (b := 0) (co := 0) _ (b' := 0) rfl (J := cv 0) (fun _ => rfl) 0 i e)).trans (yG_apply x1 x2 x3 x4 x5 x7 x8 x11  x12 zeroSt 0 0 i e)).symm
      · have hc2 : c.val < 2048 := c.isLt
        rcases (by omega : c.val < 512 ∨ (512 ≤ c.val ∧ c.val < 1024) ∨ (1024 ≤ c.val ∧ c.val < 1536) ∨ 1536 ≤ c.val) with h | h | h | h
        · exact ⟨_, List.Mem.tail _ (List.Mem.tail _ (List.Mem.tail _ (List.Mem.head _))), slab_mem (A := 2) (B := 256) (C := 2048) (n := 512) (b := 1) (co := 0) inb_S2x256x2048_S1x256x512_1_0_0 (b' := 1) rfl i c (by omega) (by omega)⟩
        · exact ⟨_, List.Mem.tail _ (List.Mem.tail _ (List.Mem.head _)), slab_mem (A := 2) (B := 256) (C := 2048) (n := 512) (b := 1) (co := 512) inb_S2x256x2048_S1x256x512_1_0_512 (b' := 1) rfl i c (by omega) (by omega)⟩
        · exact ⟨_, List.Mem.tail _ (List.Mem.head _), slab_mem (A := 2) (B := 256) (C := 2048) (n := 512) (b := 1) (co := 1024) inb_S2x256x2048_S1x256x512_1_0_1024 (b' := 1) rfl i c (by omega) (by omega)⟩
        · exact ⟨_, List.Mem.head _, slab_mem (A := 2) (B := 256) (C := 2048) (n := 512) (b := 1) (co := 1536) inb_S2x256x2048_S1x256x512_1_0_1536 (b' := 1) rfl i c (by omega) (by omega)⟩
    · exact (congrArg (fun y : S2x256x1024.Idx => bOut x1 x2 x3 x4 x5 x6 x7 x8 x11 x12 x13 x14 zeroSt (y 0) (y 1) (y 2)) (slab_emb (A := 2) (B := 256) (C := 1024) (n := 1024) (b := 1) (co := 0) _ (b' := 1) rfl (J := id) (fun j => (Nat.zero_add j.val).symm) 0 i n)).symm
  · refine ((pOut_of (H := fun i n => x6 (ix3 0 i n)) (Y := bY x1 x2 x3 x4 x5 x7 x8 x11  x12 zeroSt 0) (W := fun c n => x13 (ix2 c n)) (FW := fun n => x14 (ix2 0 n)) (ld_one arg6 harg6 x6 (b := 0) _ (b' := 0) rfl 0) ?_ (ld_box arg13 harg13 x13 (r := 0) (co := 0) _ (I := id) (fun i => (Nat.zero_add i.val).symm) (J := id) (fun i => (Nat.zero_add i.val).symm)) (ld_box arg14 harg14 x14 (r := 0) (co := 0) _ (I := id) (fun i => (Nat.zero_add i.val).symm) (J := id) (fun i => (Nat.zero_add i.val).symm) 0) i n)).trans ?_
    · intro i c
      rw [View.readCov_eq_canon']
      refine (congrArg (View.canon _) (slab_emb (A := 2) (B := 256) (C := 2048) (n := 2048) (b := 0) (co := 0) _ (b' := 0) rfl (J := id) (fun j => (Nat.zero_add j.val).symm) 0 i c)).trans ?_
      refine View.canon_apply_of_pieces (Val := Elt Ideal) (S := S2x256x2048) (e := .bf16) (yG x1 x2 x3 x4 x5 x7 x8 x11  x12 zeroSt) _ ?_ _ ?_
      · simp only [List.forall_mem_cons, List.not_mem_nil, false_imp_iff, implies_true, and_true]
        refine ⟨?_, ?_, ?_, ?_⟩ <;> intro x <;>
          obtain ⟨z, i, e, rfl⟩ : ∃ (z : Fin 1) (i : Fin 256) (e : Fin 512), x = ix3 z i e := ⟨x 0, x 1, x 2, eq_ix3 x⟩ <;>
          obtain rfl : z = 0 := Subsingleton.elim _ _
        · refine Eq.trans (congrFun (y_03 _ _ _ _ _ _ _ _ _) (ix3 0 i e)) ?_
          exact (pY_of (pO_of (ld_slab arg1 harg1 x1 (b := 0) (co := 768) _ (fun _ => rfl) squeezes_S1x256x1024_S256x1024 _ (b' := 0) rfl (J := cq 3) (fun _ => rfl)) (ld_box arg2 harg2 x2 (r := 768) (co := 0) _ (I := cq 3) (fun _ => rfl) (J := id) (fun j => (Nat.zero_add j.val).symm)) (ld_slab arg4 harg4 x4 (b := 0) (co := 1536) _ (fun _ => rfl) squeezes_S1x256x2048_S256x2048 _ (b' := 0) rfl (J := cv 3) (fun _ => rfl)) (ld_one arg7 harg7 x7 (b := 3) _ (b' := 3) rfl 0) (ld_one arg8 harg8 x8 (b := 3) _ (b' := 3) rfl 0) (fun i j => ldz_03 _ _ _ _ _ _ _ _ i j)) (ld_slab arg5 harg5 x5 (b := 0) (co := 1536) _ (fun _ => rfl) squeezes_S1x256x2048_S256x2048 _ (b' := 0) rfl (J := cv 3) (fun _ => rfl)) (ld_box arg11 harg11 x11 (r := 0) (co := 1536) _ (I := id) (fun i => (Nat.zero_add i.val).symm) (J := cv 3) (fun _ => rfl) 0) (ld_box arg12 harg12 x12 (r := 0) (co := 1536) _ (I := id) (fun i => (Nat.zero_add i.val).symm) (J := cv 3) (fun _ => rfl) 0) i e).trans ((congrArg (yG x1 x2 x3 x4 x5 x7 x8 x11  x12 zeroSt) (slab_emb (A := 2) (B := 256) (C := 2048) (n := 512) (b := 0) (co := 1536) _ (b' := 0) rfl (J := cv 3) (fun _ => rfl) 0 i e)).trans (yG_apply x1 x2 x3 x4 x5 x7 x8 x11  x12 zeroSt 0 3 i e)).symm
        · refine Eq.trans (congrFun (y_02 _ _ _ _ _ _ _ _ _) (ix3 0 i e)) ?_
          exact (pY_of (pO_of (ld_slab arg1 harg1 x1 (b := 0) (co := 512) _ (fun _ => rfl) squeezes_S1x256x1024_S256x1024 _ (b' := 0) rfl (J := cq 2) (fun _ => rfl)) (ld_box arg2 harg2 x2 (r := 512) (co := 0) _ (I := cq 2) (fun _ => rfl) (J := id) (fun j => (Nat.zero_add j.val).symm)) (ld_slab arg4 harg4 x4 (b := 0) (co := 1024) _ (fun _ => rfl) squeezes_S1x256x2048_S256x2048 _ (b' := 0) rfl (J := cv 2) (fun _ => rfl)) (ld_one arg7 harg7 x7 (b := 2) _ (b' := 2) rfl 0) (ld_one arg8 harg8 x8 (b := 2) _ (b' := 2) rfl 0) (fun i j => ldz_02 _ _ _ _ _ _ i j)) (ld_slab arg5 harg5 x5 (b := 0) (co := 1024) _ (fun _ => rfl) squeezes_S1x256x2048_S256x2048 _ (b' := 0) rfl (J := cv 2) (fun _ => rfl)) (ld_box arg11 harg11 x11 (r := 0) (co := 1024) _ (I := id) (fun i => (Nat.zero_add i.val).symm) (J := cv 2) (fun _ => rfl) 0) (ld_box arg12 harg12 x12 (r := 0) (co := 1024) _ (I := id) (fun i => (Nat.zero_add i.val).symm) (J := cv 2) (fun _ => rfl) 0) i e).trans ((congrArg (yG x1 x2 x3 x4 x5 x7 x8 x11  x12 zeroSt) (slab_emb (A := 2) (B := 256) (C := 2048) (n := 512) (b := 0) (co := 1024) _ (b' := 0) rfl (J := cv 2) (fun _ => rfl) 0 i e)).trans (yG_apply x1 x2 x3 x4 x5 x7 x8 x11  x12 zeroSt 0 2 i e)).symm
        · refine Eq.trans (congrFun (y_01 _ _ _ _ _ _ _ _ _) (ix3 0 i e)) ?_
          exact (pY_of (pO_of (ld_slab arg1 harg1 x1 (b := 0) (co := 256) _ (fun _ => rfl) squeezes_S1x256x1024_S256x1024 _ (b' := 0) rfl (J := cq 1) (fun _ => rfl)) (ld_box arg2 harg2 x2 (r := 256) (co := 0) _ (I := cq 1) (fun _ => rfl) (J := id) (fun j => (Nat.zero_add j.val).symm)) (ld_slab arg4 harg4 x4 (b := 0) (co := 512) _ (fun _ => rfl) squeezes_S1x256x2048_S256x2048 _ (b' := 0) rfl (J := cv 1) (fun _ => rfl)) (ld_one arg7 harg7 x7 (b := 1) _ (b' := 1) rfl 0) (ld_one arg8 harg8 x8 (b := 1) _ (b' := 1) rfl 0) (fun i j => ldz_01 _ _ _ _ i j)) (ld_slab arg5 harg5 x5 (b := 0) (co := 512) _ (fun _ => rfl) squeezes_S1x256x2048_S256x2048 _ (b' := 0) rfl (J := cv 1) (fun _ => rfl)) (ld_box arg11 harg11 x11 (r := 0) (co := 512) _ (I := id) (fun i => (Nat.zero_add i.val).symm) (J := cv 1) (fun _ => rfl) 0) (ld_box arg12 harg12 x12 (r := 0) (co := 512) _ (I := id) (fun i => (Nat.zero_add i.val).symm) (J := cv 1) (fun _ => rfl) 0) i e).trans ((congrArg (yG x1 x2 x3 x4 x5 x7 x8 x11  x12 zeroSt) (slab_emb (A := 2) (B := 256) (C := 2048) (n := 512) (b := 0) (co := 512) _ (b' := 0) rfl (J := cv 1) (fun _ => rfl) 0 i e)).trans (yG_apply x1 x2 x3 x4 x5 x7 x8 x11  x12 zeroSt 0 1 i e)).symm
        · refine Eq.trans (congrFun (y_00 _ _ _ _ _ _ _ _ _) (ix3 0 i e)) ?_
          exact (pY_of (pO_of (ld_slab arg1 harg1 x1 (b := 0) (co := 0) _ (fun _ => rfl) squeezes_S1x256x1024_S256x1024 _ (b' := 0) rfl (J := cq 0) (fun _ => rfl)) (ld_box arg2 harg2 x2 (r := 0) (co := 0) _ (I := cq 0) (fun _ => rfl) (J := id) (fun j => (Nat.zero_add j.val).symm)) (ld_slab arg4 harg4 x4 (b := 0) (co := 0) _ (fun _ => rfl) squeezes_S1x256x2048_S256x2048 _ (b' := 0) rfl (J := cv 0) (fun _ => rfl)) (ld_one arg7 harg7 x7 (b := 0) _ (b' := 0) rfl 0) (ld_one arg8 harg8 x8 (b := 0) _ (b' := 0) rfl 0) (fun i j => ldz_00 _ _ i j)) (ld_slab arg5 harg5 x5 (b := 0) (co := 0) _ (fun _ => rfl) squeezes_S1x256x2048_S256x2048 _ (b' := 0) rfl (J := cv 0) (fun _ => rfl)) (ld_box arg11 harg11 x11 (r := 0) (co := 0) _ (I := id) (fun i => (Nat.zero_add i.val).symm) (J := cv 0) (fun _ => rfl) 0) (ld_box arg12 harg12 x12 (r := 0) (co := 0) _ (I := id) (fun i => (Nat.zero_add i.val).symm) (J := cv 0) (fun _ => rfl) 0) i e).trans ((congrArg (yG x1 x2 x3 x4 x5 x7 x8 x11  x12 zeroSt) (slab_emb (A := 2) (B := 256) (C := 2048) (n := 512) (b := 0) (co := 0) _ (b' := 0) rfl (J := cv 0) (fun _ => rfl) 0 i e)).trans (yG_apply x1 x2 x3 x4 x5 x7 x8 x11  x12 zeroSt 0 0 i e)).symm
      · have hc2 : c.val < 2048 := c.isLt
        rcases (by omega : c.val < 512 ∨ (512 ≤ c.val ∧ c.val < 1024) ∨ (1024 ≤ c.val ∧ c.val < 1536) ∨ 1536 ≤ c.val) with h | h | h | h
        · exact ⟨_, List.Mem.tail _ (List.Mem.tail _ (List.Mem.tail _ (List.Mem.head _))), slab_mem (A := 2) (B := 256) (C := 2048) (n := 512) (b := 0) (co := 0) inb_S2x256x2048_S1x256x512_0_0_0 (b' := 0) rfl i c (by omega) (by omega)⟩
        · exact ⟨_, List.Mem.tail _ (List.Mem.tail _ (List.Mem.head _)), slab_mem (A := 2) (B := 256) (C := 2048) (n := 512) (b := 0) (co := 512) inb_S2x256x2048_S1x256x512_0_0_512 (b' := 0) rfl i c (by omega) (by omega)⟩
        · exact ⟨_, List.Mem.tail _ (List.Mem.head _), slab_mem (A := 2) (B := 256) (C := 2048) (n := 512) (b := 0) (co := 1024) inb_S2x256x2048_S1x256x512_0_0_1024 (b' := 0) rfl i c (by omega) (by omega)⟩
        · exact ⟨_, List.Mem.head _, slab_mem (A := 2) (B := 256) (C := 2048) (n := 512) (b := 0) (co := 1536) inb_S2x256x2048_S1x256x512_0_0_1536 (b' := 0) rfl i c (by omega) (by omega)⟩
    · exact (congrArg (fun y : S2x256x1024.Idx => bOut x1 x2 x3 x4 x5 x6 x7 x8 x11 x12 x13 x14 zeroSt (y 0) (y 1) (y 2)) (slab_emb (A := 2) (B := 256) (C := 1024) (n := 1024) (b := 0) (co := 0) _ (b' := 0) rfl (J := id) (fun j => (Nat.zero_add j.val).symm) 0 i n)).symm

end Cert.KernelIdeal.Ret
-- ==== Proof.Ret.Decay.lean ====
module

public import proofs.«01_k».proof.Proof.Ret.Math
public import Idealize.ShloMosaic.Lib.Pointwise

@[expose] public section

/-! The decay tables as the programs compute them, from the rate of each head: each entry is a real number. -/

noncomputable section

namespace Cert.RetForm
open Idealize.ShloMosaic
/-- The rate of head `h`, as the programs write it. -/
def lg (h : ℕ) : EReal :=
  Ideal.log (1 - Ideal.pow (Ideal.ofBits .f32 1073741824#32)
    (Ideal.ofBits .f32 3231711232#32 - FloatOps.sitofp (F := Ideal) .f32 (BitVec.ofNat 32 h)))

/-- The rate of head `h`, a real number. -/
def ell (h : ℕ) : ℝ := Real.log (1 - (2 : ℝ) ^ (-5 - (h : ℝ)))

/-- A small count read as a float. -/
theorem count (n : ℕ) (h : n < 2 ^ 31) : FloatOps.sitofp (F := Ideal) .f32 (BitVec.ofNat 32 n) = (((n : ℝ)) : EReal) := by
  change (((BitVec.ofNat 32 n).toInt : ℝ) : EReal) = _
  have h1 : (BitVec.ofNat 32 n).toInt = (n : ℤ) := by
    have h2 : (BitVec.ofNat 32 n).toNat = n := by rw [BitVec.toNat_ofNat]; exact Nat.mod_eq_of_lt (by omega)
    rw [BitVec.toInt_eq_toNat_of_lt (by rw [h2]; omega), h2]
  rw [h1]; norm_cast

theorem b2 : Ideal.ofBits .f32 1073741824#32 = ((2 : ℝ) : EReal) := by
  simp [Ideal.ofBits, Ideal.ieee, -EReal.coe_mul]; norm_num
theorem bm5 : Ideal.ofBits .f32 3231711232#32 = ((-5 : ℝ) : EReal) := by
  simp [Ideal.ofBits, Ideal.ieee, -EReal.coe_mul, -EReal.coe_neg]; norm_num
theorem b255 : Ideal.ofBits .f32 1132396544#32 = ((255 : ℝ) : EReal) := by
  simp [Ideal.ofBits, Ideal.ieee, -EReal.coe_mul]; norm_num
theorem b256 : Ideal.ofBits .f32 1132462080#32 = ((256 : ℝ) : EReal) := by
  simp [Ideal.ofBits, Ideal.ieee, -EReal.coe_mul]; norm_num

theorem b127 : Ideal.ofBits .f32 1123942400#32 = ((127 : ℝ) : EReal) := by
  simp [Ideal.ofBits, Ideal.ieee, -EReal.coe_mul]; norm_num
theorem b128 : Ideal.ofBits .f32 1124073472#32 = ((128 : ℝ) : EReal) := by
  simp [Ideal.ofBits, Ideal.ieee, -EReal.coe_mul]; norm_num

/-- The rate is the real one. -/
theorem lg_eq (h : ℕ) (hh : h < 4) : lg h = ((ell h : ℝ) : EReal) := by
  have hp : (2 : ℝ) ^ (-5 - (h : ℝ)) < 1 := Real.rpow_lt_one_of_one_lt_of_neg (by norm_num) (by have : (0 : ℝ) ≤ h := Nat.cast_nonneg h; linarith)
  unfold lg ell
  rw [count h (by omega), b2, bm5, ← EReal.coe_sub,
    show Ideal.pow ((2 : ℝ) : EReal) ((-5 - (h : ℝ) : ℝ) : EReal) = (((2 : ℝ) ^ (-5 - (h : ℝ)) : ℝ) : EReal) from rfl,
    ← EReal.coe_one, ← EReal.coe_sub]
  exact if_neg (by linarith)

/-- The decay across `x` rows, for a real `x`. -/
theorem decay_eq (h : ℕ) (hh : h < 4) (x : ℝ) : Ideal.exp (lg h * (x : EReal)) = ((Real.exp (ell h * x) : ℝ) : EReal) := by
  rw [lg_eq h hh, ← EReal.coe_mul]; rfl
/-- The masked decay between rows `i` and `j` of a chunk, as the programs write it. -/
theorem dm_eq (h i j : ℕ) (hh : h < 4) (hi : i < 256) (hj : j < 256) :
    (if 0 ≤ FloatOps.sitofp (F := Ideal) .f32 (BitVec.ofNat 32 i) - FloatOps.sitofp (F := Ideal) .f32 (BitVec.ofNat 32 j) then
      Ideal.exp (lg h * max (FloatOps.sitofp (F := Ideal) .f32 (BitVec.ofNat 32 i) - FloatOps.sitofp (F := Ideal) .f32 (BitVec.ofNat 32 j)) 0)
    else 0) = ((dmR (ell h) i j : ℝ) : EReal) := by
  rw [count i (by omega), count j (by omega), ← EReal.coe_sub]
  have hz : (0 : EReal) = ((0 : ℝ) : EReal) := rfl
  unfold dmR
  by_cases hij : j ≤ i
  · have h0 : (0 : ℝ) ≤ (i : ℝ) - j := sub_nonneg.mpr (by exact_mod_cast hij)
    rw [if_pos hij, if_pos (by rw [hz]; exact EReal.coe_le_coe_iff.mpr h0),
      max_eq_left (by rw [hz]; exact EReal.coe_le_coe_iff.mpr h0), decay_eq h hh]
  · have h0 : ¬(0 : ℝ) ≤ (i : ℝ) - j := fun hc => hij (by exact_mod_cast sub_nonneg.mp hc)
    rw [if_neg hij, if_neg (by rw [hz]; exact fun hc => h0 (EReal.coe_le_coe_iff.mp hc))]
    rfl

end Cert.RetForm

namespace Cert.RetForm
open Idealize.ShloMosaic

/-- A head's rows in chunks of `C`, with the head's decay tables. -/
def oH (C : ℕ) (Q : (⟨2, ![32768, 1024]⟩ : Shape).Idx → EReal) (K : (⟨2, ![1024, 32768]⟩ : Shape).Idx → EReal)
    (V : (⟨2, ![32768, 2048]⟩ : Shape).Idx → EReal) (b : ℕ) (n : ℕ) (i : Fin C) (h : Fin 4) (e : Fin 512) : EReal :=
  oC C (qs Q b h) (ks K b h) (vs V b h) (fun i j => ((dmR (ell h) i j : ℝ) : EReal)) (fun i => ((qdR (ell h) i : ℝ) : EReal))
    (fun j => ((kdR (ell h) C j : ℝ) : EReal)) ((cdR (ell h) C : ℝ) : EReal) n i e

/-- A head's state before chunk `n`. -/
def stH (C : ℕ) (K : (⟨2, ![1024, 32768]⟩ : Shape).Idx → EReal)
    (V : (⟨2, ![32768, 2048]⟩ : Shape).Idx → EReal) (b : ℕ) (h : Fin 4) (n : ℕ) (d : Fin 256) (e : Fin 512) : EReal :=
  stN C (ks K b h) (vs V b h) (fun j => ((kdR (ell h) C j : ℝ) : EReal)) ((cdR (ell h) C : ℝ) : EReal) n d e

end Cert.RetForm

namespace Cert.RetForm
open Idealize.ShloMosaic

/-- A head's next state. -/
theorem stH_succ (C : ℕ) (K : (⟨2, ![1024, 32768]⟩ : Shape).Idx → EReal) (V : (⟨2, ![32768, 2048]⟩ : Shape).Idx → EReal)
    (b : ℕ) (h : Fin 4) (n : ℕ) (d : Fin 256) (e : Fin 512) :
    stH C K V b h (n + 1) d e
      = stH C K V b h n d e * ((cdR (ell h) C : ℝ) : EReal)
        + ∑ j : Fin C, ks K b h (C * n + j) d * ((kdR (ell h) C j : ℝ) : EReal) * vs V b h (C * n + j) e := rfl

/-- The tail's value depends only on its arguments' values. -/
theorem tail_congr {o o' : Fin 4 → Fin 512 → EReal} {g g' : Fin 2048 → EReal} {h h' : Fin 1024 → EReal} {gw gw' gb gb' : Fin 2048 → EReal}
    {w w' : Fin 2048 → Fin 1024 → EReal} {fw fw' : Fin 1024 → EReal} (e0 : ∀ a b, o a b = o' a b) (e1 : ∀ a, g a = g' a) (e2 : ∀ a, h a = h' a)
    (e3 : ∀ a, gw a = gw' a) (e4 : ∀ a, gb a = gb' a) (e5 : ∀ a b, w a b = w' a b) (e6 : ∀ a, fw a = fw' a) (n : Fin 1024) :
    tail o g h gw gb w fw n = tail o' g' h' gw' gb' w' fw' n := by
  obtain rfl : o = o' := funext fun a => funext fun b => e0 a b
  obtain rfl : g = g' := funext e1
  obtain rfl : h = h' := funext e2
  obtain rfl : gw = gw' := funext e3
  obtain rfl : gb = gb' := funext e4
  obtain rfl : w = w' := funext fun a => funext fun b => e5 a b
  obtain rfl : fw = fw' := funext e6
  rfl

/-- **The layer**, in chunks of `C` rows: row `t` of sequence `b` at column `n`. -/
def layer (C : ℕ) (hC : 0 < C) (Q : (⟨2, ![32768, 1024]⟩ : Shape).Idx → EReal) (K : (⟨2, ![1024, 32768]⟩ : Shape).Idx → EReal)
    (V G : (⟨2, ![32768, 2048]⟩ : Shape).Idx → EReal) (H : (⟨2, ![32768, 1024]⟩ : Shape).Idx → EReal)
    (gw gb : (⟨1, ![2048]⟩ : Shape).Idx → EReal) (W : (⟨2, ![2048, 1024]⟩ : Shape).Idx → EReal)
    (fw : (⟨1, ![1024]⟩ : Shape).Idx → EReal) (b t : ℕ) (n : Fin 1024) : EReal :=
  tail (fun h e => oH C Q K V b (t / C) ⟨t % C, Nat.mod_lt _ hC⟩ h e) (fun x => G (ix2 (row b t) x)) (fun x => H (ix2 (row b t) x))
    (fun x => gw (ix1 x)) (fun x => gb (ix1 x)) (fun x n => W (ix2 x n)) (fun x => fw (ix1 x)) n

/-- **The layer is the same in chunks of 256 rows and of 128**, where queries, keys and values are finite. -/
theorem layer_agree (Q : (⟨2, ![32768, 1024]⟩ : Shape).Idx → EReal) (K : (⟨2, ![1024, 32768]⟩ : Shape).Idx → EReal)
    (V G : (⟨2, ![32768, 2048]⟩ : Shape).Idx → EReal) (H : (⟨2, ![32768, 1024]⟩ : Shape).Idx → EReal)
    (gw gb : (⟨1, ![2048]⟩ : Shape).Idx → EReal) (W : (⟨2, ![2048, 1024]⟩ : Shape).Idx → EReal)
    (fw : (⟨1, ![1024]⟩ : Shape).Idx → EReal) (hQ : ∀ y, ∃ r : ℝ, Q y = r) (hK : ∀ y, ∃ r : ℝ, K y = r) (hV : ∀ y, ∃ r : ℝ, V y = r)
    (b t : ℕ) (n : Fin 1024) :
    layer 256 (by decide) Q K V G H gw gb W fw b t n = layer 128 (by decide) Q K V G H gw gb W fw b t n := by
  refine tail_congr (fun h e => ?_) (fun _ => rfl) (fun _ => rfl) (fun _ => rfl) (fun _ => rfl) (fun _ _ => rfl) (fun _ => rfl) n
  exact chunks_agree (ell h) _ _ _ (fun _ _ => hQ _) (fun _ _ => hK _) (fun _ _ => hV _) _ _ _ _
    (show 256 * (t / 256) + t % 256 = 128 * (t / 128) + t % 128 by omega) e

end Cert.RetForm
-- ==== Proof.Ret.KernelIdeal.Entry.lean ====
module

public import proofs.«01_k».proof.Proof.Ret.KernelIdeal.Frame
public import proofs.«01_k».proof.Proof.Ret.Decay
public import Idealize.ShloMosaic.Lib.Pipeline.ValueKit.Point

@[expose] public section

/-! What each grid point's blocks hold, as the launch's arguments: rows of the queries, keys, values, gates and residuals, and the
decay tables, whose entries are those of the real rates. -/

set_option maxRecDepth 16384

noncomputable section

namespace Cert.KernelIdeal.Ret

open Idealize.ShloMosaic Idealize.ShloMosaic.TcCoe Idealize.ShloMosaic.Tactic
open Idealize.SL.Sem
open Cert.KernelIdeal Cert.KernelIdeal.Gen Cert.RetForm

variable (m : (ℓ : Loc nD τ sig) → Buf (Elt Ideal) ℓ)

/-- Each window's block index at point `t`. -/
theorem idx : ∀ t : Fin cfg0.N, win0_0.index t = ![0, t.val, 0] ∧ win0_1.index t = ![0, t.val] ∧ win0_2.index t = ![0, 64 + t.val]
    ∧ win0_3.index t = ![0, t.val, 0] ∧ win0_4.index t = ![0, t.val, 0] ∧ win0_5.index t = ![0, t.val, 0]
    ∧ win0_6.index t = ![0, 0, 0] ∧ win0_7.index t = ![0, 0, 0] ∧ win0_8.index t = ![0, 0, 0] ∧ win0_9.index t = ![0, 0, 0]
    ∧ win0_10.index t = ![0, 0] ∧ win0_11.index t = ![0, 0] ∧ win0_12.index t = ![0, 0] ∧ win0_13.index t = ![0, 0]
    ∧ win0_14.index t = ![0, t.val, 0] :=
  (by decide +kernel : ∀ t : Fin grid0.N, _)

theorem t64 (t : Fin cfg0.N) : t.val < 64 := Nat.lt_of_lt_of_eq t.isLt N_0

/-! ## Where a block lies in its array -/

theorem e0 (t : Fin cfg0.N) (b : Fin 2) (i : Fin 256) (d : Fin 1024) :
    ((win0_0.blk t).view.emb (ix3 b i d) : S2x16384x1024.Idx) = ix3 b ⟨256 * t.val + i.val, by have := t64 t; omega⟩ d := by
  funext a
  apply Fin.ext
  fin_cases a
  · blk_simp [idx t]; rfl
  · blk_simp [idx t]; exact congrArg (· + i.val) (Nat.mul_comm _ _)
  · blk_simp [idx t]; rfl
theorem e1 (t : Fin cfg0.N) (d : Fin 1024) (i : Fin 256) :
    ((win0_1.blk t).view.emb (ix2 d i) : S1024x32768.Idx) = ix2 d (row 0 (256 * t.val + i.val)) := by
  have := t64 t
  funext a
  apply Fin.ext
  fin_cases a
  · blk_simp [idx t]; rfl
  · blk_simp [idx t]
    show t.val * 256 + i.val = (16384 * 0 + (256 * t.val + i.val)) % 32768
    omega
theorem e2 (t : Fin cfg0.N) (d : Fin 1024) (i : Fin 256) :
    ((win0_2.blk t).view.emb (ix2 d i) : S1024x32768.Idx) = ix2 d (row 1 (256 * t.val + i.val)) := by
  have := t64 t
  funext a
  apply Fin.ext
  fin_cases a
  · blk_simp [idx t]; rfl
  · blk_simp [idx t]
    show (64 + t.val) * 256 + i.val = (16384 * 1 + (256 * t.val + i.val)) % 32768
    omega
theorem e3 (t : Fin cfg0.N) (b : Fin 2) (i : Fin 256) (d : Fin 2048) :
    ((win0_3.blk t).view.emb (ix3 b i d) : S2x16384x2048.Idx) = ix3 b ⟨256 * t.val + i.val, by have := t64 t; omega⟩ d := by
  funext a
  apply Fin.ext
  fin_cases a
  · blk_simp [idx t]; rfl
  · blk_simp [idx t]; exact congrArg (· + i.val) (Nat.mul_comm _ _)
  · blk_simp [idx t]; rfl
theorem e4 (t : Fin cfg0.N) (b : Fin 2) (i : Fin 256) (d : Fin 2048) :
    ((win0_4.blk t).view.emb (ix3 b i d) : S2x16384x2048.Idx) = ix3 b ⟨256 * t.val + i.val, by have := t64 t; omega⟩ d := by
  funext a
  apply Fin.ext
  fin_cases a
  · blk_simp [idx t]; rfl
  · blk_simp [idx t]; exact congrArg (· + i.val) (Nat.mul_comm _ _)
  · blk_simp [idx t]; rfl
theorem e5 (t : Fin cfg0.N) (b : Fin 2) (i : Fin 256) (d : Fin 1024) :
    ((win0_5.blk t).view.emb (ix3 b i d) : S2x16384x1024.Idx) = ix3 b ⟨256 * t.val + i.val, by have := t64 t; omega⟩ d := by
  funext a
  apply Fin.ext
  fin_cases a
  · blk_simp [idx t]; rfl
  · blk_simp [idx t]; exact congrArg (· + i.val) (Nat.mul_comm _ _)
  · blk_simp [idx t]; rfl
theorem e6 (t : Fin cfg0.N) (x : Fin 4) (y : Fin 256) (z : Fin 256) :
    ((win0_6.blk t).view.emb (ix3 x y z) : S4x256x256.Idx) = ix3 x y z := by
  funext a
  apply Fin.ext
  fin_cases a <;> blk_simp [idx t]
theorem e7 (t : Fin cfg0.N) (x : Fin 4) (y : Fin 256) (z : Fin 256) :
    ((win0_7.blk t).view.emb (ix3 x y z) : S4x256x256.Idx) = ix3 x y z := by
  funext a
  apply Fin.ext
  fin_cases a <;> blk_simp [idx t]
theorem e8 (t : Fin cfg0.N) (x : Fin 4) (y : Fin 256) (z : Fin 256) :
    ((win0_8.blk t).view.emb (ix3 x y z) : S4x256x256.Idx) = ix3 x y z := by
  funext a
  apply Fin.ext
  fin_cases a <;> blk_simp [idx t]
theorem e9 (t : Fin cfg0.N) (x : Fin 4) (y : Fin 1) (z : Fin 512) :
    ((win0_9.blk t).view.emb (ix3 x y z) : S4x1x512.Idx) = ix3 x y z := by
  funext a
  apply Fin.ext
  fin_cases a <;> blk_simp [idx t]
theorem e10 (t : Fin cfg0.N) (x : Fin 1) (y : Fin 2048) :
    ((win0_10.blk t).view.emb (ix2 x y) : S1x2048.Idx) = ix2 x y := by
  funext a
  apply Fin.ext
  fin_cases a <;> blk_simp [idx t]
theorem e11 (t : Fin cfg0.N) (x : Fin 1) (y : Fin 2048) :
    ((win0_11.blk t).view.emb (ix2 x y) : S1x2048.Idx) = ix2 x y := by
  funext a
  apply Fin.ext
  fin_cases a <;> blk_simp [idx t]
theorem e12 (t : Fin cfg0.N) (x : Fin 2048) (y : Fin 1024) :
    ((win0_12.blk t).view.emb (ix2 x y) : S2048x1024.Idx) = ix2 x y := by
  funext a
  apply Fin.ext
  fin_cases a <;> blk_simp [idx t]
theorem e13 (t : Fin cfg0.N) (x : Fin 1) (y : Fin 1024) :
    ((win0_13.blk t).view.emb (ix2 x y) : S1x1024.Idx) = ix2 x y := by
  funext a
  apply Fin.ext
  fin_cases a <;> blk_simp [idx t]
theorem e14 (t : Fin cfg0.N) (b : Fin 2) (i : Fin 256) (d : Fin 1024) :
    ((win0_14.blk t).view.emb (ix3 b i d) : S2x16384x1024.Idx) = ix3 b ⟨256 * t.val + i.val, by have := t64 t; omega⟩ d := by
  funext a
  apply Fin.ext
  fin_cases a
  · blk_simp [idx t]; rfl
  · blk_simp [idx t]; exact congrArg (· + i.val) (Nat.mul_comm _ _)
  · blk_simp [idx t]; rfl

/-! ## What the blocks hold -/

theorem q_blk (c : Dev nD) (t : Fin cfg0.N) (b : Fin 2) (i : Fin 256) (d : Fin 1024) :
    iblk m c 0 t (ix3 b i d) = m (c, Proc.tc.devRef main_arg0) (ix2 (row b (256 * t + i)) d) := by
  blk_simp [iblk]
  rw [e0]
  dsimp only [V]
  simp only [List.flatten_cons, List.flatten_nil, List.append_nil, hostOps0, hostOps0_1, hostOps0_2, List.cons_append, List.nil_append,
    StableHlo.after_cons, StableHlo.after_nil]
  after_results_simp
  pointwise
  congr 2
  apply Fin.ext
  simp only [row]
  have := t64 t
  omega

theorem kt0_blk (c : Dev nD) (t : Fin cfg0.N) (d : Fin 1024) (i : Fin 256) :
    iblk m c 1 t (ix2 d i) = m (c, Proc.tc.devRef main_arg1) (ix2 d (row 0 (256 * t + i))) := by
  blk_simp [iblk]
  rw [e1]
  dsimp only [V]
  simp only [List.flatten_cons, List.flatten_nil, List.append_nil, hostOps0, hostOps0_1, hostOps0_2, List.cons_append, List.nil_append,
    StableHlo.after_cons, StableHlo.after_nil]
  after_results_simp

theorem kt1_blk (c : Dev nD) (t : Fin cfg0.N) (d : Fin 1024) (i : Fin 256) :
    iblk m c 2 t (ix2 d i) = m (c, Proc.tc.devRef main_arg1) (ix2 d (row 1 (256 * t + i))) := by
  blk_simp [iblk]
  rw [e2]
  dsimp only [V]
  simp only [List.flatten_cons, List.flatten_nil, List.append_nil, hostOps0, hostOps0_1, hostOps0_2, List.cons_append, List.nil_append,
    StableHlo.after_cons, StableHlo.after_nil]
  after_results_simp

theorem v_blk (c : Dev nD) (t : Fin cfg0.N) (b : Fin 2) (i : Fin 256) (d : Fin 2048) :
    iblk m c 3 t (ix3 b i d) = m (c, Proc.tc.devRef main_arg2) (ix2 (row b (256 * t + i)) d) := by
  blk_simp [iblk]
  rw [e3]
  dsimp only [V]
  simp only [List.flatten_cons, List.flatten_nil, List.append_nil, hostOps0, hostOps0_1, hostOps0_2, List.cons_append, List.nil_append,
    StableHlo.after_cons, StableHlo.after_nil]
  after_results_simp
  pointwise
  congr 2
  apply Fin.ext
  simp only [row]
  have := t64 t
  omega

theorem g_blk (c : Dev nD) (t : Fin cfg0.N) (b : Fin 2) (i : Fin 256) (d : Fin 2048) :
    iblk m c 4 t (ix3 b i d) = m (c, Proc.tc.devRef main_arg3) (ix2 (row b (256 * t + i)) d) := by
  blk_simp [iblk]
  rw [e4]
  dsimp only [V]
  simp only [List.flatten_cons, List.flatten_nil, List.append_nil, hostOps0, hostOps0_1, hostOps0_2, List.cons_append, List.nil_append,
    StableHlo.after_cons, StableHlo.after_nil]
  after_results_simp
  pointwise
  congr 2
  apply Fin.ext
  simp only [row]
  have := t64 t
  omega

theorem h_blk (c : Dev nD) (t : Fin cfg0.N) (b : Fin 2) (i : Fin 256) (d : Fin 1024) :
    iblk m c 5 t (ix3 b i d) = m (c, Proc.tc.devRef main_arg4) (ix2 (row b (256 * t + i)) d) := by
  blk_simp [iblk]
  rw [e5]
  dsimp only [V]
  simp only [List.flatten_cons, List.flatten_nil, List.append_nil, hostOps0, hostOps0_1, hostOps0_2, List.cons_append, List.nil_append,
    StableHlo.after_cons, StableHlo.after_nil]
  after_results_simp
  pointwise
  congr 2
  apply Fin.ext
  simp only [row]
  have := t64 t
  omega

theorem dm_blk (c : Dev nD) (t : Fin cfg0.N) (h : Fin 4) (i j : Fin 256) :
    iblk m c 6 t (ix3 h i j) = ((dmR (ell h) i j : ℝ) : EReal) := by
  blk_simp [iblk]
  rw [e6]
  dsimp only [V]
  simp only [List.flatten_cons, List.flatten_nil, List.append_nil, hostOps0, hostOps0_1, hostOps0_2, List.cons_append, List.nil_append,
    StableHlo.after_cons, StableHlo.after_nil]
  after_results_simp
  simp -implicitDefEqProofs only [StableHlo.TRef.toBuf, StableHlo.TRef.ofBuf, cast_cast, cast_eq, id_eq]
  pointwise
  exact dm_eq h i j h.isLt i.isLt j.isLt

theorem qd_blk (c : Dev nD) (t : Fin cfg0.N) (h : Fin 4) (i d : Fin 256) :
    iblk m c 7 t (ix3 h i d) = ((qdR (ell h) i : ℝ) : EReal) := by
  blk_simp [iblk]
  rw [e7]
  dsimp only [V]
  simp only [List.flatten_cons, List.flatten_nil, List.append_nil, hostOps0, hostOps0_1, hostOps0_2, List.cons_append, List.nil_append,
    StableHlo.after_cons, StableHlo.after_nil]
  after_results_simp
  pointwise
  rw [count i (by omega), ← EReal.coe_one, ← EReal.coe_add]
  exact decay_eq h h.isLt _

theorem kd_blk (c : Dev nD) (t : Fin cfg0.N) (h : Fin 4) (d i : Fin 256) :
    iblk m c 8 t (ix3 h d i) = ((kdR (ell h) 256 i : ℝ) : EReal) := by
  blk_simp [iblk]
  rw [e8]
  dsimp only [V]
  simp only [List.flatten_cons, List.flatten_nil, List.append_nil, hostOps0, hostOps0_1, hostOps0_2, List.cons_append, List.nil_append,
    StableHlo.after_cons, StableHlo.after_nil]
  after_results_simp
  pointwise
  rw [count i (by omega), b255, ← EReal.coe_sub]
  refine (decay_eq h h.isLt _).trans ?_
  unfold kdR
  norm_num

theorem cd_blk (c : Dev nD) (t : Fin cfg0.N) (h : Fin 4) (e : Fin 512) :
    iblk m c 9 t (ix3 h 0 e) = ((cdR (ell h) 256 : ℝ) : EReal) := by
  blk_simp [iblk]
  rw [e9]
  dsimp only [V]
  simp only [List.flatten_cons, List.flatten_nil, List.append_nil, hostOps0, hostOps0_1, hostOps0_2, List.cons_append, List.nil_append,
    StableHlo.after_cons, StableHlo.after_nil]
  after_results_simp
  pointwise
  rw [b256]
  refine (decay_eq h h.isLt _).trans ?_
  unfold cdR
  norm_num

theorem gw_blk (c : Dev nD) (t : Fin cfg0.N) (x : Fin 2048) :
    iblk m c 10 t (ix2 0 x) = m (c, Proc.tc.devRef main_arg5) (ix1 x) := by
  blk_simp [iblk]
  rw [e10]
  dsimp only [V]
  simp only [List.flatten_cons, List.flatten_nil, List.append_nil, hostOps0, hostOps0_1, hostOps0_2, List.cons_append, List.nil_append,
    StableHlo.after_cons, StableHlo.after_nil]
  after_results_simp
  pointwise

theorem gb_blk (c : Dev nD) (t : Fin cfg0.N) (x : Fin 2048) :
    iblk m c 11 t (ix2 0 x) = m (c, Proc.tc.devRef main_arg6) (ix1 x) := by
  blk_simp [iblk]
  rw [e11]
  dsimp only [V]
  simp only [List.flatten_cons, List.flatten_nil, List.append_nil, hostOps0, hostOps0_1, hostOps0_2, List.cons_append, List.nil_append,
    StableHlo.after_cons, StableHlo.after_nil]
  after_results_simp
  pointwise

theorem w_blk (c : Dev nD) (t : Fin cfg0.N) (x : Fin 2048) (n : Fin 1024) :
    iblk m c 12 t (ix2 x n) = m (c, Proc.tc.devRef main_arg7) (ix2 x n) := by
  blk_simp [iblk]
  rw [e12]
  dsimp only [V]
  simp only [List.flatten_cons, List.flatten_nil, List.append_nil, hostOps0, hostOps0_1, hostOps0_2, List.cons_append, List.nil_append,
    StableHlo.after_cons, StableHlo.after_nil]
  after_results_simp
  pointwise

theorem fw_blk (c : Dev nD) (t : Fin cfg0.N) (n : Fin 1024) :
    iblk m c 13 t (ix2 0 n) = m (c, Proc.tc.devRef main_arg8) (ix1 n) := by
  blk_simp [iblk]
  rw [e13]
  dsimp only [V]
  simp only [List.flatten_cons, List.flatten_nil, List.append_nil, hostOps0, hostOps0_1, hostOps0_2, List.cons_append, List.nil_append,
    StableHlo.after_cons, StableHlo.after_nil]
  after_results_simp
  pointwise

end Cert.KernelIdeal.Ret
-- ==== Proof.Ret.KernelIdeal.Value.lean ====
module

public import proofs.«01_k».proof.Proof.Ret.KernelIdeal.BlockA
public import proofs.«01_k».proof.Proof.Ret.KernelIdeal.Entry

@[expose] public section

/-! What the kernel computes: the state after each grid point is the recurrence's in chunks of 256 rows, and the result array is the
layer in those chunks. -/

set_option maxRecDepth 16384

noncomputable section

namespace Cert.KernelIdeal.Ret

open Idealize.ShloMosaic Idealize.ShloMosaic.TcCoe Idealize.ShloMosaic.Tactic
open Idealize.SL.Sem
open Cert.KernelIdeal Cert.KernelIdeal.Gen Cert.RetForm

variable (m : (ℓ : Loc nD τ sig) → Buf (Elt Ideal) ℓ)

/-- The launch's queries, keys and values. -/
abbrev Qa (c : Dev nD) : S32768x1024.Idx → EReal := m (c, Proc.tc.devRef main_arg0)
abbrev Ka (c : Dev nD) : S1024x32768.Idx → EReal := m (c, Proc.tc.devRef main_arg1)
abbrev Va (c : Dev nD) : S32768x2048.Idx → EReal := m (c, Proc.tc.devRef main_arg2)

theorem kt_blk (c : Dev nD) (t : Fin cfg0.N) (b : Fin 2) (d : Fin 1024) (i : Fin 256) :
    ktOf (iblk m c 1 t) (iblk m c 2 t) b (ix2 d i) = Ka m c (ix2 d (row b (256 * t + i))) := by
  fin_cases b
  · exact kt0_blk m c t d i
  · exact kt1_blk m c t d i

section
variable {Q : S32768x1024.Idx → EReal} {K : S1024x32768.Idx → EReal} {V : S32768x2048.Idx → EReal} {t : ℕ} {b : Fin 2}
  {x1 : Vec Ideal S2x256x1024 .bf16} {x2 x3 : Vec Ideal S1024x256 .bf16} {x4 : Vec Ideal S2x256x2048 .bf16} {x7 x8 x9 : Vec Ideal S4x256x256 .f32}
  {x10 : Vec Ideal S4x1x512 .f32} {xs : Vec Ideal S8x256x512 .f32}
  (hq : ∀ (i : Fin 256) d, x1 (ix3 b i d) = Q (ix2 (row b (256 * t + i)) d))
  (hk : ∀ d (i : Fin 256), ktOf x2 x3 b (ix2 d i) = K (ix2 d (row b (256 * t + i))))
  (hv : ∀ (i : Fin 256) d, x4 (ix3 b i d) = V (ix2 (row b (256 * t + i)) d))
  (h7 : ∀ h i j, x7 (ix3 h i j) = ((dmR (ell h) i j : ℝ) : EReal))
  (h8 : ∀ h i d, x8 (ix3 h i d) = ((qdR (ell h) i : ℝ) : EReal))
  (h9 : ∀ h d i, x9 (ix3 h d i) = ((kdR (ell h) 256 i : ℝ) : EReal))
  (h10 : ∀ h e, x10 (ix3 h 0 e) = ((cdR (ell h) 256 : ℝ) : EReal))
  {h : Fin 4} (hxs : ∀ d e, xs (ix3 (sx b h) d e) = stH 256 K V b h t d e)
include hk hv h9 h10 hxs in
/-- A point's new state, from blocks that hold chunk `t`'s rows and the recurrence's state before it. -/
theorem bSt_of (d : Fin 256) (e : Fin 512) : bSt x2 x3 x4 x9 x10 xs b h d e = stH 256 K V b h (t + 1) d e := by
  refine Eq.trans ?_ (stH_succ 256 K V b h t d e).symm
  refine congrArg₂ (· + ·) (congrArg₂ (· * ·) (hxs d e) (h10 h e)) (Finset.sum_congr rfl fun j _ => ?_)
  exact congrArg₂ (· * ·) (congrArg₂ (· * ·) (hk _ _) (h9 _ _ _)) (hv _ _)

include hq hk hv h7 h8 hxs in
/-- A point's rows before the norm, from the same. -/
theorem bO_of (i : Fin 256) (e : Fin 512) : bO x1 x2 x3 x4 x7 x8 xs b h i e = oH 256 Q K V b t i h e := by
  refine congrArg₂ (· + ·) (Finset.sum_congr rfl fun j _ => ?_) (Finset.sum_congr rfl fun d _ => ?_)
  · exact congrArg₂ (· * ·) (congrArg₂ (· * ·) (Finset.sum_congr rfl fun d _ => congrArg₂ (· * ·) (hq _ _) (hk _ _)) (h7 _ _ _)) (hv _ _)
  · exact congrArg₂ (· * ·) (congrArg₂ (· * ·) (hq _ _) (h8 _ _ _)) (hxs _ _)
end

/-- A point's new state, from the recurrence's state before it. -/
theorem bSt_blk (c : Dev nD) (t : Fin cfg0.N) (xs : Vec Ideal S8x256x512 .f32) (b : Fin 2) (h : Fin 4)
    (hxs : ∀ d e, xs (ix3 (sx b h) d e) = stH 256 (Ka m c) (Va m c) b h t.val d e) (d : Fin 256) (e : Fin 512) :
    bSt (iblk m c 1 t) (iblk m c 2 t) (iblk m c 3 t) (iblk m c 8 t) (iblk m c 9 t) xs b h d e = stH 256 (Ka m c) (Va m c) b h (t.val + 1) d e :=
  bSt_of (fun d i => kt_blk m c t b d i) (fun i d => v_blk m c t b i d) (fun h d i => kd_blk m c t h d i) (fun h e => cd_blk m c t h e) hxs d e

/-- A point's rows of the result, from the recurrence's state before it. -/
theorem bOut_blk (c : Dev nD) (t : Fin cfg0.N) (xs : Vec Ideal S8x256x512 .f32) (b : Fin 2)
    (hxs : ∀ h d e, xs (ix3 (sx b h) d e) = stH 256 (Ka m c) (Va m c) b h t.val d e) (i : Fin 256) (n : Fin 1024) :
    bOut (iblk m c 0 t) (iblk m c 1 t) (iblk m c 2 t) (iblk m c 3 t) (iblk m c 4 t) (iblk m c 5 t) (iblk m c 6 t) (iblk m c 7 t) (iblk m c 10 t) (iblk m c 11 t) (iblk m c 12 t) (iblk m c 13 t) xs b i n
      = layer 256 (by decide) (Qa m c) (Ka m c) (Va m c) (m (c, Proc.tc.devRef main_arg3)) (m (c, Proc.tc.devRef main_arg4))
          (m (c, Proc.tc.devRef main_arg5)) (m (c, Proc.tc.devRef main_arg6)) (m (c, Proc.tc.devRef main_arg7))
          (m (c, Proc.tc.devRef main_arg8)) b (256 * t.val + i) n := by
  have h1 : (256 * t.val + i.val) / 256 = t.val := by omega
  have h2 : (⟨(256 * t.val + i.val) % 256, Nat.mod_lt _ (by decide)⟩ : Fin 256) = i := Fin.ext (by show (256 * t.val + i.val) % 256 = i.val; omega)
  unfold layer
  rw [h1, h2]
  refine tail_congr (fun h e => ?_) (fun x => g_blk m c t b i x) (fun x => h_blk m c t b i x) (fun x => gw_blk m c t x)
    (fun x => gb_blk m c t x) (fun x n => w_blk m c t x n) (fun n => fw_blk m c t n) n
  exact bO_of (fun i d => q_blk m c t b i d) (fun d i => kt_blk m c t b d i) (fun i d => v_blk m c t b i d) (fun h i j => dm_blk m c t h i j)
    (fun h i d => qd_blk m c t h i d) (hxs h) i e

/-- What a point's body leaves, over its blocks. -/
theorem runA_state (c : Dev nD) (t : Fin cfg0.N) (h : isFirst (grid0.coords t)) (b : Fin 2) (k : Fin 4) (d : Fin 256) (e : Fin 512) :
    stateOf (runA (F := Ideal) m c t h).2.1 (ix3 (sx b k) d e) = bSt (iblk m c 1 t) (iblk m c 2 t) (iblk m c 3 t) (iblk m c 8 t) (iblk m c 9 t) zeroSt b k d e :=
  state_eqA c (grid0.coords t) (g1 t) (h1 t) (g2 t) (h2 t) (g3 t) (h3 t) (g4 t) (h4 t) (g5 t) (h5 t) (g6 t) (h6 t) (g7 t) (h7 t) (g8 t) (h8 t) (g9 t) (h9 t) (g10 t) (h10 t) (g11 t) (h11 t) (g12 t) (h12 t) (g13 t) (h13 t) (g14 t) (h14 t) (g15 t) (h15 t) sc16 (Memref.isWhole_whole _) sc17 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) b k d e
theorem runA_out (c : Dev nD) (t : Fin cfg0.N) (h : isFirst (grid0.coords t)) (b : Fin 2) (i : Fin 256) (n : Fin 1024) :
    outOf (runA (F := Ideal) m c t h).1 (ix3 b i n) = bOut (iblk m c 0 t) (iblk m c 1 t) (iblk m c 2 t) (iblk m c 3 t) (iblk m c 4 t) (iblk m c 5 t) (iblk m c 6 t) (iblk m c 7 t) (iblk m c 10 t) (iblk m c 11 t) (iblk m c 12 t) (iblk m c 13 t) zeroSt b i n :=
  out_eqA c (grid0.coords t) (g1 t) (h1 t) (g2 t) (h2 t) (g3 t) (h3 t) (g4 t) (h4 t) (g5 t) (h5 t) (g6 t) (h6 t) (g7 t) (h7 t) (g8 t) (h8 t) (g9 t) (h9 t) (g10 t) (h10 t) (g11 t) (h11 t) (g12 t) (h12 t) (g13 t) (h13 t) (g14 t) (h14 t) (g15 t) (h15 t) sc16 (Memref.isWhole_whole _) sc17 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) b i n
theorem runB_state (c : Dev nD) (t : Fin cfg0.N) (h : ¬isFirst (grid0.coords t)) (xs : Vec Ideal S8x256x512 .f32) (b : Fin 2) (k : Fin 4) (d : Fin 256) (e : Fin 512) :
    stateOf (runB (F := Ideal) m c t h xs).2.1 (ix3 (sx b k) d e) = bSt (iblk m c 1 t) (iblk m c 2 t) (iblk m c 3 t) (iblk m c 8 t) (iblk m c 9 t) xs b k d e :=
  state_eq c (grid0.coords t) (g1 t) (h1 t) (g2 t) (h2 t) (g3 t) (h3 t) (g4 t) (h4 t) (g5 t) (h5 t) (g6 t) (h6 t) (g7 t) (h7 t) (g8 t) (h8 t) (g9 t) (h9 t) (g10 t) (h10 t) (g11 t) (h11 t) (g12 t) (h12 t) (g13 t) (h13 t) (g14 t) (h14 t) (g15 t) (h15 t) sc16 (Memref.isWhole_whole _) sc17 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs b k d e
theorem runB_out (c : Dev nD) (t : Fin cfg0.N) (h : ¬isFirst (grid0.coords t)) (xs : Vec Ideal S8x256x512 .f32) (b : Fin 2) (i : Fin 256) (n : Fin 1024) :
    outOf (runB (F := Ideal) m c t h xs).1 (ix3 b i n) = bOut (iblk m c 0 t) (iblk m c 1 t) (iblk m c 2 t) (iblk m c 3 t) (iblk m c 4 t) (iblk m c 5 t) (iblk m c 6 t) (iblk m c 7 t) (iblk m c 10 t) (iblk m c 11 t) (iblk m c 12 t) (iblk m c 13 t) xs b i n :=
  out_eq c (grid0.coords t) (g1 t) (h1 t) (g2 t) (h2 t) (g3 t) (h3 t) (g4 t) (h4 t) (g5 t) (h5 t) (g6 t) (h6 t) (g7 t) (h7 t) (g8 t) (h8 t) (g9 t) (h9 t) (g10 t) (h10 t) (g11 t) (h11 t) (g12 t) (h12 t) (g13 t) (h13 t) (g14 t) (h14 t) (g15 t) (h15 t) sc16 (Memref.isWhole_whole _) sc17 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs b i n

/-- The state a first point leaves, and a later one's from the state before it. -/
theorem first_state (c : Dev nD) (t : Fin cfg0.N) (h0 : t.val = 0) (b : Fin 2) (h : Fin 4) (d : Fin 256) (e : Fin 512) :
    (leaves (F := Ideal) m c t.val t.isLt).2 (ix3 (sx b h) d e) = stH 256 (Ka m c) (Va m c) b h (t.val + 1) d e := by
  rw [leaves_A m c t h0]
  dsimp only
  rw [runA_state]
  exact bSt_blk m c t zeroSt b h (fun _ _ => by rw [h0]; rfl) d e
theorem next_state (c : Dev nD) (t : Fin cfg0.N) (h0 : ¬t.val = 0) (b : Fin 2) (h : Fin 4)
    (ih : ∀ d e, (leaves (F := Ideal) m c (t.val - 1) (Nat.lt_of_le_of_lt (Nat.sub_le _ _) t.isLt)).2 (ix3 (sx b h) d e) = stH 256 (Ka m c) (Va m c) b h t.val d e)
    (d : Fin 256) (e : Fin 512) :
    (leaves (F := Ideal) m c t.val t.isLt).2 (ix3 (sx b h) d e) = stH 256 (Ka m c) (Va m c) b h (t.val + 1) d e := by
  rw [leaves_B m c t h0]
  dsimp only
  rw [runB_state]
  exact bSt_blk m c t _ b h ih d e

/-- The state each point leaves is the recurrence's. -/
theorem state_val (c : Dev nD) (n : ℕ) : ∀ (hn : n < cfg0.N) (b : Fin 2) (h : Fin 4) (d : Fin 256) (e : Fin 512),
    (leaves (F := Ideal) m c n hn).2 (ix3 (sx b h) d e) = stH 256 (Ka m c) (Va m c) b h (n + 1) d e := by
  induction n with
  | zero => exact fun hn b h d e => first_state m c ⟨0, hn⟩ rfl b h d e
  | succ n ih => exact fun hn b h d e => next_state m c ⟨n + 1, hn⟩ (Nat.succ_ne_zero n) b h (fun d e => ih _ b h d e) d e

/-- The rows each point leaves are the layer's. -/
theorem out_val (c : Dev nD) (t : Fin cfg0.N) (b : Fin 2) (i : Fin 256) (n : Fin 1024) :
    (leaves (F := Ideal) m c t.val t.isLt).1 (ix3 b i n)
      = layer 256 (by decide) (Qa m c) (Ka m c) (Va m c) (m (c, Proc.tc.devRef main_arg3)) (m (c, Proc.tc.devRef main_arg4))
          (m (c, Proc.tc.devRef main_arg5)) (m (c, Proc.tc.devRef main_arg6)) (m (c, Proc.tc.devRef main_arg7))
          (m (c, Proc.tc.devRef main_arg8)) b (256 * t.val + i) n := by
  by_cases h0 : t.val = 0
  · rw [leaves_A m c t h0]
    dsimp only
    rw [runA_out]
    exact bOut_blk m c t zeroSt b (fun _ _ _ => by rw [h0]; rfl) i n
  · rw [leaves_B m c t h0]
    dsimp only
    rw [runB_out]
    refine bOut_blk m c t _ b (fun h d e => ?_) i n
    have hs := state_val m c (t.val - 1) (Nat.lt_of_le_of_lt (Nat.sub_le _ _) t.isLt) b h d e
    rwa [Nat.sub_add_cancel (Nat.pos_of_ne_zero h0)] at hs

/-- The result array. -/
def result (c : Dev nD) : S2x16384x1024.Idx → EReal := fun y =>
  layer 256 (by decide) (Qa m c) (Ka m c) (Va m c) (m (c, Proc.tc.devRef main_arg3)) (m (c, Proc.tc.devRef main_arg4))
    (m (c, Proc.tc.devRef main_arg5)) (m (c, Proc.tc.devRef main_arg6)) (m (c, Proc.tc.devRef main_arg7))
    (m (c, Proc.tc.devRef main_arg8)) (y 0 : Fin 2) (y 1 : Fin 16384) (y 2)

theorem result_arr (c : Dev nD) : (dats m 0 c).arrAt 14 (cfgs 0).N = result m c := by
  refine (dats m 0 c).arrAt_eq_of_covers 14 _ (by decide +kernel) fun t hf y => ?_
  blk_simp
  rw [after_15]
  obtain ⟨b, i, n, rfl⟩ : ∃ (b : Fin 2) (i : Fin 256) (n : Fin 1024), y = ix3 b i n := ⟨y 0, y 1, y 2, eq_ix3 y⟩
  exact (out_val m c t b i n).trans (congrArg (result m c) (e14 t b i n)).symm

end Cert.KernelIdeal.Ret
-- ==== Proof.Ret.Ref.Step.lean ====
module

public import proofs.«01_k».proof.Proof.Ret.RefFrame
public import Idealize.ShloMosaic.Lib.DynamicIndex
public import Idealize.ShloMosaic.Lib.Pipeline.ValueKit.Point

@[expose] public section

/-! One trip of the reference's scan at an index: the state decays and takes in the chunk's keys and values; the chunk's rows of the
cross-chunk output are written, the other rows kept. -/

set_option maxRecDepth 16384

noncomputable section

namespace Cert.ReferenceIdeal.Ret

open Idealize.ShloMosaic Idealize.ShloMosaic.TcCoe Idealize.ShloMosaic.StableHlo Idealize.ShloMosaic.Tactic
open Idealize.SL.Sem Cert.ReferenceIdeal Cert.ReferenceIdeal.Gen Cert.ReferenceIdeal.Value

/-- The counter's word is the trip's number. -/
theorem word_toInt {k : ℕ} (hk : k < 129) : (BitVec.ofNat 32 k).toInt = (k : Int) := toInt_ofNat_of_lt (by omega)

/-- The loop's carried arrays: decayed queries, decayed keys, values, the chunk's decay, the state, the cross-chunk output. -/
abbrev cQ (V : Valuation τ sig (Elt Ideal)) : S128x2x128x4x256.Idx → EReal := V (Proc.devRef .tc main_v75_0)
abbrev cK (V : Valuation τ sig (Elt Ideal)) : S128x2x128x4x256.Idx → EReal := V (Proc.devRef .tc main_v75_1)
abbrev cV (V : Valuation τ sig (Elt Ideal)) : S128x2x128x4x512.Idx → EReal := V (Proc.devRef .tc main_v75_2)
abbrev cD (V : Valuation τ sig (Elt Ideal)) : S4.Idx → EReal := V (Proc.devRef .tc main_v75_3)
abbrev cS (V : Valuation τ sig (Elt Ideal)) : S2x4x256x512.Idx → EReal := V (Proc.devRef .tc main_v75_5)
abbrev cO (V : Valuation τ sig (Elt Ideal)) : S128x2x128x4x512.Idx → EReal := V (Proc.devRef .tc main_v75_6)

variable (V0 : Valuation τ sig (Elt Ideal)) (k : Fin 128)
  (hk : V0 (Proc.devRef .tc main_v75_4) = fun _ => BitVec.ofNat 32 k.val)
include hk

/-- A trip's slices start at its chunk. -/
theorem starts (a : Fin 5) : (((![V0 (Proc.devRef .tc main_v75_4), constantI S_ 32 0#32, constantI S_ 32 0#32, constantI S_ 32 0#32, constantI S_ 32 0#32] : Fin 5 → (⟨S_, .i32⟩ : BufTy).Contents (Elt Ideal))) a (Shape.Idx.first h_S_)).toInt
    = ((![k.val, 0, 0, 0, 0] : Fin 5 → ℕ) a : Int) := by
  fin_cases a
  · show (V0 (Proc.devRef .tc main_v75_4) (Shape.Idx.first h_S_)).toInt = _
    rw [hk]
    exact word_toInt (by have := k.isLt; omega)
  all_goals rfl

theorem fits256 : S128x2x128x4x256.Slices (![k.val, 0, 0, 0, 0] : Fin 5 → ℕ) S1x2x128x4x256 :=
  ⟨rfl, fun a => by fin_cases a <;> simp <;> omega⟩
theorem fits512 : S128x2x128x4x512.Slices (![k.val, 0, 0, 0, 0] : Fin 5 → ℕ) S1x2x128x4x512 :=
  ⟨rfl, fun a => by fin_cases a <;> simp <;> omega⟩

/-- The update's clamped start is its chunk's. -/
theorem upd (a : Fin 5) : (min (max ((((![V0 (Proc.devRef .tc main_v75_4), constantI S_ 32 0#32, constantI S_ 32 0#32, constantI S_ 32 0#32, constantI S_ 32 0#32] : Fin 5 → (⟨S_, .i32⟩ : BufTy).Contents (Elt Ideal))) a (Shape.Idx.first h_S_)).toInt) 0)
      ((S128x2x128x4x512.size a - S1x2x128x4x512.size a : ℕ) : Int)).toNat = (![k.val, 0, 0, 0, 0] : Fin 5 → ℕ) a := by
  rw [starts V0 k hk]
  fin_cases a <;> simp
  omega

/-- The state after a trip. -/
theorem state_step (b : Fin 2) (h : Fin 4) (d : Fin 256) (e : Fin 512) :
    (step_main_v75_5 (F := Ideal) V0 : S2x4x256x512.Idx → EReal) (ix4 b h d e)
      = cS V0 (ix4 b h d e) * cD V0 (ix1 h)
        + ∑ j : Fin 128, cK V0 (ix5 k b j h d) * cV V0 (ix5 k b j h e) := by
  unfold step_main_v75_5
  rw [Host.dynamicSlice_eq_extractStridedSlice (off := ![k.val, 0, 0, 0, 0]) (hoff := fits256 V0 k hk) (hs := starts V0 k hk),
    Host.dynamicSlice_eq_extractStridedSlice (off := ![k.val, 0, 0, 0, 0]) (hoff := fits512 V0 k hk) (hs := starts V0 k hk)]
  rw [id_eq]
  pointwise

/-- The cross-chunk output after a trip. -/
theorem out_step (n : Fin 128) (b : Fin 2) (i : Fin 128) (h : Fin 4) (e : Fin 512) :
    (step_main_v75_6 (F := Ideal) V0 : S128x2x128x4x512.Idx → EReal) (ix5 n b i h e)
      = if n = k then ∑ d : Fin 256, cS V0 (ix4 b h d e) * cQ V0 (ix5 k b i h d)
        else cO V0 (ix5 n b i h e) := by
  unfold step_main_v75_6
  rw [Host.dynamicSlice_eq_extractStridedSlice (off := ![k.val, 0, 0, 0, 0]) (hoff := fits256 V0 k hk) (hs := starts V0 k hk),
    Host.dynamicUpdateSlice_eq_updateSlice (adj := ![k.val, 0, 0, 0, 0]) (h' := fits512 V0 k hk) (hadj := upd V0 k hk)]
  rw [id_eq]
  pointwise
  by_cases hn : n = k
  · subst hn
    rw [if_pos rfl, dif_pos]
    intro a
    fin_cases a <;> simp
    omega
  · rw [if_neg hn, dif_neg]
    intro hall
    have h0 := hall 0
    simp at h0
    exact hn (Fin.ext (by omega))

end Cert.ReferenceIdeal.Ret
-- ==== Proof.Ret.Ref.Entry.lean ====
module

public import proofs.«01_k».proof.Proof.Ret.Ref.Step
public import proofs.«01_k».proof.Proof.Ret.Decay

@[expose] public section

/-! What the reference's scan is entered with, as the launch's arguments. -/

set_option maxRecDepth 16384

noncomputable section

namespace Cert.ReferenceIdeal.Ret

open Idealize.ShloMosaic Idealize.ShloMosaic.TcCoe Idealize.ShloMosaic.StableHlo Idealize.ShloMosaic.Tactic
open Idealize.SL.Sem Cert.ReferenceIdeal Cert.ReferenceIdeal.Gen Cert.ReferenceIdeal.Value Cert.RetForm

variable (m : (ℓ : Loc nD τ sig) → Buf (Elt Ideal) ℓ)

/-- The arguments. -/
abbrev Qa (c : Dev nD) : S32768x1024.Idx → EReal := m (c, Proc.tc.devRef main_arg0)
abbrev Ka (c : Dev nD) : S1024x32768.Idx → EReal := m (c, Proc.tc.devRef main_arg1)
abbrev Va (c : Dev nD) : S32768x2048.Idx → EReal := m (c, Proc.tc.devRef main_arg2)

/-- The contents the scan is entered with. -/
abbrev En (c : Dev nD) : Valuation τ sig (Elt Ideal) := entryContents (preI (F := Ideal)) m c

theorem row_at (b : Fin 2) (n i : Fin 128) (x : Fin 32768) (hx : x.val = b.val * 16384 + n.val * 128 + i.val) : x = row b (128 * n + i) := by
  apply Fin.ext
  simp only [row]
  omega

theorem qs_at (Q : S32768x1024.Idx → EReal) (b : Fin 2) (n i : Fin 128) (h : Fin 4) (d : Fin 256) (x : Fin 32768) (y : Fin 1024)
    (hx : x.val = b.val * 16384 + n.val * 128 + i.val) (hy : y.val = h.val * 256 + d.val) : Q (ix2 x y) = qs Q b h (128 * n + i) d := by
  rw [row_at b n i x hx, show y = cq h d from Fin.ext (by simp only [cq]; omega)]
  rfl

theorem ks_at (K : S1024x32768.Idx → EReal) (b : Fin 2) (n i : Fin 128) (h : Fin 4) (d : Fin 256) (x : Fin 32768) (y : Fin 1024)
    (hx : x.val = b.val * 16384 + n.val * 128 + i.val) (hy : y.val = h.val * 256 + d.val) : K (ix2 y x) = ks K b h (128 * n + i) d := by
  rw [row_at b n i x hx, show y = cq h d from Fin.ext (by simp only [cq]; omega)]
  rfl

theorem vs_at (V : S32768x2048.Idx → EReal) (b : Fin 2) (n i : Fin 128) (h : Fin 4) (e : Fin 512) (x : Fin 32768) (y : Fin 2048)
    (hx : x.val = b.val * 16384 + n.val * 128 + i.val) (hy : y.val = h.val * 512 + e.val) : V (ix2 x y) = vs V b h (128 * n + i) e := by
  rw [row_at b n i x hx, show y = cv h e from Fin.ext (by simp only [cv]; omega)]
  rfl

/-- The decay across a chunk. -/
theorem entry_d (c : Dev nD) (h : Fin 4) : cD (En m c) (ix1 h) = ((cdR (ell h) 128 : ℝ) : EReal) := by
  simp only [entryContents, afterL_cons, afterL_nil]
  after_reads_simp
  rw [id_eq]
  pointwise
  rw [b128]
  refine (decay_eq h h.isLt _).trans ?_
  unfold cdR
  norm_num

/-- The scanned values. -/
theorem entry_v (c : Dev nD) (n : Fin 128) (b : Fin 2) (i : Fin 128) (h : Fin 4) (e : Fin 512) :
    cV (En m c) (ix5 n b i h e) = vs (Va m c) b h (128 * n + i) e := by
  simp only [entryContents, afterL_cons, afterL_nil]
  after_reads_simp
  rw [id_eq]
  pointwise
  exact vs_at (Va m c) b n i h e _ _ rfl rfl

/-- The scanned queries, each decayed from its chunk's start. -/
theorem entry_q (c : Dev nD) (n : Fin 128) (b : Fin 2) (i : Fin 128) (h : Fin 4) (d : Fin 256) :
    cQ (En m c) (ix5 n b i h d) = qs (Qa m c) b h (128 * n + i) d * ((qdR (ell h) i : ℝ) : EReal) := by
  simp only [entryContents, afterL_cons, afterL_nil]
  after_reads_simp
  rw [id_eq]
  pointwise
  refine congrArg₂ (· * ·) (qs_at (Qa m c) b n i h d _ _ rfl rfl) ?_
  rw [count i (by omega), ← EReal.coe_one, ← EReal.coe_add]
  exact decay_eq h h.isLt _

/-- The scanned keys, each decayed to its chunk's end. -/
theorem entry_k (c : Dev nD) (n : Fin 128) (b : Fin 2) (i : Fin 128) (h : Fin 4) (d : Fin 256) :
    cK (En m c) (ix5 n b i h d) = ks (Ka m c) b h (128 * n + i) d * ((kdR (ell h) 128 i : ℝ) : EReal) := by
  simp only [entryContents, afterL_cons, afterL_nil]
  after_reads_simp
  rw [id_eq]
  pointwise
  refine congrArg₂ (· * ·) (ks_at (Ka m c) b n i h d _ _ rfl rfl) ?_
  rw [count i (by omega), b127, ← EReal.coe_sub]
  refine (decay_eq h h.isLt _).trans ?_
  unfold kdR
  norm_num

/-- The state starts at zero. -/
theorem entry_s (c : Dev nD) (b : Fin 2) (h : Fin 4) (d : Fin 256) (e : Fin 512) : cS (En m c) (ix4 b h d e) = 0 := by
  simp only [entryContents, afterL_cons, afterL_nil]
  after_reads_simp
  rw [id_eq]
  pointwise

/-- The gates. -/
theorem entry_g (c : Dev nD) (b : Fin 2) (t : Fin 16384) (x : Fin 2048) :
    (En m c (Proc.devRef .tc main_v8) : S2x16384x2048.Idx → EReal) (ix3 b t x) = m (c, Proc.tc.devRef main_arg3) (ix2 (row b t) x) := by
  simp only [entryContents, afterL_cons, afterL_nil]
  after_reads_simp
  pointwise
  refine congrArg (m (c, Proc.tc.devRef main_arg3)) (congrArg (ix2 · x) (Fin.ext ?_))
  simp only [row]
  omega

/-- Each chunk's own part. -/
theorem entry_i (c : Dev nD) (b : Fin 2) (n : Fin 128) (i : Fin 128) (h : Fin 4) (e : Fin 512) :
    (show S2x128x128x4x512.Idx → EReal from En m c (Proc.devRef .tc main_v42)) (ix5 b n i h e)
      = ∑ j : Fin 128, (∑ d, qs (Qa m c) b h (128 * n + i) d * ks (Ka m c) b h (128 * n + j) d) * ((dmR (ell h) i j : ℝ) : EReal)
          * vs (Va m c) b h (128 * n + j) e := by
  simp only [entryContents, afterL_cons, afterL_nil]
  after_reads_simp
  simp -implicitDefEqProofs only [StableHlo.TRef.toBuf, StableHlo.TRef.ofBuf, cast_cast, cast_eq, id_eq]
  pointwise
  refine Finset.sum_congr rfl fun j _ => ?_
  rw [mul_comm]
  refine congrArg₂ (· * ·) (congrArg₂ (· * ·) (Finset.sum_congr rfl fun d _ => ?_) ?_) (vs_at (Va m c) b n j h e _ _ rfl rfl)
  · exact congrArg₂ (· * ·) (qs_at (Qa m c) b n i h d _ _ rfl rfl) (ks_at (Ka m c) b n j h d _ _ rfl rfl)
  · exact dm_eq h i j h.isLt (by omega) (by omega)

end Cert.ReferenceIdeal.Ret
-- ==== Proof.Ret.Ref.Post.lean ====
module

public import proofs.«01_k».proof.Proof.Ret.RefFrame
public import proofs.«01_k».proof.Proof.Ret.Math
public import Idealize.ShloMosaic.Lib.Pipeline.ValueKit.Point

@[expose] public section

/-! What the reference does after its scan, from any contents: group norm, gate, output projection, residual, final norm. -/

set_option maxRecDepth 16384

noncomputable section

namespace Cert.ReferenceIdeal.Ret

open Idealize.ShloMosaic Idealize.ShloMosaic.TcCoe Idealize.ShloMosaic.StableHlo Idealize.ShloMosaic.Tactic
open Idealize.SL.Sem Cert.ReferenceIdeal Cert.ReferenceIdeal.Gen Cert.ReferenceIdeal.Value Cert.RetForm

variable (W : Valuation τ sig (Elt Ideal))

/-- The arrays read after the scan: the chunks' own parts and cross-chunk parts, the normed rows, the gates and their values, and the
    residual, weights and scales. -/
abbrev w42 : S2x128x128x4x512.Idx → EReal := W (Proc.devRef .tc main_v42)
abbrev w75 : S128x2x128x4x512.Idx → EReal := W (Proc.devRef .tc main_v75_6)
abbrev w103 : S2x16384x2048.Idx → EReal := W (Proc.devRef .tc main_v103)
abbrev w104 : S2x16384x2048.Idx → EReal := W (Proc.devRef .tc main_v104)
abbrev w8 : S2x16384x2048.Idx → EReal := W (Proc.devRef .tc main_v8)
abbrev wH : S32768x1024.Idx → EReal := W (Proc.devRef .tc main_arg4)
abbrev wGw : S2048.Idx → EReal := W (Proc.devRef .tc main_arg5)
abbrev wGb : S2048.Idx → EReal := W (Proc.devRef .tc main_arg6)
abbrev wO : S2048x1024.Idx → EReal := W (Proc.devRef .tc main_arg7)
abbrev wF : S1024.Idx → EReal := W (Proc.devRef .tc main_arg8)
abbrev w121 : S2x16384x1024.Idx → EReal := W (Proc.devRef .tc main_v121)

/-- The head norm, with its scale and offset. -/
theorem post_norm (b : Fin 2) (t : Fin 16384) (x : Fin 2048) :
    w103 (after (hostOps0_3 (F := Ideal)) W) (ix3 b t x)
      = gn (fun e => w42 W (ix5 b (⟨t.val / 128, by omega⟩ : Fin 128) (⟨t.val % 128, by omega⟩ : Fin 128) (hd x) e)
          + w75 W (ix5 (⟨t.val / 128, by omega⟩ : Fin 128) b (⟨t.val % 128, by omega⟩ : Fin 128) (hd x) e)) (pl x)
          * wGw W (ix1 x) + wGb W (ix1 x) := by
  unfold hostOps0_3
  after_reads_simp
  pointwise
  rfl

/-- The gate. -/
theorem post_gate (b : Fin 2) (t : Fin 16384) (x : Fin 2048) :
    w104 (after (hostOps0_4 (F := Ideal)) W) (ix3 b t x) = silT (w8 W (ix3 b t x)) := by
  unfold hostOps0_4
  after_reads_simp
  simp -implicitDefEqProofs only [StableHlo.TRef.toBuf, StableHlo.TRef.ofBuf, cast_cast, cast_eq, id_eq]
  pointwise
  exact (silT_eq _).symm

theorem row_res (b : Fin 2) (t : Fin 16384) (x : Fin 32768) (hx : x.val = b.val * 16384 + t.val) : x = row b t := by
  apply Fin.ext
  simp only [row]
  omega

/-- The projection, the residual and the final norm. -/
theorem post_out (b : Fin 2) (t : Fin 16384) (n : Fin 1024) :
    w121 (after (hostOps0_5 (F := Ideal)) W) (ix3 b t n)
      = rms (fun n => wH W (ix2 (row b t) n) + ∑ x, (w104 W (ix3 b t x) * w103 W (ix3 b t x)) * wO W (ix2 x n)) n * wF W (ix1 n) := by
  unfold hostOps0_5
  after_reads_simp
  pointwise
  rw [← row_res b t ⟨b.val * 16384 + t.val, by omega⟩ rfl]
  rfl

end Cert.ReferenceIdeal.Ret
-- ==== Proof.Ret.Ref.Value.lean ====
module

public import proofs.«01_k».proof.Proof.Ret.Ref.Entry
public import proofs.«01_k».proof.Proof.Ret.Ref.Post

@[expose] public section

/-! What the reference computes: its scan is the recurrence in chunks of 128 rows, and its result the layer in those chunks. -/

set_option maxRecDepth 16384

noncomputable section

namespace Cert.ReferenceIdeal.Ret

open Idealize.ShloMosaic Idealize.ShloMosaic.TcCoe Idealize.ShloMosaic.StableHlo Idealize.ShloMosaic.Tactic
open Idealize.SL.Sem Cert.ReferenceIdeal Cert.ReferenceIdeal.Gen Cert.ReferenceIdeal.Value Cert.RetForm

variable (m : (ℓ : Loc nD τ sig) → Buf (Elt Ideal) ℓ) (c : Dev nD)

/-- The carried contents before trip `k`. -/
def X (k : ℕ) : Valuation τ sig (Elt Ideal) := STEP^[k] (En m c)
theorem X_succ (k : ℕ) : X m c (k + 1) = STEP (X m c k) := Function.iterate_succ_apply' STEP k _

theorem X_q (k : ℕ) : cQ (X m c k) = cQ (En m c) := by
  induction k with
  | zero => rfl
  | succ k ih => rw [X_succ]; exact (STEP_main_v75_0 _).trans ih
theorem X_k (k : ℕ) : cK (X m c k) = cK (En m c) := by
  induction k with
  | zero => rfl
  | succ k ih => rw [X_succ]; exact (STEP_main_v75_1 _).trans ih
theorem X_v (k : ℕ) : cV (X m c k) = cV (En m c) := by
  induction k with
  | zero => rfl
  | succ k ih => rw [X_succ]; exact (STEP_main_v75_2 _).trans ih
theorem X_d (k : ℕ) : cD (X m c k) = cD (En m c) := by
  induction k with
  | zero => rfl
  | succ k ih => rw [X_succ]; exact (STEP_main_v75_3 _).trans ih

/-- The counter before trip `k` is `k`. -/
theorem X_ctr (k : ℕ) : X m c k (Proc.devRef .tc main_v75_4) = fun _ => BitVec.ofNat 32 k := by
  induction k with
  | zero => exact ctr_entry m c
  | succ k ih =>
    rw [X_succ, STEP_main_v75_4]
    unfold step_main_v75_4
    rw [ih]
    funext y
    show BitVec.ofNat 32 k + 1#32 = BitVec.ofNat 32 (k + 1)
    rw [BitVec.ofNat_add]

/-- The state before trip `k` is the recurrence's. -/
theorem X_state : ∀ (k : ℕ) (hk : k ≤ 128) (b : Fin 2) (h : Fin 4) (d : Fin 256) (e : Fin 512),
    cS (X m c k) (ix4 b h d e) = stH 128 (Ka m c) (Va m c) b h k d e := by
  intro k
  induction k with
  | zero => exact fun _ b h d e => entry_s m c b h d e
  | succ k ih =>
    intro hk b h d e
    rw [X_succ]
    refine (congrFun (STEP_main_v75_5 _) _).trans ((state_step (X m c k) ⟨k, by omega⟩ (X_ctr m c k) b h d e).trans ?_)
    rw [ih (by omega), X_d, X_k, X_v, entry_d, stH_succ]
    refine congrArg₂ (· + ·) rfl (Finset.sum_congr rfl fun j _ => ?_)
    rw [entry_k, entry_v]

/-- The cross-chunk rows that the trips before `k` have written. -/
theorem X_out : ∀ (k : ℕ) (hk : k ≤ 128) (n : Fin 128) (hn : n.val < k) (b : Fin 2) (i : Fin 128) (h : Fin 4) (e : Fin 512),
    cO (X m c k) (ix5 n b i h e)
      = ∑ d, qs (Qa m c) b h (128 * n + i) d * ((qdR (ell h) i : ℝ) : EReal) * stH 128 (Ka m c) (Va m c) b h n d e := by
  intro k
  induction k with
  | zero => exact fun _ n hn => absurd hn (Nat.not_lt_zero _)
  | succ k ih =>
    intro hk n hn b i h e
    rw [X_succ]
    refine (congrFun (STEP_main_v75_6 _) _).trans ((out_step (X m c k) ⟨k, by omega⟩ (X_ctr m c k) n b i h e).trans ?_)
    by_cases hnk : n = ⟨k, by omega⟩
    · rw [if_pos hnk, X_q]
      have hv : n.val = k := congrArg Fin.val hnk
      refine (Finset.sum_congr rfl fun d _ => ?_ : (∑ d : Fin 256, (cS (X m c k) (ix4 b h d e) * cQ (En m c) (ix5 _ b i h d) : EReal)) = _)
      rw [mul_comm, ← hnk, entry_q, X_state m c k (by omega), hv]
    · rw [if_neg hnk]
      exact ih (by omega) n (by have : n.val ≠ k := fun hc => hnk (Fin.ext hc); omega) b i h e

/-- The contents after the scan's last test. -/
abbrev Wf : Valuation τ sig (Elt Ideal) := after (condOps (F := Ideal)) (atK m 128 c)

/-- A buffer that the scan does not write is after it as it was before. -/
theorem Wf_keep (r : Ref sig .tc) (hc : r ∉ condOps_W) (h₀ : r ∉ while0Ops0_W) (h₁ : r ∉ while0Ops0_1_W) (h₂ : r ∉ while0Ops0_2_W)
    (h₃ : r ∉ while0Ops0_3_W) (h₄ : r ∉ while0Ops0_4_W) (h₅ : r ∉ while0Ops0_5_W) :
    Wf m c (Proc.devRef .tc r) = En m c (Proc.devRef .tc r) := by
  rw [Wf, after_of_writes_sub condOps _ condOps_writes hc]
  exact trips_keep m c r hc h₀ h₁ h₂ h₃ h₄ h₅ 128

theorem Wf_out : w75 (Wf m c) = cO (X m c 128) := by
  show Wf m c (Proc.devRef .tc main_v75_6) = X m c 128 (Proc.devRef .tc main_v75_6)
  rw [Wf, after_of_writes_sub condOps _ condOps_writes (by decide)]
  exact atK_agree m c 128 main_v75_6 (by decide)
theorem Wf_in : w42 (Wf m c) = (show S2x128x128x4x512.Idx → EReal from En m c (Proc.devRef .tc main_v42)) :=
  Wf_keep m c main_v42 (by decide) (by decide) (by decide) (by decide) (by decide) (by decide) (by decide)
theorem Wf_gate : w8 (Wf m c) = (show S2x16384x2048.Idx → EReal from En m c (Proc.devRef .tc main_v8)) :=
  Wf_keep m c main_v8 (by decide) (by decide) (by decide) (by decide) (by decide) (by decide) (by decide)
theorem Wf_arg (r : Ref sig .tc) (a₀ : r ∉ hostOps0_W) (a₁ : r ∉ hostOps0_1_W) (a₂ : r ∉ hostOps0_2_W) (hc : r ∉ condOps_W)
    (h₀ : r ∉ while0Ops0_W) (h₁ : r ∉ while0Ops0_1_W) (h₂ : r ∉ while0Ops0_2_W)
    (h₃ : r ∉ while0Ops0_3_W) (h₄ : r ∉ while0Ops0_4_W) (h₅ : r ∉ while0Ops0_5_W) :
    Wf m c (Proc.devRef .tc r) = m (c, Proc.tc.devRef r) :=
  (Wf_keep m c r hc h₀ h₁ h₂ h₃ h₄ h₅).trans (entry_keep m c r a₀ a₁ a₂)

/-- The result array is the layer in chunks of 128 rows. -/
theorem result_val (b : Fin 2) (t : Fin 16384) (n : Fin 1024) :
    w121 (finalContents (condOps (F := Ideal)) preI bodyI postI 128 m c) (ix3 b t n)
      = layer 128 (by decide) (Qa m c) (Ka m c) (Va m c) (m (c, Proc.tc.devRef main_arg3)) (m (c, Proc.tc.devRef main_arg4))
          (m (c, Proc.tc.devRef main_arg5)) (m (c, Proc.tc.devRef main_arg6)) (m (c, Proc.tc.devRef main_arg7))
          (m (c, Proc.tc.devRef main_arg8)) b t n := by
  simp only [finalContents, afterL_cons, afterL_nil]
  refine (post_out _ b t n).trans ?_
  have k5 : ∀ (V : Valuation τ sig (Elt Ideal)) (r : Ref sig .tc), r ∉ hostOps0_3_W → r ∉ hostOps0_4_W →
      after (hostOps0_4 (F := Ideal)) (after (hostOps0_3 (F := Ideal)) V) (Proc.devRef .tc r) = V (Proc.devRef .tc r) := fun V r h3 h4 => by
    rw [after_of_writes_sub hostOps0_4 _ hostOps0_4_writes h4, after_of_writes_sub hostOps0_3 _ hostOps0_3_writes h3]
  have a4 : ∀ y, wH (after (hostOps0_4 (F := Ideal)) (after (hostOps0_3 (F := Ideal)) (Wf m c))) y = (m (c, Proc.tc.devRef main_arg4) : S32768x1024.Idx → EReal) y :=
    congrFun ((k5 _ main_arg4 (by decide) (by decide)).trans
      (Wf_arg m c main_arg4 (by decide) (by decide) (by decide) (by decide) (by decide) (by decide) (by decide) (by decide) (by decide) (by decide)))
  have a7 : ∀ y, wO (after (hostOps0_4 (F := Ideal)) (after (hostOps0_3 (F := Ideal)) (Wf m c))) y = (m (c, Proc.tc.devRef main_arg7) : S2048x1024.Idx → EReal) y :=
    congrFun ((k5 _ main_arg7 (by decide) (by decide)).trans
      (Wf_arg m c main_arg7 (by decide) (by decide) (by decide) (by decide) (by decide) (by decide) (by decide) (by decide) (by decide) (by decide)))
  have a8 : ∀ y, wF (after (hostOps0_4 (F := Ideal)) (after (hostOps0_3 (F := Ideal)) (Wf m c))) y = (m (c, Proc.tc.devRef main_arg8) : S1024.Idx → EReal) y :=
    congrFun ((k5 _ main_arg8 (by decide) (by decide)).trans
      (Wf_arg m c main_arg8 (by decide) (by decide) (by decide) (by decide) (by decide) (by decide) (by decide) (by decide) (by decide) (by decide)))
  have a5 : ∀ y, wGw (Wf m c) y = (m (c, Proc.tc.devRef main_arg5) : S2048.Idx → EReal) y :=
    congrFun (Wf_arg m c main_arg5 (by decide) (by decide) (by decide) (by decide) (by decide) (by decide) (by decide) (by decide) (by decide) (by decide))
  have a6 : ∀ y, wGb (Wf m c) y = (m (c, Proc.tc.devRef main_arg6) : S2048.Idx → EReal) y :=
    congrFun (Wf_arg m c main_arg6 (by decide) (by decide) (by decide) (by decide) (by decide) (by decide) (by decide) (by decide) (by decide) (by decide))
  have g : ∀ x, w104 (after (hostOps0_4 (F := Ideal)) (after (hostOps0_3 (F := Ideal)) (Wf m c))) (ix3 b t x)
      = silT ((m (c, Proc.tc.devRef main_arg3) : S32768x2048.Idx → EReal) (ix2 (row b t) x)) := fun x => by
    refine (post_gate _ b t x).trans (congrArg silT ?_)
    refine (congrFun (after_of_writes_sub hostOps0_3 _ hostOps0_3_writes (by decide) : w8 (after (hostOps0_3 (F := Ideal)) (Wf m c)) = w8 (Wf m c)) _).trans ?_
    exact (congrFun (Wf_gate m c) _).trans (entry_g m c b t x)
  have o : ∀ x, w103 (after (hostOps0_4 (F := Ideal)) (after (hostOps0_3 (F := Ideal)) (Wf m c))) (ix3 b t x)
      = gn (fun e => oH 128 (Qa m c) (Ka m c) (Va m c) b (t.val / 128) ⟨t.val % 128, Nat.mod_lt _ (by decide)⟩ (hd x) e) (pl x)
        * (m (c, Proc.tc.devRef main_arg5) : S2048.Idx → EReal) (ix1 x) + (m (c, Proc.tc.devRef main_arg6) : S2048.Idx → EReal) (ix1 x) := fun x => by
    refine (congrFun (after_of_writes_sub hostOps0_4 _ hostOps0_4_writes (by decide)
      : w103 (after (hostOps0_4 (F := Ideal)) (after (hostOps0_3 (F := Ideal)) (Wf m c))) = w103 (after (hostOps0_3 (F := Ideal)) (Wf m c))) _).trans ?_
    refine (post_norm _ b t x).trans ?_
    refine congrArg₂ (· + ·) (congrArg₂ (· * ·) (congrFun (congrArg gn (funext fun e => ?_)) _) (a5 _)) (a6 _)
    refine congrArg₂ (· + ·) ((congrFun (Wf_in m c) _).trans (entry_i m c b _ _ _ e)) ?_
    exact (congrFun (Wf_out m c) _).trans (X_out m c 128 le_rfl _ (by omega) b _ _ e)
  simp only [a4, a7, a8, g, o]
  rfl

end Cert.ReferenceIdeal.Ret
-- ==== Proof.Ret.Join.lean ====
module

public import proofs.«01_k».proof.Proof.Ret.Finite
public import proofs.«01_k».proof.Proof.Ret.KernelIdeal.Value
public import proofs.«01_k».proof.Proof.Ret.Ref.Value
public import Idealize.ShloMosaic.Lib.Claim

@[expose] public section

/-! Kernel and reference compute the same array: the retention layer does not depend on how its rows are cut in chunks. -/

set_option maxRecDepth 16384

noncomputable section

namespace Cert.RetJoin

open Idealize.ShloMosaic Idealize.ShloMosaic.TcCoe Idealize.ShloMosaic.Tactic Idealize.SL.Sem
open Cert.KernelIdeal (S32768x1024 S1024x32768 S32768x2048 S2048 S2048x1024 S1024)

/-- The kernel ends with its result the layer in chunks of 256 rows, its arguments unchanged. -/
theorem kernel_runs (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v58) = Cert.KernelIdeal.Ret.result m c) :=
  (θ_run _ _ _).mono (fun r h c => ((h c).1 14).trans (Cert.KernelIdeal.Ret.result_arr m c)) (Cert.KernelIdeal.Ret.run_main m g)

/-- The reference ends with its result the layer in chunks of 128 rows. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD, ∀ (b : Fin 2) (t : Fin 16384) (n : Fin 1024),
        (r.2.mem ((c.tc : Thread Cert.ReferenceIdeal.nD Cert.ReferenceIdeal.τ).loc Cert.ReferenceIdeal.main_v121) : Cert.ReferenceIdeal.S2x16384x1024.Idx → EReal) (ix3 b t n)
          = Cert.RetForm.layer 128 (by decide) (Cert.ReferenceIdeal.Ret.Qa m c) (Cert.ReferenceIdeal.Ret.Ka m c) (Cert.ReferenceIdeal.Ret.Va m c)
              (m (c, Proc.tc.devRef Cert.ReferenceIdeal.main_arg3)) (m (c, Proc.tc.devRef Cert.ReferenceIdeal.main_arg4))
              (m (c, Proc.tc.devRef Cert.ReferenceIdeal.main_arg5)) (m (c, Proc.tc.devRef Cert.ReferenceIdeal.main_arg6))
              (m (c, Proc.tc.devRef Cert.ReferenceIdeal.main_arg7)) (m (c, Proc.tc.devRef Cert.ReferenceIdeal.main_arg8)) b t n) :=
  (θ_run _ _ _).mono (fun r h c b t n =>
    (congrFun (h c Cert.ReferenceIdeal.main_v121 rfl) (ix3 b t n)).trans (Cert.ReferenceIdeal.Ret.result_val m c b t n)) (Cert.ReferenceIdeal.Value.run_fold m g)

/-- The layer of equal arguments. -/
theorem layer_args {Q Q' : S32768x1024.Idx → EReal} {K K' : S1024x32768.Idx → EReal} {V V' G G' : S32768x2048.Idx → EReal}
    {H H' : S32768x1024.Idx → EReal} {gw gw' gb gb' : S2048.Idx → EReal} {W W' : S2048x1024.Idx → EReal} {fw fw' : S1024.Idx → EReal}
    (e0 : Q = Q') (e1 : K = K') (e2 : V = V') (e3 : G = G') (e4 : H = H') (e5 : gw = gw') (e6 : gb = gb') (e7 : W = W') (e8 : fw = fw')
    (b : Fin 2) (t : Fin 16384) (n : Fin 1024) :
    Cert.RetForm.layer 128 (by decide) Q K V G H gw gb W fw b t n = Cert.RetForm.layer 128 (by decide) Q' K' V' G' H' gw' gb' W' fw' b t n := by
  subst e0 e1 e2 e3 e4 e5 e6 e7 e8
  rfl

/-- The value claim. -/
theorem algebraic : Cert.algebraic_KernelIdeal_ReferenceIdeal_pre_finite_rows (hKernelIdeal := Cert.KernelIdeal.Gen.facts)
    (hReferenceIdeal := Cert.ReferenceIdeal.Gen.facts) (hPre_finite_rows := Cert.RetFinite.facts) := by
  intro m g m' g' hpre hin
  refine ⟨fun c => Cert.KernelIdeal.Ret.result m c, ?_, ?_⟩
  · exact (θ_run _ _ _).mono (fun r h c => ⟨h.1 c, h.2.1 c⟩) (θ_run_and (kernel_runs m g) (Cert.KernelIdeal.Ret.frame_ok m g))
  · refine (θ_run _ _ _).mono (fun r h c => ⟨?_, h.2.1 c⟩) (θ_run_and (reference_runs m' g') (Cert.ReferenceIdeal.Ret.frame_ok m' g'))
    have e := h.1 c
    obtain ⟨e0, e1, e2, e3, e4, e5, e6, e7, e8⟩ := hin c
    refine funext fun (y : Cert.ReferenceIdeal.S2x16384x1024.Idx) => ?_
    rw [eq_ix3 y]
    refine (e (y 0) (y 1) (y 2)).trans ?_
    refine Eq.trans ?_ (Cert.RetForm.layer_agree (Cert.KernelIdeal.Ret.Qa m c) (Cert.KernelIdeal.Ret.Ka m c) (Cert.KernelIdeal.Ret.Va m c) _ _ _ _ _ _
      (@Cert.RetFinite.q_real Cert.RetFinite.facts _ _ _ _ _ _ _ _ _ (hpre c))
      (@Cert.RetFinite.k_real Cert.RetFinite.facts _ _ _ _ _ _ _ _ _ (hpre c))
      (@Cert.RetFinite.v_real Cert.RetFinite.facts _ _ _ _ _ _ _ _ _ (hpre c)) (y 0) (y 1) (y 2)).symm
    exact layer_args e0 e1 e2 e3 e4 e5 e6 e7 e8 (y 0) (y 1) (y 2)

end Cert.RetJoin
-- ==== Proof.Norm.Form.lean ====
module

public import proofs.«01_k».proof.Proof.Ret.Form

@[expose] public section

/-! A row of the stream normed, then projected on one column of a weight. -/

noncomputable section

namespace Cert.NormForm

open Idealize.ShloMosaic Cert.RetForm

/-- The row `x` divided by its root mean square and scaled by `nw`, against the column `w`. -/
def proj (x nw w : Fin 1024 → EReal) : EReal := ∑ k, rms x k * nw k * w k

theorem proj_zero (x nw : Fin 1024 → EReal) : proj x nw (fun _ => 0) = 0 := by
  simp only [proj, mul_zero, Finset.sum_const_zero]

/-- Column `j` of the part of the weight that starts at `off`. -/
def wcol {n : ℕ} (off : ℕ) (h : off + n ≤ 4624) (j : Fin n) : Fin 4624 := ⟨off + j.val, by have := j.isLt; omega⟩

/-- Row `r` of the stream `X`, normed and scaled by `N`, against column `off + j` of the weight `W`. -/
def projAt {n : ℕ} (off : ℕ) (h : off + n ≤ 4624) (X : (⟨2, ![32768, 1024]⟩ : Shape).Idx → EReal) (N : (⟨1, ![1024]⟩ : Shape).Idx → EReal)
    (W : (⟨2, ![1024, 4624]⟩ : Shape).Idx → EReal) (r : Fin 32768) (j : Fin n) : EReal :=
  proj (fun k => X (ix2 r k)) (fun k => N (ix1 k)) (fun k => W (ix2 k (wcol off h j)))

/-- The step sizes: 16 projected columns, then zeros. -/
def stepAt (X : (⟨2, ![32768, 1024]⟩ : Shape).Idx → EReal) (N : (⟨1, ![1024]⟩ : Shape).Idx → EReal)
    (W : (⟨2, ![1024, 4624]⟩ : Shape).Idx → EReal) (r : Fin 32768) (j : Fin 128) : EReal :=
  if h : j.val < 16 then projAt 4608 (by decide) X N W r ⟨j.val, h⟩ else 0

/-- A zero weight column gives a zero step size. -/
theorem step_eq (X : (⟨2, ![32768, 1024]⟩ : Shape).Idx → EReal) (N : (⟨1, ![1024]⟩ : Shape).Idx → EReal)
    (W : (⟨2, ![1024, 4624]⟩ : Shape).Idx → EReal) (r : Fin 32768) (j : Fin 128) :
    proj (fun k => X (ix2 r k)) (fun k => N (ix1 k)) (fun k => if h : j.val < 16 then W (ix2 k ⟨4608 + j.val, by omega⟩) else 0) = stepAt X N W r j := by
  unfold stepAt
  by_cases h : j.val < 16
  · simp only [dif_pos h]; rfl
  · simp only [dif_neg h]; exact proj_zero _ _

/-- The integer zero as a real. -/
theorem sitofp_zero : (FloatOps.sitofp (F := Ideal) FTy.f32 (0#32 : BitVec 32) : EReal) = 0 := by
  show (((0#32 : BitVec 32).toInt : ℝ) : EReal) = 0
  simp

end Cert.NormForm
-- ==== Proof.Norm.Kernel.lean ====
module

public import proofs.«01_k».proof.Proof.Norm.Form
public import proofs.«01_k».proof.Proof.Gen.Kernel3Ideal.Value
public import Idealize.ShloMosaic.Lib.Pointwise
public import Idealize.ShloMosaic.Lib.Pipeline.ValueKit
public import Idealize.ShloMosaic.Lib.Pipeline.ValueKit.Point

@[expose] public section

/-! The first block's projections, as the kernel computes them: each grid point norms 512 rows and projects them on four weights. -/

set_option maxRecDepth 16384

noncomputable section

namespace Cert.Kernel3Ideal.Norm

open Idealize.ShloMosaic Idealize.ShloMosaic.TcCoe Idealize.ShloMosaic.Tactic
open Idealize.SL.Sem
open Cert.Kernel3Ideal Cert.Kernel3Ideal.Gen Cert.RetForm Cert.NormForm

variable (m : (ℓ : Loc nD τ sig) → Buf (Elt Ideal) ℓ)

/-- The stream, the norm's scale and the weights, as launched. -/
def Xa (c : Dev nD) : S32768x1024.Idx → EReal := m (c, Proc.tc.devRef main_arg0)
def Na (c : Dev nD) : S1024.Idx → EReal := m (c, Proc.tc.devRef main_arg1)
def Wa (c : Dev nD) : S1024x4624.Idx → EReal := m (c, Proc.tc.devRef main_arg2)

/-- Each window's block index at point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

theorem t64 (t : Fin cfg0.N) : t.val < 64 := Nat.lt_of_lt_of_eq t.isLt N_0

/-- Row `i` of point `t`'s tile. -/
def trow (t : Fin cfg0.N) (i : Fin 512) : Fin 32768 := ⟨512 * t.val + i.val, by have := t64 t; omega⟩

theorem z0 : (![0, 0] : Fin 2 → ℕ) = fun _ => 0 := funext fun a => by fin_cases a <;> rfl

/-! ## Where a block lies in its array -/

theorem e0 (t : Fin cfg0.N) (i : Fin 512) (d : Fin 1024) :
    ((win0_0.blk t).view.emb (ix2 i d) : S32768x1024.Idx) = ix2 (trow t i) d := by
  funext a
  apply Fin.ext
  fin_cases a
  · blk_simp [idx t]; exact congrArg (· + i.val) (Nat.mul_comm _ _)
  · blk_simp [idx t]; rfl
theorem e6 (t : Fin cfg0.N) (i : Fin 512) (d : Fin 2048) :
    ((win0_6.blk t).view.emb (ix2 i d) : S32768x2048.Idx) = ix2 (trow t i) d := by
  funext a
  apply Fin.ext
  fin_cases a
  · blk_simp [idx t]; exact congrArg (· + i.val) (Nat.mul_comm _ _)
  · blk_simp [idx t]; rfl
theorem e7 (t : Fin cfg0.N) (i : Fin 512) (d : Fin 1024) :
    ((win0_7.blk t).view.emb (ix2 i d) : S32768x1024.Idx) = ix2 (trow t i) d := by
  funext a
  apply Fin.ext
  fin_cases a
  · blk_simp [idx t]; exact congrArg (· + i.val) (Nat.mul_comm _ _)
  · blk_simp [idx t]; rfl
theorem e8 (t : Fin cfg0.N) (i : Fin 512) (d : Fin 1536) :
    ((win0_8.blk t).view.emb (ix2 i d) : S32768x1536.Idx) = ix2 (trow t i) d := by
  funext a
  apply Fin.ext
  fin_cases a
  · blk_simp [idx t]; exact congrArg (· + i.val) (Nat.mul_comm _ _)
  · blk_simp [idx t]; rfl
theorem e9 (t : Fin cfg0.N) (i : Fin 512) (d : Fin 128) :
    ((win0_9.blk t).view.emb (ix2 i d) : S32768x128.Idx) = ix2 (trow t i) d := by
  funext a
  apply Fin.ext
  fin_cases a
  · blk_simp [idx t]; exact congrArg (· + i.val) (Nat.mul_comm _ _)
  · blk_simp [idx t]; rfl
theorem e2 (t : Fin cfg0.N) (x : Fin 1024) (y : Fin 2048) :
    ((win0_2.blk t).view.emb (ix2 x y) : S1024x2048.Idx) = ix2 x y := by
  funext a
  apply Fin.ext
  fin_cases a <;> blk_simp [idx t]
theorem e3 (t : Fin cfg0.N) (x : Fin 1024) (y : Fin 1024) :
    ((win0_3.blk t).view.emb (ix2 x y) : S1024x1024.Idx) = ix2 x y := by
  funext a
  apply Fin.ext
  fin_cases a <;> blk_simp [idx t]
theorem e4 (t : Fin cfg0.N) (x : Fin 1024) (y : Fin 1536) :
    ((win0_4.blk t).view.emb (ix2 x y) : S1024x1536.Idx) = ix2 x y := by
  funext a
  apply Fin.ext
  fin_cases a <;> blk_simp [idx t]
theorem e5 (t : Fin cfg0.N) (x : Fin 1024) (y : Fin 128) :
    ((win0_5.blk t).view.emb (ix2 x y) : S1024x128.Idx) = ix2 x y := by
  funext a
  apply Fin.ext
  fin_cases a <;> blk_simp [idx t]
theorem e1 (t : Fin cfg0.N) (x : Fin 1) (y : Fin 1024) :
    ((win0_1.blk t).view.emb (ix2 x y) : S1x1024.Idx) = ix2 x y := by
  funext a
  apply Fin.ext
  fin_cases a <;> blk_simp [idx t]

/-! ## What the blocks hold -/

theorem x_blk (c : Dev nD) (t : Fin cfg0.N) (i : Fin 512) (d : Fin 1024) : iblk m c 0 t (ix2 i d) = Xa m c (ix2 (trow t i) d) := by
  blk_simp [iblk]
  rw [e0]
  exact congrFun (V_main_arg0 m c) _
theorem n_blk (c : Dev nD) (t : Fin cfg0.N) (z : Fin 1) (d : Fin 1024) : iblk m c 1 t (ix2 z d) = Na m c (ix1 d) := by
  blk_simp [iblk]
  rw [e1]
  dsimp only [V]
  simp only [List.flatten_cons, List.flatten_nil, List.append_nil, hostOps0, hostOps0_1, hostOps0_2, List.cons_append, List.nil_append,
    StableHlo.after_cons, StableHlo.after_nil]
  after_results_simp
  pointwise
  rfl
theorem wz_blk (c : Dev nD) (t : Fin cfg0.N) (k : Fin 1024) (j : Fin 2048) :
    iblk m c 2 t (ix2 k j) = Wa m c (ix2 k (wcol 0 (by decide) j)) := by
  blk_simp [iblk]
  rw [e2]
  dsimp only [V]
  simp only [List.flatten_cons, List.flatten_nil, List.append_nil, hostOps0, hostOps0_1, hostOps0_2, List.cons_append, List.nil_append,
    StableHlo.after_cons, StableHlo.after_nil]
  after_results_simp
  pointwise
  exact congrArg (Wa m c) (congrArg (ix2 k) (Fin.ext (Nat.zero_add _).symm))
theorem wu_blk (c : Dev nD) (t : Fin cfg0.N) (k : Fin 1024) (j : Fin 1024) :
    iblk m c 3 t (ix2 k j) = Wa m c (ix2 k (wcol 2048 (by decide) j)) := by
  blk_simp [iblk]
  rw [e3]
  dsimp only [V]
  simp only [List.flatten_cons, List.flatten_nil, List.append_nil, hostOps0, hostOps0_1, hostOps0_2, List.cons_append, List.nil_append,
    StableHlo.after_cons, StableHlo.after_nil]
  after_results_simp
  pointwise
  rfl
theorem wx3_blk (c : Dev nD) (t : Fin cfg0.N) (k : Fin 1024) (j : Fin 1536) :
    iblk m c 4 t (ix2 k j) = Wa m c (ix2 k (wcol 3072 (by decide) j)) := by
  blk_simp [iblk]
  rw [e4]
  dsimp only [V]
  simp only [List.flatten_cons, List.flatten_nil, List.append_nil, hostOps0, hostOps0_1, hostOps0_2, List.cons_append, List.nil_append,
    StableHlo.after_cons, StableHlo.after_nil]
  after_results_simp
  pointwise
  rfl
/-- The column of the step sizes' weight, zero past its 16 columns. -/
def padW (c : Dev nD) (k : Fin 1024) (j : Fin 128) : EReal :=
  if h : j.val < 16 then Wa m c (ix2 k ⟨4608 + j.val, by omega⟩) else 0
theorem wd_blk (c : Dev nD) (t : Fin cfg0.N) (k : Fin 1024) (j : Fin 128) : iblk m c 5 t (ix2 k j) = padW m c k j := by
  blk_simp [iblk]
  rw [e5]
  dsimp only [V]
  simp only [List.flatten_cons, List.flatten_nil, List.append_nil, hostOps0, hostOps0_1, hostOps0_2, List.cons_append, List.nil_append,
    StableHlo.after_cons, StableHlo.after_nil]
  after_results_simp
  simp -implicitDefEqProofs only [StableHlo.TRef.toBuf, StableHlo.TRef.ofBuf, cast_cast, cast_eq, id_eq]
  pointwise
  exact dite_congr rfl (fun _ => rfl) (fun _ => sitofp_zero)

/-! ## What the body computes -/

theorem out6_eq (x0 : Vec Ideal S512x1024 .f32) (x1 : Vec Ideal S1x1024 .f32) (x2 : Vec Ideal S1024x2048 .bf16) (x3 : Vec Ideal S1024x1024 .bf16)
    (x4 : Vec Ideal S1024x1536 .bf16) (x5 : Vec Ideal S1024x128 .bf16) (i : Fin 512) (j : Fin 2048) :
    out0_6 x0 x1 x2 x3 x4 x5 (ix2 i j) = proj (fun k => x0 (ix2 i k)) (fun k => x1 (ix2 0 k)) (fun k => x2 (ix2 k j)) := by
  unfold out0_6
  rw [View.canon_unit_zero z0, View.ld_unit_zero z0, View.ld_unit_zero z0, View.ld_unit_zero z0]
  unfold k0_pay3 k0_pay2
  pointwise
  rfl
theorem out7_eq (x0 : Vec Ideal S512x1024 .f32) (x1 : Vec Ideal S1x1024 .f32) (x2 : Vec Ideal S1024x2048 .bf16) (x3 : Vec Ideal S1024x1024 .bf16)
    (x4 : Vec Ideal S1024x1536 .bf16) (x5 : Vec Ideal S1024x128 .bf16) (i : Fin 512) (j : Fin 1024) :
    out0_7 x0 x1 x2 x3 x4 x5 (ix2 i j) = proj (fun k => x0 (ix2 i k)) (fun k => x1 (ix2 0 k)) (fun k => x3 (ix2 k j)) := by
  unfold out0_7
  rw [View.canon_unit_zero z0, View.ld_unit_zero z0, View.ld_unit_zero z0, View.ld_unit_zero z0]
  unfold k0_pay4 k0_pay2
  pointwise
  rfl
theorem out8_eq (x0 : Vec Ideal S512x1024 .f32) (x1 : Vec Ideal S1x1024 .f32) (x2 : Vec Ideal S1024x2048 .bf16) (x3 : Vec Ideal S1024x1024 .bf16)
    (x4 : Vec Ideal S1024x1536 .bf16) (x5 : Vec Ideal S1024x128 .bf16) (i : Fin 512) (j : Fin 1536) :
    out0_8 x0 x1 x2 x3 x4 x5 (ix2 i j) = proj (fun k => x0 (ix2 i k)) (fun k => x1 (ix2 0 k)) (fun k => x4 (ix2 k j)) := by
  unfold out0_8
  rw [View.canon_unit_zero z0, View.ld_unit_zero z0, View.ld_unit_zero z0, View.ld_unit_zero z0]
  unfold k0_pay5 k0_pay2
  pointwise
  rfl
theorem out9_eq (x0 : Vec Ideal S512x1024 .f32) (x1 : Vec Ideal S1x1024 .f32) (x2 : Vec Ideal S1024x2048 .bf16) (x3 : Vec Ideal S1024x1024 .bf16)
    (x4 : Vec Ideal S1024x1536 .bf16) (x5 : Vec Ideal S1024x128 .bf16) (i : Fin 512) (j : Fin 128) :
    out0_9 x0 x1 x2 x3 x4 x5 (ix2 i j) = proj (fun k => x0 (ix2 i k)) (fun k => x1 (ix2 0 k)) (fun k => x5 (ix2 k j)) := by
  unfold out0_9
  rw [View.canon_unit_zero z0, View.ld_unit_zero z0, View.ld_unit_zero z0, View.ld_unit_zero z0]
  unfold k0_pay1 k0_pay2
  pointwise
  rfl

/-! ## The result arrays -/

def res6 (c : Dev nD) : S32768x2048.Idx → EReal := fun y =>
  projAt 0 (by decide) (Xa m c) (Na m c) (Wa m c) (y 0 : Fin 32768) (y 1 : Fin 2048)
theorem arr6 (c : Dev nD) : (dats m 0 c).arrAt 6 cfg0.N = res6 m c := by
  refine (dats m 0 c).arrAt_eq_of_covers 6 _ (by decide +kernel) fun t hf y => ?_
  blk_simp
  rw [after0_6]
  obtain ⟨i, j, rfl⟩ : ∃ (i : Fin 512) (j : Fin 2048), y = ix2 i j := ⟨y 0, y 1, eq_ix2 y⟩
  refine (out6_eq _ _ _ _ _ _ i j).trans (Eq.trans ?_ (congrArg (res6 m c) (e6 t i j)).symm)
  simp only [x_blk, n_blk, wz_blk]
  rfl
def res7 (c : Dev nD) : S32768x1024.Idx → EReal := fun y =>
  projAt 2048 (by decide) (Xa m c) (Na m c) (Wa m c) (y 0 : Fin 32768) (y 1 : Fin 1024)
theorem arr7 (c : Dev nD) : (dats m 0 c).arrAt 7 cfg0.N = res7 m c := by
  refine (dats m 0 c).arrAt_eq_of_covers 7 _ (by decide +kernel) fun t hf y => ?_
  blk_simp
  rw [after0_7]
  obtain ⟨i, j, rfl⟩ : ∃ (i : Fin 512) (j : Fin 1024), y = ix2 i j := ⟨y 0, y 1, eq_ix2 y⟩
  refine (out7_eq _ _ _ _ _ _ i j).trans (Eq.trans ?_ (congrArg (res7 m c) (e7 t i j)).symm)
  simp only [x_blk, n_blk, wu_blk]
  rfl
def res8 (c : Dev nD) : S32768x1536.Idx → EReal := fun y =>
  projAt 3072 (by decide) (Xa m c) (Na m c) (Wa m c) (y 0 : Fin 32768) (y 1 : Fin 1536)
theorem arr8 (c : Dev nD) : (dats m 0 c).arrAt 8 cfg0.N = res8 m c := by
  refine (dats m 0 c).arrAt_eq_of_covers 8 _ (by decide +kernel) fun t hf y => ?_
  blk_simp
  rw [after0_8]
  obtain ⟨i, j, rfl⟩ : ∃ (i : Fin 512) (j : Fin 1536), y = ix2 i j := ⟨y 0, y 1, eq_ix2 y⟩
  refine (out8_eq _ _ _ _ _ _ i j).trans (Eq.trans ?_ (congrArg (res8 m c) (e8 t i j)).symm)
  simp only [x_blk, n_blk, wx3_blk]
  rfl
def res9 (c : Dev nD) : S32768x128.Idx → EReal := fun y =>
  stepAt (Xa m c) (Na m c) (Wa m c) (y 0 : Fin 32768) (y 1 : Fin 128)
theorem arr9 (c : Dev nD) : (dats m 0 c).arrAt 9 cfg0.N = res9 m c := by
  refine (dats m 0 c).arrAt_eq_of_covers 9 _ (by decide +kernel) fun t hf y => ?_
  blk_simp
  rw [after0_9]
  obtain ⟨i, j, rfl⟩ : ∃ (i : Fin 512) (j : Fin 128), y = ix2 i j := ⟨y 0, y 1, eq_ix2 y⟩
  refine (out9_eq _ _ _ _ _ _ i j).trans (Eq.trans ?_ (congrArg (res9 m c) (e9 t i j)).symm)
  simp only [x_blk, n_blk, wd_blk]
  exact step_eq (Xa m c) (Na m c) (Wa m c) (trow t i) j

/-- The kernel ends with its four results the projections of the normed rows. -/
theorem kernel_runs (g : Dev nD → PrngReg) :
    θ_run (defs (F := Ideal)) (onTc (τ := τ) (main (F := Ideal))) ⟨m, fun _ => 0, g⟩ (fun r => ∀ c : Dev nD,
        r.2.mem ((c.tc : Thread nD τ).loc main_v10_0) = res6 m c ∧ r.2.mem ((c.tc : Thread nD τ).loc main_v10_1) = res7 m c
        ∧ r.2.mem ((c.tc : Thread nD τ).loc main_v10_2) = res8 m c ∧ r.2.mem ((c.tc : Thread nD τ).loc main_v10_3) = res9 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run _ _ _).mono (fun r h c => ⟨(h c).1.trans (arr6 m c), (h c).2.1.trans (arr7 m c), (h c).2.2.1.trans (arr8 m c),
    (h c).2.2.2.1.trans (arr9 m c), (h c).2.2.2.2⟩) (Cert.Kernel3Ideal.Value.run_blocks m g)

end Cert.Kernel3Ideal.Norm
-- ==== Proof.Norm.Ref.lean ====
module

public import proofs.«01_k».proof.Proof.Norm.Form
public import proofs.«01_k».proof.Proof.Gen.Reference3Ideal.Run
public import Idealize.ShloMosaic.Lib.Pointwise

@[expose] public section

/-! The first block's projections, as the reference computes them, and the reference's frame. -/

set_option maxRecDepth 16384

noncomputable section

namespace Cert.Reference3Ideal.Norm

open Idealize.ShloMosaic Idealize.ShloMosaic.TcCoe Idealize.ShloMosaic.Tactic
open Idealize.SL.Sem
open Cert.Reference3Ideal Cert.Reference3Ideal.Gen Cert.RetForm Cert.NormForm

/-- The reference has no semaphore. -/
theorem sem_zero (s : GSem nD τ sig → ℤ) : s = fun _ => 0 := by
  funext x
  rcases x with ⟨_, (i | i)⟩ <;> exact absurd i.isLt (Nat.not_lt_zero _)

/-- The frame: the reference ends with its arguments as they were and every semaphore at zero. -/
theorem frame_ok {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2, sem_zero r.2.sem⟩) (Cert.Reference3Ideal.Value.run m g)

variable (m : (ℓ : Loc nD τ sig) → Buf (Elt Ideal) ℓ)

/-- The stream, the norm's scale and the weights, as launched. -/
def Xa (c : Dev nD) : S32768x1024.Idx → EReal := m (c, Proc.tc.devRef main_arg0)
def Na (c : Dev nD) : S1024.Idx → EReal := m (c, Proc.tc.devRef main_arg1)
def Wa (c : Dev nD) : S1024x4624.Idx → EReal := m (c, Proc.tc.devRef main_arg2)

def res6 (c : Dev nD) : S32768x2048.Idx → EReal := fun y => projAt 0 (by decide) (Xa m c) (Na m c) (Wa m c) (y 0 : Fin 32768) (y 1 : Fin 2048)
def res7 (c : Dev nD) : S32768x1024.Idx → EReal := fun y => projAt 2048 (by decide) (Xa m c) (Na m c) (Wa m c) (y 0 : Fin 32768) (y 1 : Fin 1024)
def res8 (c : Dev nD) : S32768x1536.Idx → EReal := fun y => projAt 3072 (by decide) (Xa m c) (Na m c) (Wa m c) (y 0 : Fin 32768) (y 1 : Fin 1536)
def res9 (c : Dev nD) : S32768x128.Idx → EReal := fun y => stepAt (Xa m c) (Na m c) (Wa m c) (y 0 : Fin 32768) (y 1 : Fin 128)

/-- The reference ends with its four results the projections of the normed rows. -/
theorem reference_runs (g : Dev nD → PrngReg) :
    θ_run (defs (F := Ideal)) (onTc (τ := τ) (main (F := Ideal))) ⟨m, fun _ => 0, g⟩ (fun r => ∀ c : Dev nD,
        r.2.mem ((c.tc : Thread nD τ).loc main_v17) = res6 m c ∧ r.2.mem ((c.tc : Thread nD τ).loc main_v19) = res7 m c
        ∧ r.2.mem ((c.tc : Thread nD τ).loc main_v21) = res8 m c ∧ r.2.mem ((c.tc : Thread nD τ).loc main_v15) = res9 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  refine (θ_run _ _ _).mono (fun r h c => ?_) (Cert.Reference3Ideal.Value.run m g)
  obtain ⟨h6, h7, h8, h9, ha⟩ := h c
  refine ⟨h6.trans (funext fun (y : S32768x2048.Idx) => ?_), h7.trans (funext fun (y : S32768x1024.Idx) => ?_),
    h8.trans (funext fun (y : S32768x1536.Idx) => ?_), h9.trans (funext fun (y : S32768x128.Idx) => ?_), ha⟩
  all_goals clear h6 h7 h8 h9 h ha
  all_goals obtain ⟨i, j, rfl⟩ : ∃ (i : Fin _) (j : Fin _), y = ix2 i j := ⟨y 0, y 1, eq_ix2 y⟩
  · pointwise
    have e : wcol 0 (by decide) j = (⟨j.val, by omega⟩ : Fin 4624) := Fin.ext (Nat.zero_add _)
    simp only [res6, projAt]
    show _ = proj (fun k => Xa m c (ix2 i k)) (fun k => Na m c (ix1 k)) (fun k => Wa m c (ix2 k (wcol 0 _ j)))
    rw [e]
    rfl
  · pointwise
    rfl
  · pointwise
    rfl
  · pointwise
    exact dite_congr rfl (fun _ => rfl) (fun _ => sitofp_zero)

end Cert.Reference3Ideal.Norm
-- ==== Proof.Norm.Join.lean ====
module

public import proofs.«01_k».proof.Defs
public import proofs.«01_k».proof.Proof.Norm.Kernel
public import proofs.«01_k».proof.Proof.Norm.Ref
public import Idealize.ShloMosaic.Lib.Claim

@[expose] public section

/-! Kernel and reference compute the same projections of the normed rows. -/

set_option maxRecDepth 16384

noncomputable section

namespace Cert.NormJoin

open Idealize.ShloMosaic Idealize.ShloMosaic.TcCoe Idealize.ShloMosaic.Tactic Idealize.SL.Sem

/-- The value claim. -/
theorem algebraic : Cert.algebraic_Kernel3Ideal_Reference3Ideal (hKernel3Ideal := Cert.Kernel3Ideal.Gen.facts)
    (hReference3Ideal := Cert.Reference3Ideal.Gen.facts) := by
  intro m g m' g' _ hin
  refine ⟨Cert.Kernel3Ideal.Norm.res6 m, Cert.Kernel3Ideal.Norm.res7 m, Cert.Kernel3Ideal.Norm.res8 m, Cert.Kernel3Ideal.Norm.res9 m,
    Cert.Kernel3Ideal.Norm.kernel_runs m g, ?_⟩
  refine (θ_run _ _ _).mono (fun r h c => ?_) (Cert.Reference3Ideal.Norm.reference_runs m' g')
  obtain ⟨e0, e1, e2⟩ := hin c
  have x : Cert.Reference3Ideal.Norm.Xa m' c = Cert.Kernel3Ideal.Norm.Xa m c := e0
  have n : Cert.Reference3Ideal.Norm.Na m' c = Cert.Kernel3Ideal.Norm.Na m c := e1
  have w : Cert.Reference3Ideal.Norm.Wa m' c = Cert.Kernel3Ideal.Norm.Wa m c := e2
  obtain ⟨h6, h7, h8, h9, ha⟩ := h c
  refine ⟨h6.trans ?_, h7.trans ?_, h8.trans ?_, h9.trans ?_, ha⟩
  · unfold Cert.Reference3Ideal.Norm.res6; rw [x, n, w]; rfl
  · unfold Cert.Reference3Ideal.Norm.res7; rw [x, n, w]; rfl
  · unfold Cert.Reference3Ideal.Norm.res8; rw [x, n, w]; rfl
  · unfold Cert.Reference3Ideal.Norm.res9; rw [x, n, w]; rfl

end Cert.NormJoin
-- ==== Proof.Post.Form.lean ====
module

public import proofs.«01_k».proof.Proof.Ret.Math

@[expose] public section

/-! The end of the first block: the tanh form of gelu, its gate, and the output projection of the two halves. -/

noncomputable section

namespace Cert.PostForm

open Idealize.ShloMosaic Cert.RetForm

/-- The literals of gelu's tanh form. -/
def ga : EReal := Ideal.ofBits .f32 0x3D372713#32
def gs : EReal := Ideal.ofBits .f32 0x3F4C422A#32

/-- The tanh form of gelu. -/
def gelu (v : EReal) : EReal := half * v * (1 + Ideal.tanh (gs * (v + ga * (v * v * v))))

/-- One row: the convolved stream `ys` and its skip `d u`, through gelu. -/
def act (ys u d : Fin 1024 → EReal) (k : Fin 1024) : EReal := gelu (ys k + d k * u k)
/-- The row's linear gate. -/
def glu (ys u d : Fin 1024 → EReal) (gw : Fin 1024 → Fin 1024 → EReal) (gb : Fin 1024 → EReal) (k : Fin 1024) : EReal :=
  (∑ j, act ys u d j * gw j k) + gb k
/-- The row gated twice. -/
def gated (ys u d : Fin 1024 → EReal) (gw : Fin 1024 → Fin 1024 → EReal) (gb z : Fin 1024 → EReal) (k : Fin 1024) : EReal :=
  act ys u d k * sigT (glu ys u d gw gb k) * silT (z k)
/-- The residual stream's new entry: the gated row and the second mixer's row, each against its half of a column of the weight. -/
def post (h : EReal) (a b wa wb : Fin 1024 → EReal) : EReal := h + ((∑ k, a k * wa k) + ∑ k, b k * wb k)

/-- gelu with its factors in the other order. -/
def geluR (v : EReal) : EReal := v * (half * (1 + Ideal.tanh (gs * (v + ga * (v * v * v)))))

theorem geluR_eq (v : EReal) : geluR v = gelu v := by
  unfold geluR gelu
  rw [← mul_assoc, mul_comm v half]

/-- The row gated twice, its gates written through the exponential. -/
def gatedR (ys u d : Fin 1024 → EReal) (gw : Fin 1024 → Fin 1024 → EReal) (gb z : Fin 1024 → EReal) (k : Fin 1024) : EReal :=
  geluR (ys k + d k * u k) * sigE ((∑ j, geluR (ys j + d j * u j) * gw j k) + gb k) * silE (z k)

theorem gatedR_eq (ys u d : Fin 1024 → EReal) (gw : Fin 1024 → Fin 1024 → EReal) (gb z : Fin 1024 → EReal) (k : Fin 1024) :
    gatedR ys u d gw gb z k = gated ys u d gw gb z k := by
  simp only [gatedR, gated, glu, act, geluR_eq, sigT_eq, silT_eq]

/-- Column `k` of the first half of 2048, and of the second. -/
def lo (k : Fin 1024) : Fin 2048 := ⟨k.val, by omega⟩
def hi (k : Fin 1024) : Fin 2048 := ⟨1024 + k.val, by omega⟩

end Cert.PostForm
-- ==== Proof.Post.Kernel.lean ====
module

public import proofs.«01_k».proof.Proof.Post.Form
public import proofs.«01_k».proof.Proof.Gen.Kernel4Ideal.Value
public import Idealize.ShloMosaic.Lib.Pointwise
public import Idealize.ShloMosaic.Lib.Pipeline.ValueKit
public import Idealize.ShloMosaic.Lib.Pipeline.ValueKit.Point

@[expose] public section

/-! The end of the first block, as the kernel computes it: each grid point takes 512 rows. -/

set_option maxRecDepth 16384

noncomputable section

namespace Cert.Kernel4Ideal.Post

open Idealize.ShloMosaic Idealize.ShloMosaic.TcCoe Idealize.ShloMosaic.Tactic
open Idealize.SL.Sem
open Cert.Kernel4Ideal Cert.Kernel4Ideal.Gen Cert.RetForm Cert.PostForm

variable (m : (ℓ : Loc nD τ sig) → Buf (Elt Ideal) ℓ)

/-- The arguments, as launched. -/
def ysA (c : Dev nD) : S32768x1024.Idx → EReal := m (c, Proc.tc.devRef main_arg0)
def uA (c : Dev nD) : S32768x1024.Idx → EReal := m (c, Proc.tc.devRef main_arg1)
def zA (c : Dev nD) : S32768x2048.Idx → EReal := m (c, Proc.tc.devRef main_arg2)
def ybA (c : Dev nD) : S32768x1024.Idx → EReal := m (c, Proc.tc.devRef main_arg3)
def hA (c : Dev nD) : S32768x1024.Idx → EReal := m (c, Proc.tc.devRef main_arg4)
def dA (c : Dev nD) : S1024.Idx → EReal := m (c, Proc.tc.devRef main_arg5)
def gwA (c : Dev nD) : S1024x1024.Idx → EReal := m (c, Proc.tc.devRef main_arg6)
def gbA (c : Dev nD) : S1024.Idx → EReal := m (c, Proc.tc.devRef main_arg7)
def woA (c : Dev nD) : S2048x1024.Idx → EReal := m (c, Proc.tc.devRef main_arg8)

/-- Each window's block index at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

theorem t64 (t : Fin cfg0.N) : t.val < 64 := Nat.lt_of_lt_of_eq t.isLt N_0

/-- Row `i` of point `t`'s tile. -/
def trow (t : Fin cfg0.N) (i : Fin 512) : Fin 32768 := ⟨512 * t.val + i.val, by have := t64 t; omega⟩

theorem z0 : (![0, 0] : Fin 2 → ℕ) = fun _ => 0 := funext fun a => by fin_cases a <;> rfl

/-! ## Where a block lies in its array -/

theorem e0 (t : Fin cfg0.N) (i : Fin 512) (d : Fin 1024) :
    ((win0_0.blk t).view.emb (ix2 i d) : S32768x1024.Idx) = ix2 (trow t i) d := by
  funext a
  apply Fin.ext
  fin_cases a
  · blk_simp [idx t]; exact congrArg (· + i.val) (Nat.mul_comm _ _)
  · blk_simp [idx t]; rfl
theorem e1 (t : Fin cfg0.N) (i : Fin 512) (d : Fin 1024) :
    ((win0_1.blk t).view.emb (ix2 i d) : S32768x1024.Idx) = ix2 (trow t i) d := by
  funext a
  apply Fin.ext
  fin_cases a
  · blk_simp [idx t]; exact congrArg (· + i.val) (Nat.mul_comm _ _)
  · blk_simp [idx t]; rfl
theorem e3 (t : Fin cfg0.N) (i : Fin 512) (d : Fin 1024) :
    ((win0_3.blk t).view.emb (ix2 i d) : S32768x1024.Idx) = ix2 (trow t i) d := by
  funext a
  apply Fin.ext
  fin_cases a
  · blk_simp [idx t]; exact congrArg (· + i.val) (Nat.mul_comm _ _)
  · blk_simp [idx t]; rfl
theorem e4 (t : Fin cfg0.N) (i : Fin 512) (d : Fin 1024) :
    ((win0_4.blk t).view.emb (ix2 i d) : S32768x1024.Idx) = ix2 (trow t i) d := by
  funext a
  apply Fin.ext
  fin_cases a
  · blk_simp [idx t]; exact congrArg (· + i.val) (Nat.mul_comm _ _)
  · blk_simp [idx t]; rfl
theorem e10 (t : Fin cfg0.N) (i : Fin 512) (d : Fin 1024) :
    ((win0_10.blk t).view.emb (ix2 i d) : S32768x1024.Idx) = ix2 (trow t i) d := by
  funext a
  apply Fin.ext
  fin_cases a
  · blk_simp [idx t]; exact congrArg (· + i.val) (Nat.mul_comm _ _)
  · blk_simp [idx t]; rfl
theorem e2 (t : Fin cfg0.N) (i : Fin 512) (d : Fin 1024) :
    ((win0_2.blk t).view.emb (ix2 i d) : S32768x2048.Idx) = ix2 (trow t i) (lo d) := by
  funext a
  apply Fin.ext
  fin_cases a
  · blk_simp [idx t]; exact congrArg (· + i.val) (Nat.mul_comm _ _)
  · blk_simp [idx t]; rfl
theorem e5 (t : Fin cfg0.N) (x : Fin 1) (y : Fin 1024) :
    ((win0_5.blk t).view.emb (ix2 x y) : S1x1024.Idx) = ix2 x y := by
  funext a
  apply Fin.ext
  fin_cases a <;> blk_simp [idx t]
theorem e6 (t : Fin cfg0.N) (x : Fin 1024) (y : Fin 1024) :
    ((win0_6.blk t).view.emb (ix2 x y) : S1024x1024.Idx) = ix2 x y := by
  funext a
  apply Fin.ext
  fin_cases a <;> blk_simp [idx t]
theorem e7 (t : Fin cfg0.N) (x : Fin 1) (y : Fin 1024) :
    ((win0_7.blk t).view.emb (ix2 x y) : S1x1024.Idx) = ix2 x y := by
  funext a
  apply Fin.ext
  fin_cases a <;> blk_simp [idx t]
theorem e8 (t : Fin cfg0.N) (x : Fin 1024) (y : Fin 1024) :
    ((win0_8.blk t).view.emb (ix2 x y) : S1024x1024.Idx) = ix2 x y := by
  funext a
  apply Fin.ext
  fin_cases a <;> blk_simp [idx t]
theorem e9 (t : Fin cfg0.N) (x : Fin 1024) (y : Fin 1024) :
    ((win0_9.blk t).view.emb (ix2 x y) : S1024x1024.Idx) = ix2 x y := by
  funext a
  apply Fin.ext
  fin_cases a <;> blk_simp [idx t]

/-! ## What the blocks hold -/

theorem b0 (c : Dev nD) (t : Fin cfg0.N) (i : Fin 512) (d : Fin 1024) : iblk m c 0 t (ix2 i d) = ysA m c (ix2 (trow t i) d) := by
  blk_simp [iblk]
  rw [e0]
  exact congrFun (V_main_arg0 m c) _
theorem b1 (c : Dev nD) (t : Fin cfg0.N) (i : Fin 512) (d : Fin 1024) : iblk m c 1 t (ix2 i d) = uA m c (ix2 (trow t i) d) := by
  blk_simp [iblk]
  rw [e1]
  exact congrFun (V_main_arg1 m c) _
theorem b2 (c : Dev nD) (t : Fin cfg0.N) (i : Fin 512) (d : Fin 1024) : iblk m c 2 t (ix2 i d) = zA m c (ix2 (trow t i) (lo d)) := by
  blk_simp [iblk]
  rw [e2]
  exact congrFun (V_main_arg2 m c) _
theorem b3 (c : Dev nD) (t : Fin cfg0.N) (i : Fin 512) (d : Fin 1024) : iblk m c 3 t (ix2 i d) = ybA m c (ix2 (trow t i) d) := by
  blk_simp [iblk]
  rw [e3]
  exact congrFun (V_main_arg3 m c) _
theorem b4 (c : Dev nD) (t : Fin cfg0.N) (i : Fin 512) (d : Fin 1024) : iblk m c 4 t (ix2 i d) = hA m c (ix2 (trow t i) d) := by
  blk_simp [iblk]
  rw [e4]
  exact congrFun (V_main_arg4 m c) _
theorem b5 (c : Dev nD) (t : Fin cfg0.N) (x : Fin 1) (k : Fin 1024) : iblk m c 5 t (ix2 x k) = dA m c (ix1 k) := by
  blk_simp [iblk]
  rw [e5]
  dsimp only [V]
  simp only [List.flatten_cons, List.flatten_nil, List.append_nil, hostOps0, List.cons_append, List.nil_append,
    StableHlo.after_cons, StableHlo.after_nil]
  after_results_simp
  pointwise
  rfl
theorem b7 (c : Dev nD) (t : Fin cfg0.N) (x : Fin 1) (k : Fin 1024) : iblk m c 7 t (ix2 x k) = gbA m c (ix1 k) := by
  blk_simp [iblk]
  rw [e7]
  dsimp only [V]
  simp only [List.flatten_cons, List.flatten_nil, List.append_nil, hostOps0, List.cons_append, List.nil_append,
    StableHlo.after_cons, StableHlo.after_nil]
  after_results_simp
  pointwise
  rfl
theorem b6 (c : Dev nD) (t : Fin cfg0.N) (x k : Fin 1024) : iblk m c 6 t (ix2 x k) = gwA m c (ix2 x k) := by
  blk_simp [iblk]
  rw [e6]
  dsimp only [V]
  simp only [List.flatten_cons, List.flatten_nil, List.append_nil, hostOps0, List.cons_append, List.nil_append,
    StableHlo.after_cons, StableHlo.after_nil]
  after_results_simp
  pointwise
  rfl
theorem b8 (c : Dev nD) (t : Fin cfg0.N) (x k : Fin 1024) : iblk m c 8 t (ix2 x k) = woA m c (ix2 (lo x) k) := by
  blk_simp [iblk]
  rw [e8]
  dsimp only [V]
  simp only [List.flatten_cons, List.flatten_nil, List.append_nil, hostOps0, List.cons_append, List.nil_append,
    StableHlo.after_cons, StableHlo.after_nil]
  after_results_simp
  pointwise
  rfl
theorem b9 (c : Dev nD) (t : Fin cfg0.N) (x k : Fin 1024) : iblk m c 9 t (ix2 x k) = woA m c (ix2 (hi x) k) := by
  blk_simp [iblk]
  rw [e9]
  dsimp only [V]
  simp only [List.flatten_cons, List.flatten_nil, List.append_nil, hostOps0, List.cons_append, List.nil_append,
    StableHlo.after_cons, StableHlo.after_nil]
  after_results_simp
  pointwise
  rfl

/-! ## What the body computes -/

theorem out10_eq (x0 x1 x2 x3 : Vec Ideal S512x1024 .bf16) (x4 : Vec Ideal S512x1024 .f32) (x5 : Vec Ideal S1x1024 .f32)
    (x6 : Vec Ideal S1024x1024 .bf16) (x7 : Vec Ideal S1x1024 .f32) (x8 x9 : Vec Ideal S1024x1024 .bf16) (i : Fin 512) (n : Fin 1024) :
    out0_10 x0 x1 x2 x3 x4 x5 x6 x7 x8 x9 (ix2 i n)
      = post (x4 (ix2 i n)) (gated (fun k => x0 (ix2 i k)) (fun k => x1 (ix2 i k)) (fun k => x5 (ix2 0 k)) (fun j k => x6 (ix2 j k))
          (fun k => x7 (ix2 0 k)) (fun k => x2 (ix2 i k))) (fun k => x3 (ix2 i k)) (fun k => x8 (ix2 k n)) (fun k => x9 (ix2 k n)) := by
  unfold out0_10
  rw [View.canon_unit_zero z0]
  repeat rw [View.ld_unit_zero z0]
  unfold k0_pay1 k0_pay2
  pointwise
  rfl

/-! ## The result array -/

def result (c : Dev nD) : S32768x1024.Idx → EReal := fun y =>
  post (hA m c y) (gated (fun k => ysA m c (ix2 (y 0 : Fin 32768) k)) (fun k => uA m c (ix2 (y 0 : Fin 32768) k)) (fun k => dA m c (ix1 k))
      (fun j k => gwA m c (ix2 j k)) (fun k => gbA m c (ix1 k)) (fun k => zA m c (ix2 (y 0 : Fin 32768) (lo k))))
    (fun k => ybA m c (ix2 (y 0 : Fin 32768) k)) (fun k => woA m c (ix2 (lo k) (y 1 : Fin 1024))) (fun k => woA m c (ix2 (hi k) (y 1 : Fin 1024)))

theorem result_arr (c : Dev nD) : (dats m 0 c).arrAt 10 cfg0.N = result m c := by
  refine (dats m 0 c).arrAt_eq_of_covers 10 _ (by decide +kernel) fun t hf y => ?_
  blk_simp
  rw [after0_10]
  obtain ⟨i, j, rfl⟩ : ∃ (i : Fin 512) (j : Fin 1024), y = ix2 i j := ⟨y 0, y 1, eq_ix2 y⟩
  refine (out10_eq _ _ _ _ _ _ _ _ _ _ i j).trans (Eq.trans ?_ (congrArg (result m c) (e10 t i j)).symm)
  simp only [b0, b1, b2, b3, b4, b5, b6, b7, b8, b9]
  rfl

/-- The kernel ends with its result the block's output, its arguments unchanged. -/
theorem kernel_runs (g : Dev nD → PrngReg) :
    θ_run (defs (F := Ideal)) (onTc (τ := τ) (main (F := Ideal))) ⟨m, fun _ => 0, g⟩ (fun r => ∀ c : Dev nD,
        r.2.mem ((c.tc : Thread nD τ).loc main_v7) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run _ _ _).mono (fun r h c => ⟨(h c).1.trans (result_arr m c), (h c).2⟩) (Cert.Kernel4Ideal.Value.run_blocks m g)

end Cert.Kernel4Ideal.Post
-- ==== Proof.Post.Ref.lean ====
module

public import proofs.«01_k».proof.Proof.Post.Form
public import proofs.«01_k».proof.Proof.Gen.Reference4Ideal.Run
public import Idealize.ShloMosaic.Lib.Pointwise

@[expose] public section

/-! The end of the first block, as the reference computes it, and the reference's frame. -/

set_option maxRecDepth 16384

noncomputable section

namespace Cert.Reference4Ideal.Post

open Idealize.ShloMosaic Idealize.ShloMosaic.TcCoe Idealize.ShloMosaic.Tactic
open Idealize.SL.Sem
open Cert.Reference4Ideal Cert.Reference4Ideal.Gen Cert.RetForm Cert.PostForm

/-- The reference has no semaphore. -/
theorem sem_zero (s : GSem nD τ sig → ℤ) : s = fun _ => 0 := by
  funext x
  rcases x with ⟨_, (i | i)⟩ <;> exact absurd i.isLt (Nat.not_lt_zero _)

/-- The frame: the reference ends with its arguments as they were and every semaphore at zero. -/
theorem frame_ok {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0) :=
  (θ_run defs _ _).mono (fun r h => ⟨fun c => (h c).2, sem_zero r.2.sem⟩) (Cert.Reference4Ideal.Value.run m g)

variable (m : (ℓ : Loc nD τ sig) → Buf (Elt Ideal) ℓ)

/-- The arguments, as launched. -/
def ysA (c : Dev nD) : S32768x1024.Idx → EReal := m (c, Proc.tc.devRef main_arg0)
def uA (c : Dev nD) : S32768x1024.Idx → EReal := m (c, Proc.tc.devRef main_arg1)
def zA (c : Dev nD) : S32768x2048.Idx → EReal := m (c, Proc.tc.devRef main_arg2)
def ybA (c : Dev nD) : S32768x1024.Idx → EReal := m (c, Proc.tc.devRef main_arg3)
def hA (c : Dev nD) : S32768x1024.Idx → EReal := m (c, Proc.tc.devRef main_arg4)
def dA (c : Dev nD) : S1024.Idx → EReal := m (c, Proc.tc.devRef main_arg5)
def gwA (c : Dev nD) : S1024x1024.Idx → EReal := m (c, Proc.tc.devRef main_arg6)
def gbA (c : Dev nD) : S1024.Idx → EReal := m (c, Proc.tc.devRef main_arg7)
def woA (c : Dev nD) : S2048x1024.Idx → EReal := m (c, Proc.tc.devRef main_arg8)

def result (c : Dev nD) : S32768x1024.Idx → EReal := fun y =>
  post (hA m c y) (gated (fun k => ysA m c (ix2 (y 0 : Fin 32768) k)) (fun k => uA m c (ix2 (y 0 : Fin 32768) k)) (fun k => dA m c (ix1 k))
      (fun j k => gwA m c (ix2 j k)) (fun k => gbA m c (ix1 k)) (fun k => zA m c (ix2 (y 0 : Fin 32768) (lo k))))
    (fun k => ybA m c (ix2 (y 0 : Fin 32768) k)) (fun k => woA m c (ix2 (lo k) (y 1 : Fin 1024))) (fun k => woA m c (ix2 (hi k) (y 1 : Fin 1024)))

theorem result_val (c : Dev nD) (i : Fin 32768) (n : Fin 1024) : Cert.Reference4Ideal.Value.res_out0 m c (ix2 i n) = result m c (ix2 i n) := by
  unfold Cert.Reference4Ideal.Value.res_out0 Cert.Reference4Ideal.Value.res_main_v37
  pointwise
  refine Eq.trans (b := post (hA m c (ix2 i n)) (gatedR (fun k => ysA m c (ix2 i k)) (fun k => uA m c (ix2 i k)) (fun k => dA m c (ix1 k))
      (fun j k => gwA m c (ix2 j k)) (fun k => gbA m c (ix1 k)) (fun k => zA m c (ix2 i (lo k))))
    (fun k => ybA m c (ix2 i k)) (fun k => woA m c (ix2 (lo k) n)) (fun k => woA m c (ix2 (hi k) n))) rfl ?_
  rw [funext (gatedR_eq _ _ _ _ _ _)]
  rfl

/-- The reference ends with its result the block's output, its arguments unchanged. -/
theorem reference_runs (g : Dev nD → PrngReg) :
    θ_run (defs (F := Ideal)) (onTc (τ := τ) (main (F := Ideal))) ⟨m, fun _ => 0, g⟩ (fun r => ∀ c : Dev nD,
        r.2.mem ((c.tc : Thread nD τ).loc main_v37) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  (θ_run _ _ _).mono (fun r h c => ⟨(h c).1.trans (funext fun (y : S32768x1024.Idx) => by rw [eq_ix2 y]; exact result_val m c (y 0) (y 1)), (h c).2⟩)
    (Cert.Reference4Ideal.Value.run m g)

end Cert.Reference4Ideal.Post
-- ==== Proof.Post.Join.lean ====
module

public import proofs.«01_k».proof.Defs
public import proofs.«01_k».proof.Proof.Post.Kernel
public import proofs.«01_k».proof.Proof.Post.Ref
public import Idealize.ShloMosaic.Lib.Claim

@[expose] public section

/-! Kernel and reference compute the same output of the first block. -/

set_option maxRecDepth 16384

noncomputable section

namespace Cert.PostJoin

open Idealize.ShloMosaic Idealize.ShloMosaic.TcCoe Idealize.ShloMosaic.Tactic Idealize.SL.Sem

/-- The value claim. -/
theorem algebraic : Cert.algebraic_Kernel4Ideal_Reference4Ideal (hKernel4Ideal := Cert.Kernel4Ideal.Gen.facts)
    (hReference4Ideal := Cert.Reference4Ideal.Gen.facts) := by
  intro m g m' g' _ hin
  refine ⟨Cert.Kernel4Ideal.Post.result m, Cert.Kernel4Ideal.Post.kernel_runs m g, ?_⟩
  refine (θ_run _ _ _).mono (fun r h c => ⟨(h c).1.trans ?_, (h c).2⟩) (Cert.Reference4Ideal.Post.reference_runs m' g')
  obtain ⟨e0, e1, e2, e3, e4, e5, e6, e7, e8⟩ := hin c
  have k0 : Cert.Reference4Ideal.Post.ysA m' c = Cert.Kernel4Ideal.Post.ysA m c := e0
  have k1 : Cert.Reference4Ideal.Post.uA m' c = Cert.Kernel4Ideal.Post.uA m c := e1
  have k2 : Cert.Reference4Ideal.Post.zA m' c = Cert.Kernel4Ideal.Post.zA m c := e2
  have k3 : Cert.Reference4Ideal.Post.ybA m' c = Cert.Kernel4Ideal.Post.ybA m c := e3
  have k4 : Cert.Reference4Ideal.Post.hA m' c = Cert.Kernel4Ideal.Post.hA m c := e4
  have k5 : Cert.Reference4Ideal.Post.dA m' c = Cert.Kernel4Ideal.Post.dA m c := e5
  have k6 : Cert.Reference4Ideal.Post.gwA m' c = Cert.Kernel4Ideal.Post.gwA m c := e6
  have k7 : Cert.Reference4Ideal.Post.gbA m' c = Cert.Kernel4Ideal.Post.gbA m c := e7
  have k8 : Cert.Reference4Ideal.Post.woA m' c = Cert.Kernel4Ideal.Post.woA m c := e8
  unfold Cert.Reference4Ideal.Post.result
  rw [k0, k1, k2, k3, k4, k5, k6, k7, k8]
  rfl

end Cert.PostJoin
-- ==== Proof.Proj.RefFrame.lean ====
module

public import proofs.«01_k».proof.Proof.Gen.Reference2Ideal.Run

@[expose] public section

/-! The frame of the projections' reference. -/

noncomputable section

namespace Cert.Reference2Ideal.Proj

open Idealize.ShloMosaic Idealize.ShloMosaic.TcCoe
open Idealize.SL.Sem
open Cert.Reference2Ideal Cert.Reference2Ideal.Gen

/-- The reference has no semaphore. -/
theorem sem_zero (s : GSem nD τ sig → ℤ) : s = fun _ => 0 := by
  funext x
  rcases x with ⟨_, (i | i)⟩ <;> exact absurd i.isLt (Nat.not_lt_zero _)

/-- The frame: the reference ends with its arguments as they were and every semaphore at zero. -/
theorem frame_ok {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => (h c).2.2.2.2, sem_zero r.2.sem⟩) (Cert.Reference2Ideal.Value.run m g)

end Cert.Reference2Ideal.Proj
-- ==== Proof.Proj.Form.lean ====
module

public import proofs.«01_k».proof.Proof.Norm.Form
public import proofs.«01_k».proof.Proof.Ret.Decay

@[expose] public section

/-! Rotary positions: each pair of a head's coordinates is rotated by its position times the pair's frequency. -/

noncomputable section

namespace Cert.ProjForm

open Idealize.ShloMosaic Cert.RetForm Cert.NormForm

/-! ## The frequencies -/

/-- The frequency of pair `d`: `10000` to the power `-d/127`. -/
def freq (d : ℕ) : ℝ := 1 / (10000 : ℝ) ^ ((d : ℝ) / 127)

/-- `512`. -/
theorem b512 : Ideal.ofBits .f32 1140850688#32 = ((512 : ℝ) : EReal) := by
  simp [Ideal.ofBits, Ideal.ieee, -EReal.coe_mul]; norm_num
/-- The base of the frequencies. -/
theorem b10000 : Ideal.ofBits .f32 1176256512#32 = ((10000 : ℝ) : EReal) := by
  simp [Ideal.ofBits, Ideal.ieee, -EReal.coe_mul]; norm_num
/-- Zero. -/
theorem b0 : Ideal.ofBits .f32 0#32 = ((0 : ℝ) : EReal) := by
  simp [Ideal.ofBits, Ideal.ieee, -EReal.coe_mul]
/-- One. -/
theorem b1 : Ideal.ofBits .f32 1065353216#32 = ((1 : ℝ) : EReal) := by
  simp [Ideal.ofBits, Ideal.ieee, -EReal.coe_mul]; norm_num

/-- Entry `d` of 128 evenly spaced numbers from 0 to 1, the last one written apart. -/
def spaced (d : ℕ) : EReal :=
  if d < 127 then
    Ideal.ofBits .f32 0#32 * (1 - Ideal.div (FloatOps.sitofp (F := Ideal) .f32 (BitVec.ofNat 32 d)) (Ideal.ofBits .f32 1123942400#32))
      + Ideal.ofBits .f32 1065353216#32 * Ideal.div (FloatOps.sitofp (F := Ideal) .f32 (BitVec.ofNat 32 d)) (Ideal.ofBits .f32 1123942400#32)
  else Ideal.ofBits .f32 1065353216#32

/-- It is `d/127`. -/
theorem spaced_eq (d : ℕ) (hd : d < 128) : spaced d = (((d : ℝ) / 127 : ℝ) : EReal) := by
  unfold spaced
  split
  · rw [count d (by omega), b127, b0, b1, Ideal.div_coe (by norm_num), ← EReal.coe_mul, ← EReal.coe_one, ← EReal.coe_sub, ← EReal.coe_mul,
      ← EReal.coe_mul, ← EReal.coe_add]
    congr 1
    ring
  · rw [b1]
    have : d = 127 := by omega
    subst this
    norm_num

/-- The frequency as the programs write it. -/
theorem freq_eq (d : ℕ) (hd : d < 128) : Ideal.div 1 (Ideal.pow (Ideal.ofBits .f32 1176256512#32) (spaced d)) = ((freq d : ℝ) : EReal) := by
  have hp : (0 : ℝ) < (10000 : ℝ) ^ ((d : ℝ) / 127) := Real.rpow_pos_of_pos (by norm_num) _
  rw [spaced_eq d hd, b10000,
    show Ideal.pow ((10000 : ℝ) : EReal) (((d : ℝ) / 127 : ℝ) : EReal) = (((10000 : ℝ) ^ ((d : ℝ) / 127) : ℝ) : EReal) from rfl,
    Ideal.div_coe hp.ne', one_mul]
  rfl

/-- The angle of pair `d` at position `s`. -/
def angle (s d : ℕ) : ℝ := (s : ℝ) * freq d

/-- A position's angle as the programs write it. -/
theorem angle_eq (s d : ℕ) (hs : s < 2 ^ 31) (hd : d < 128) :
    FloatOps.sitofp (F := Ideal) .f32 (BitVec.ofNat 32 s) * Ideal.div 1 (Ideal.pow (Ideal.ofBits .f32 1176256512#32) (spaced d))
      = ((angle s d : ℝ) : EReal) := by
  rw [count s hs, freq_eq d hd, ← EReal.coe_mul]; rfl

/-- The angle of the first position of tile `b`, as the kernel writes it. -/
theorem base_eq (b d : ℕ) (hb : b < 32) (hd : d < 128) :
    FloatOps.sitofp (F := Ideal) .f32 (BitVec.ofNat 32 b) * Ideal.ofBits .f32 1140850688#32
        * Ideal.div 1 (Ideal.pow (Ideal.ofBits .f32 1176256512#32) (spaced d)) = ((angle (512 * b) d : ℝ) : EReal) := by
  rw [count b (by omega), freq_eq d hd, b512, ← EReal.coe_mul, ← EReal.coe_mul]
  congr 1
  unfold angle
  push_cast
  ring

/-- The cosine of a sum of angles. -/
theorem cos_sum (s i d : ℕ) : ((Real.cos (angle s d) : ℝ) : EReal) * ((Real.cos (angle i d) : ℝ) : EReal)
    - ((Real.sin (angle s d) : ℝ) : EReal) * ((Real.sin (angle i d) : ℝ) : EReal) = ((Real.cos (angle (s + i) d) : ℝ) : EReal) := by
  rw [← EReal.coe_mul, ← EReal.coe_mul, ← EReal.coe_sub, ← Real.cos_add]
  congr 2
  unfold angle
  push_cast
  ring
/-- The sine of a sum of angles. -/
theorem sin_sum (s i d : ℕ) : ((Real.sin (angle s d) : ℝ) : EReal) * ((Real.cos (angle i d) : ℝ) : EReal)
    + ((Real.cos (angle s d) : ℝ) : EReal) * ((Real.sin (angle i d) : ℝ) : EReal) = ((Real.sin (angle (s + i) d) : ℝ) : EReal) := by
  rw [← EReal.coe_mul, ← EReal.coe_mul, ← EReal.coe_add, ← Real.sin_add]
  congr 2
  unfold angle
  push_cast
  ring

/-! ## The rotated projections -/

/-- Output column `j` of a head's evens-then-odds layout belongs to pair `j % 128` of head `j / 256`; whether it is the pair's even one. -/
def isEven (j : ℕ) : Prop := j / 128 % 2 < 1
instance (j : ℕ) : Decidable (isEven j) := inferInstanceAs (Decidable (_ < _))

/-- A pair `(a, b)` rotated by an angle of cosine `C` and sine `S`: its even coordinate, or its odd one. -/
def turn (even : Prop) [Decidable even] (a b C S : EReal) : EReal := if even then a * C - b * S else b * C + a * S

/-- Column `k` of the weight's part at `off`. -/
def pcol {n : ℕ} (off : ℕ) (h : off + n ≤ 6144) (j : Fin n) : Fin 6144 := ⟨off + j.val, by have := j.isLt; omega⟩
/-- The weight's column of the even (`p = 0`) or odd (`p = 1`) coordinate of output column `j`'s pair. -/
def pairCol (p : Fin 2) (j : Fin 1024) : Fin 1024 := ⟨j.val / 256 * 256 + j.val % 128 * 2 + p.val, by have := j.isLt; have := p.isLt; omega⟩

/-- Row `r` of the stream `X`, normed and scaled by `N`, against column `j` of the part of the weight `W` at `off`. -/
def projAt {n : ℕ} (off : ℕ) (h : off + n ≤ 6144) (X : (⟨2, ![32768, 1024]⟩ : Shape).Idx → EReal) (N : (⟨1, ![1024]⟩ : Shape).Idx → EReal)
    (W : (⟨2, ![1024, 6144]⟩ : Shape).Idx → EReal) (r : Fin 32768) (j : Fin n) : EReal :=
  proj (fun k => X (ix2 r k)) (fun k => N (ix1 k)) (fun k => W (ix2 k (pcol off h j)))

/-- The projections of the weight's part at `off`, each pair rotated by its row's position. -/
def rotAt (off : ℕ) (h : off + 1024 ≤ 6144) (X : (⟨2, ![32768, 1024]⟩ : Shape).Idx → EReal) (N : (⟨1, ![1024]⟩ : Shape).Idx → EReal)
    (W : (⟨2, ![1024, 6144]⟩ : Shape).Idx → EReal) (r : Fin 32768) (j : Fin 1024) : EReal :=
  turn (isEven j) (projAt off h X N W r (pairCol 0 j)) (projAt off h X N W r (pairCol 1 j))
    ((Real.cos (angle (r.val % 16384) (j.val % 128)) : ℝ) : EReal) ((Real.sin (angle (r.val % 16384) (j.val % 128)) : ℝ) : EReal)

/-- The keys' scale. -/
def kscale : EReal := Ideal.ofBits .f32 1031798784#32

end Cert.ProjForm
-- ==== Proof.Proj.Body.lean ====
module

public import proofs.«01_k».proof.Proof.Proj.Form
public import proofs.«01_k».proof.Proof.Gen.Kernel2Ideal.Value
public import Idealize.ShloMosaic.Lib.Pointwise
public import Idealize.ShloMosaic.Lib.Pipeline.ValueKit
public import Idealize.ShloMosaic.Lib.Pipeline.ValueKit.Point

@[expose] public section

/-! The second call's body: the normed tile against four weights, the queries and keys rotated pair by pair. -/

set_option maxRecDepth 16384

noncomputable section

namespace Cert.Kernel2Ideal.Proj

open Idealize.ShloMosaic Idealize.ShloMosaic.TcCoe Idealize.ShloMosaic.Tactic
open Idealize.SL.Sem
open Cert.Kernel2Ideal Cert.Kernel2Ideal.Gen Cert.RetForm Cert.NormForm Cert.ProjForm

theorem z0 : (![0, 0] : Fin 2 → ℕ) = fun _ => 0 := funext fun a => by fin_cases a <;> rfl
theorem z00 : (![0, 0, 0] : Fin 3 → ℕ) = fun _ => 0 := funext fun a => by fin_cases a <;> rfl

/-! ## The queries -/

/-- The columns of a head's first and second half that hold output column `j`'s pair. -/
def half (p : Fin 2) (j : Fin 1024) : Fin 1024 := ⟨j.val / 256 * 256 + 128 * p.val + j.val % 128, by have := j.isLt; have := p.isLt; omega⟩
/-- The pair that column `j` belongs to. -/
def pair (j : Fin 1024) : Fin 128 := ⟨j.val % 128, Nat.mod_lt _ (by decide)⟩

/-- The lane that row `i` of a tile lies on. -/
def pairI (i : Fin 512) : Fin 128 := ⟨i.val % 128, Nat.mod_lt _ (by decide)⟩

/-- A tile `A` rotated: halves of each head against the tables `C` and `S`. -/
def tileRot (A : FVec Ideal S512x1024 .f32) (C S : FVec Ideal S512x128 .f32) (i : Fin 512) (j : Fin 1024) : EReal :=
  turn (isEven j) (A (ix2 i (half 0 j))) (A (ix2 i (half 1 j))) (C (ix2 i (pair j))) (S (ix2 i (pair j)))
/-- The same for a transposed tile, scaled. -/
def tileRotT (A : FVec Ideal S1024x512 .f32) (C S : FVec Ideal S128x512 .f32) (j : Fin 1024) (i : Fin 512) : EReal :=
  turn (isEven j) (A (ix2 (half 0 j) i)) (A (ix2 (half 1 j) i)) (C (ix2 (pair j) i)) (S (ix2 (pair j) i)) * kscale

/-- An even column of a rotated tile. -/
theorem rot_even (A : FVec Ideal S512x1024 .f32) (C S : FVec Ideal S512x128 .f32) (i : Fin 512) (j a b : Fin 1024) (d : Fin 128)
    (h : j.val / 128 % 2 < 1) (ha : a.val = j.val / 256 * 256 + 128 * 0 + j.val % 128) (hb : b.val = j.val / 256 * 256 + 128 * 1 + j.val % 128)
    (hd : d.val = j.val % 128) : A (ix2 i a) * C (ix2 i d) - A (ix2 i b) * S (ix2 i d) = tileRot A C S i j := by
  have ea : a = half 0 j := Fin.ext ha
  have eb : b = half 1 j := Fin.ext hb
  have ed : d = pair j := Fin.ext hd
  rw [ea, eb, ed]
  exact (if_pos h).symm
/-- An odd column of a rotated tile. -/
theorem rot_odd (A : FVec Ideal S512x1024 .f32) (C S : FVec Ideal S512x128 .f32) (i : Fin 512) (j a b : Fin 1024) (d : Fin 128)
    (h : ¬ j.val / 128 % 2 < 1) (ha : a.val = j.val / 256 * 256 + 128 * 0 + j.val % 128) (hb : b.val = j.val / 256 * 256 + 128 * 1 + j.val % 128)
    (hd : d.val = j.val % 128) : A (ix2 i b) * C (ix2 i d) + A (ix2 i a) * S (ix2 i d) = tileRot A C S i j := by
  have ea : a = half 0 j := Fin.ext ha
  have eb : b = half 1 j := Fin.ext hb
  have ed : d = pair j := Fin.ext hd
  rw [ea, eb, ed]
  exact (if_neg h).symm
/-- An even row of a rotated transposed tile. -/
theorem rotT_even (A : FVec Ideal S1024x512 .f32) (C S : FVec Ideal S128x512 .f32) (i : Fin 512) (j a b : Fin 1024) (d : Fin 128)
    (h : j.val / 128 % 2 < 1) (ha : a.val = j.val / 256 * 256 + 128 * 0 + j.val % 128) (hb : b.val = j.val / 256 * 256 + 128 * 1 + j.val % 128)
    (hd : d.val = j.val % 128) : (A (ix2 a i) * C (ix2 d i) - A (ix2 b i) * S (ix2 d i)) * kscale = tileRotT A C S j i := by
  have ea : a = half 0 j := Fin.ext ha
  have eb : b = half 1 j := Fin.ext hb
  have ed : d = pair j := Fin.ext hd
  rw [ea, eb, ed]
  exact congrArg (· * kscale) (if_pos h).symm
/-- An odd row of a rotated transposed tile. -/
theorem rotT_odd (A : FVec Ideal S1024x512 .f32) (C S : FVec Ideal S128x512 .f32) (i : Fin 512) (j a b : Fin 1024) (d : Fin 128)
    (h : ¬ j.val / 128 % 2 < 1) (ha : a.val = j.val / 256 * 256 + 128 * 0 + j.val % 128) (hb : b.val = j.val / 256 * 256 + 128 * 1 + j.val % 128)
    (hd : d.val = j.val % 128) : (A (ix2 b i) * C (ix2 d i) + A (ix2 a i) * S (ix2 d i)) * kscale = tileRotT A C S j i := by
  have ea : a = half 0 j := Fin.ext ha
  have eb : b = half 1 j := Fin.ext hb
  have ed : d = pair j := Fin.ext hd
  rw [ea, eb, ed]
  exact congrArg (· * kscale) (if_neg h).symm

/-- The rotated tile as an array. -/
def tileRotA (A : FVec Ideal S512x1024 .f32) (C S : FVec Ideal S512x128 .f32) : S512x1024.Idx → EReal := fun y =>
  tileRot A C S (y 0 : Fin 512) (y 1 : Fin 1024)
/-- The transposed rotated tile as an array. -/
def tileRotTA (A : FVec Ideal S1024x512 .f32) (C S : FVec Ideal S128x512 .f32) : S1024x512.Idx → EReal := fun y =>
  tileRotT A C S (y 0 : Fin 1024) (y 1 : Fin 512)

/-! Each store of 128 columns holds that part of the rotated tile. -/

theorem eq0 (i : Fin 512) (d : Fin 128) : (r0_5.emb (ix2 i d) : S512x1024.Idx) = ix2 i ⟨0 + d.val, by omega⟩ := by
  funext a
  apply Fin.ext
  fin_cases a <;> blk_simp <;> rfl
theorem q0 (A : FVec Ideal S512x1024 .f32) (C : FVec Ideal S512x128 .f32) (u : FVec Ideal S1x128 .f32) (v : Vec Ideal S512x128 .f32)
    (w : Vec Ideal S1x1x128 .f32) (x : Vec Ideal S512x128 .f32) (y : S512x128.Idx) :
    k0_pay9 A C u v w x y = tileRotA A C (k0_pay6 u v w x) (r0_5.emb y) := by
  obtain ⟨i, d, rfl⟩ : ∃ (i : Fin 512) (d : Fin 128), y = ix2 i d := ⟨y 0, y 1, eq_ix2 y⟩
  refine Eq.trans ?_ ((rot_even A C (k0_pay6 u v w x) i ⟨0 + d.val, by omega⟩ ⟨0 + d.val, by omega⟩ ⟨128 + d.val, by omega⟩ d
    (by simp only []; omega) (by simp only []; omega) (by simp only []; omega)
    (by simp only []; omega)).trans (congrArg (tileRotA A C (k0_pay6 u v w x)) (eq0 i d)).symm)
  unfold k0_pay9 k0_pay7 k0_pay8
  pointwise
  try rfl
theorem eq1 (i : Fin 512) (d : Fin 128) : (r0_6.emb (ix2 i d) : S512x1024.Idx) = ix2 i ⟨128 + d.val, by omega⟩ := by
  funext a
  apply Fin.ext
  fin_cases a <;> blk_simp <;> rfl
theorem q1 (A : FVec Ideal S512x1024 .f32) (C : FVec Ideal S512x128 .f32) (u : FVec Ideal S1x128 .f32) (v : Vec Ideal S512x128 .f32)
    (w : Vec Ideal S1x1x128 .f32) (x : Vec Ideal S512x128 .f32) (y : S512x128.Idx) :
    k0_pay10 A C u v w x y = tileRotA A C (k0_pay6 u v w x) (r0_6.emb y) := by
  obtain ⟨i, d, rfl⟩ : ∃ (i : Fin 512) (d : Fin 128), y = ix2 i d := ⟨y 0, y 1, eq_ix2 y⟩
  refine Eq.trans ?_ ((rot_odd A C (k0_pay6 u v w x) i ⟨128 + d.val, by omega⟩ ⟨0 + d.val, by omega⟩ ⟨128 + d.val, by omega⟩ d
    (by simp only []; omega) (by simp only []; omega) (by simp only []; omega)
    (by simp only []; omega)).trans (congrArg (tileRotA A C (k0_pay6 u v w x)) (eq1 i d)).symm)
  unfold k0_pay10 k0_pay7 k0_pay8
  pointwise
  try rfl
theorem eq2 (i : Fin 512) (d : Fin 128) : (r0_7.emb (ix2 i d) : S512x1024.Idx) = ix2 i ⟨256 + d.val, by omega⟩ := by
  funext a
  apply Fin.ext
  fin_cases a <;> blk_simp <;> rfl
theorem q2 (A : FVec Ideal S512x1024 .f32) (C : FVec Ideal S512x128 .f32) (u : FVec Ideal S1x128 .f32) (v : Vec Ideal S512x128 .f32)
    (w : Vec Ideal S1x1x128 .f32) (x : Vec Ideal S512x128 .f32) (y : S512x128.Idx) :
    k0_pay13 A C u v w x y = tileRotA A C (k0_pay6 u v w x) (r0_7.emb y) := by
  obtain ⟨i, d, rfl⟩ : ∃ (i : Fin 512) (d : Fin 128), y = ix2 i d := ⟨y 0, y 1, eq_ix2 y⟩
  refine Eq.trans ?_ ((rot_even A C (k0_pay6 u v w x) i ⟨256 + d.val, by omega⟩ ⟨256 + d.val, by omega⟩ ⟨384 + d.val, by omega⟩ d
    (by simp only []; omega) (by simp only []; omega) (by simp only []; omega)
    (by simp only []; omega)).trans (congrArg (tileRotA A C (k0_pay6 u v w x)) (eq2 i d)).symm)
  unfold k0_pay13 k0_pay11 k0_pay12
  pointwise
  try rfl
theorem eq3 (i : Fin 512) (d : Fin 128) : (r0_8.emb (ix2 i d) : S512x1024.Idx) = ix2 i ⟨384 + d.val, by omega⟩ := by
  funext a
  apply Fin.ext
  fin_cases a <;> blk_simp <;> rfl
theorem q3 (A : FVec Ideal S512x1024 .f32) (C : FVec Ideal S512x128 .f32) (u : FVec Ideal S1x128 .f32) (v : Vec Ideal S512x128 .f32)
    (w : Vec Ideal S1x1x128 .f32) (x : Vec Ideal S512x128 .f32) (y : S512x128.Idx) :
    k0_pay14 A C u v w x y = tileRotA A C (k0_pay6 u v w x) (r0_8.emb y) := by
  obtain ⟨i, d, rfl⟩ : ∃ (i : Fin 512) (d : Fin 128), y = ix2 i d := ⟨y 0, y 1, eq_ix2 y⟩
  refine Eq.trans ?_ ((rot_odd A C (k0_pay6 u v w x) i ⟨384 + d.val, by omega⟩ ⟨256 + d.val, by omega⟩ ⟨384 + d.val, by omega⟩ d
    (by simp only []; omega) (by simp only []; omega) (by simp only []; omega)
    (by simp only []; omega)).trans (congrArg (tileRotA A C (k0_pay6 u v w x)) (eq3 i d)).symm)
  unfold k0_pay14 k0_pay11 k0_pay12
  pointwise
  try rfl
theorem eq4 (i : Fin 512) (d : Fin 128) : (r0_9.emb (ix2 i d) : S512x1024.Idx) = ix2 i ⟨512 + d.val, by omega⟩ := by
  funext a
  apply Fin.ext
  fin_cases a <;> blk_simp <;> rfl
theorem q4 (A : FVec Ideal S512x1024 .f32) (C : FVec Ideal S512x128 .f32) (u : FVec Ideal S1x128 .f32) (v : Vec Ideal S512x128 .f32)
    (w : Vec Ideal S1x1x128 .f32) (x : Vec Ideal S512x128 .f32) (y : S512x128.Idx) :
    k0_pay17 A C u v w x y = tileRotA A C (k0_pay6 u v w x) (r0_9.emb y) := by
  obtain ⟨i, d, rfl⟩ : ∃ (i : Fin 512) (d : Fin 128), y = ix2 i d := ⟨y 0, y 1, eq_ix2 y⟩
  refine Eq.trans ?_ ((rot_even A C (k0_pay6 u v w x) i ⟨512 + d.val, by omega⟩ ⟨512 + d.val, by omega⟩ ⟨640 + d.val, by omega⟩ d
    (by simp only []; omega) (by simp only []; omega) (by simp only []; omega)
    (by simp only []; omega)).trans (congrArg (tileRotA A C (k0_pay6 u v w x)) (eq4 i d)).symm)
  unfold k0_pay17 k0_pay15 k0_pay16
  pointwise
  try rfl
theorem eq5 (i : Fin 512) (d : Fin 128) : (r0_10.emb (ix2 i d) : S512x1024.Idx) = ix2 i ⟨640 + d.val, by omega⟩ := by
  funext a
  apply Fin.ext
  fin_cases a <;> blk_simp <;> rfl
theorem q5 (A : FVec Ideal S512x1024 .f32) (C : FVec Ideal S512x128 .f32) (S : FVec Ideal S512x128 .f32) (y : S512x128.Idx) :
    k0_pay18 C S (k0_pay15 A) (k0_pay16 A) y = tileRotA A C S (r0_10.emb y) := by
  obtain ⟨i, d, rfl⟩ : ∃ (i : Fin 512) (d : Fin 128), y = ix2 i d := ⟨y 0, y 1, eq_ix2 y⟩
  refine Eq.trans ?_ ((rot_odd A C S i ⟨640 + d.val, by omega⟩ ⟨512 + d.val, by omega⟩ ⟨640 + d.val, by omega⟩ d
    (by simp only []; omega) (by simp only []; omega) (by simp only []; omega)
    (by simp only []; omega)).trans (congrArg (tileRotA A C S) (eq5 i d)).symm)
  unfold k0_pay18 k0_pay15 k0_pay16
  pointwise
  try rfl
theorem eq6 (i : Fin 512) (d : Fin 128) : (r0_11.emb (ix2 i d) : S512x1024.Idx) = ix2 i ⟨768 + d.val, by omega⟩ := by
  funext a
  apply Fin.ext
  fin_cases a <;> blk_simp <;> rfl
theorem q6 (A : FVec Ideal S512x1024 .f32) (C : FVec Ideal S512x128 .f32) (S : FVec Ideal S512x128 .f32) (y : S512x128.Idx) :
    k0_pay21 A C S y = tileRotA A C S (r0_11.emb y) := by
  obtain ⟨i, d, rfl⟩ : ∃ (i : Fin 512) (d : Fin 128), y = ix2 i d := ⟨y 0, y 1, eq_ix2 y⟩
  refine Eq.trans ?_ ((rot_even A C S i ⟨768 + d.val, by omega⟩ ⟨768 + d.val, by omega⟩ ⟨896 + d.val, by omega⟩ d
    (by simp only []; omega) (by simp only []; omega) (by simp only []; omega)
    (by simp only []; omega)).trans (congrArg (tileRotA A C S) (eq6 i d)).symm)
  unfold k0_pay21 k0_pay19 k0_pay20
  pointwise
  try rfl
theorem eq7 (i : Fin 512) (d : Fin 128) : (r0_12.emb (ix2 i d) : S512x1024.Idx) = ix2 i ⟨896 + d.val, by omega⟩ := by
  funext a
  apply Fin.ext
  fin_cases a <;> blk_simp <;> rfl
theorem q7 (A : FVec Ideal S512x1024 .f32) (C : FVec Ideal S512x128 .f32) (S : FVec Ideal S512x128 .f32) (y : S512x128.Idx) :
    k0_pay22 A C S y = tileRotA A C S (r0_12.emb y) := by
  obtain ⟨i, d, rfl⟩ : ∃ (i : Fin 512) (d : Fin 128), y = ix2 i d := ⟨y 0, y 1, eq_ix2 y⟩
  refine Eq.trans ?_ ((rot_odd A C S i ⟨896 + d.val, by omega⟩ ⟨768 + d.val, by omega⟩ ⟨896 + d.val, by omega⟩ d
    (by simp only []; omega) (by simp only []; omega) (by simp only []; omega)
    (by simp only []; omega)).trans (congrArg (tileRotA A C S) (eq7 i d)).symm)
  unfold k0_pay22 k0_pay19 k0_pay20
  pointwise
  try rfl

/-! Each store of 128 rows holds that part of the transposed rotated tile. -/

theorem ek0 (d : Fin 128) (i : Fin 512) : (r0_15.emb (ix2 d i) : S1024x512.Idx) = ix2 ⟨0 + d.val, by omega⟩ i := by
  funext a
  apply Fin.ext
  fin_cases a <;> blk_simp <;> rfl
theorem k0 (A : FVec Ideal S1024x512 .f32) (C : FVec Ideal S128x512 .f32) (f g : FVec Ideal S128x512 .f32) (v w : Vec Ideal S128x512 .f32) (y : S128x512.Idx) :
    k0_pay30 A f g C v w y = tileRotTA A C (k0_pay27 f g v w) (r0_15.emb y) := by
  obtain ⟨d, i, rfl⟩ : ∃ (d : Fin 128) (i : Fin 512), y = ix2 d i := ⟨y 0, y 1, eq_ix2 y⟩
  refine Eq.trans ?_ ((rotT_even A C (k0_pay27 f g v w) i ⟨0 + d.val, by omega⟩ ⟨0 + d.val, by omega⟩ ⟨128 + d.val, by omega⟩ d
    (by simp only []; omega) (by simp only []; omega) (by simp only []; omega)
    (by simp only []; omega)).trans (congrArg (tileRotTA A C (k0_pay27 f g v w)) (ek0 d i)).symm)
  unfold k0_pay30 k0_pay28 k0_pay29
  pointwise
  try rfl
theorem ek1 (d : Fin 128) (i : Fin 512) : (r0_16.emb (ix2 d i) : S1024x512.Idx) = ix2 ⟨128 + d.val, by omega⟩ i := by
  funext a
  apply Fin.ext
  fin_cases a <;> blk_simp <;> rfl
theorem k1 (A : FVec Ideal S1024x512 .f32) (C : FVec Ideal S128x512 .f32) (f g : FVec Ideal S128x512 .f32) (v w : Vec Ideal S128x512 .f32) (y : S128x512.Idx) :
    k0_pay31 A f g C v w y = tileRotTA A C (k0_pay27 f g v w) (r0_16.emb y) := by
  obtain ⟨d, i, rfl⟩ : ∃ (d : Fin 128) (i : Fin 512), y = ix2 d i := ⟨y 0, y 1, eq_ix2 y⟩
  refine Eq.trans ?_ ((rotT_odd A C (k0_pay27 f g v w) i ⟨128 + d.val, by omega⟩ ⟨0 + d.val, by omega⟩ ⟨128 + d.val, by omega⟩ d
    (by simp only []; omega) (by simp only []; omega) (by simp only []; omega)
    (by simp only []; omega)).trans (congrArg (tileRotTA A C (k0_pay27 f g v w)) (ek1 d i)).symm)
  unfold k0_pay31 k0_pay28 k0_pay29
  pointwise
  try rfl
theorem ek2 (d : Fin 128) (i : Fin 512) : (r0_17.emb (ix2 d i) : S1024x512.Idx) = ix2 ⟨256 + d.val, by omega⟩ i := by
  funext a
  apply Fin.ext
  fin_cases a <;> blk_simp <;> rfl
theorem k2 (A : FVec Ideal S1024x512 .f32) (C : FVec Ideal S128x512 .f32) (f g : FVec Ideal S128x512 .f32) (v w : Vec Ideal S128x512 .f32) (y : S128x512.Idx) :
    k0_pay34 A f g C v w y = tileRotTA A C (k0_pay27 f g v w) (r0_17.emb y) := by
  obtain ⟨d, i, rfl⟩ : ∃ (d : Fin 128) (i : Fin 512), y = ix2 d i := ⟨y 0, y 1, eq_ix2 y⟩
  refine Eq.trans ?_ ((rotT_even A C (k0_pay27 f g v w) i ⟨256 + d.val, by omega⟩ ⟨256 + d.val, by omega⟩ ⟨384 + d.val, by omega⟩ d
    (by simp only []; omega) (by simp only []; omega) (by simp only []; omega)
    (by simp only []; omega)).trans (congrArg (tileRotTA A C (k0_pay27 f g v w)) (ek2 d i)).symm)
  unfold k0_pay34 k0_pay32 k0_pay33
  pointwise
  try rfl
theorem ek3 (d : Fin 128) (i : Fin 512) : (r0_18.emb (ix2 d i) : S1024x512.Idx) = ix2 ⟨384 + d.val, by omega⟩ i := by
  funext a
  apply Fin.ext
  fin_cases a <;> blk_simp <;> rfl
theorem k3 (A : FVec Ideal S1024x512 .f32) (C : FVec Ideal S128x512 .f32) (f g : FVec Ideal S128x512 .f32) (v w : Vec Ideal S128x512 .f32) (y : S128x512.Idx) :
    k0_pay35 A f g C v w y = tileRotTA A C (k0_pay27 f g v w) (r0_18.emb y) := by
  obtain ⟨d, i, rfl⟩ : ∃ (d : Fin 128) (i : Fin 512), y = ix2 d i := ⟨y 0, y 1, eq_ix2 y⟩
  refine Eq.trans ?_ ((rotT_odd A C (k0_pay27 f g v w) i ⟨384 + d.val, by omega⟩ ⟨256 + d.val, by omega⟩ ⟨384 + d.val, by omega⟩ d
    (by simp only []; omega) (by simp only []; omega) (by simp only []; omega)
    (by simp only []; omega)).trans (congrArg (tileRotTA A C (k0_pay27 f g v w)) (ek3 d i)).symm)
  unfold k0_pay35 k0_pay32 k0_pay33
  pointwise
  try rfl
theorem ek4 (d : Fin 128) (i : Fin 512) : (r0_19.emb (ix2 d i) : S1024x512.Idx) = ix2 ⟨512 + d.val, by omega⟩ i := by
  funext a
  apply Fin.ext
  fin_cases a <;> blk_simp <;> rfl
theorem k4 (A : FVec Ideal S1024x512 .f32) (C : FVec Ideal S128x512 .f32) (f g : FVec Ideal S128x512 .f32) (v w : Vec Ideal S128x512 .f32) (y : S128x512.Idx) :
    k0_pay40 (k0_pay38 A C) (k0_pay39 A f g v w) y = tileRotTA A C (k0_pay27 f g v w) (r0_19.emb y) := by
  obtain ⟨d, i, rfl⟩ : ∃ (d : Fin 128) (i : Fin 512), y = ix2 d i := ⟨y 0, y 1, eq_ix2 y⟩
  refine Eq.trans ?_ ((rotT_even A C (k0_pay27 f g v w) i ⟨512 + d.val, by omega⟩ ⟨512 + d.val, by omega⟩ ⟨640 + d.val, by omega⟩ d
    (by simp only []; omega) (by simp only []; omega) (by simp only []; omega)
    (by simp only []; omega)).trans (congrArg (tileRotTA A C (k0_pay27 f g v w)) (ek4 d i)).symm)
  unfold k0_pay40 k0_pay38 k0_pay39 k0_pay36 k0_pay37
  pointwise
  try rfl
theorem ek5 (d : Fin 128) (i : Fin 512) : (r0_20.emb (ix2 d i) : S1024x512.Idx) = ix2 ⟨640 + d.val, by omega⟩ i := by
  funext a
  apply Fin.ext
  fin_cases a <;> blk_simp <;> rfl
theorem k5 (A : FVec Ideal S1024x512 .f32) (C : FVec Ideal S128x512 .f32) (S : FVec Ideal S128x512 .f32) (y : S128x512.Idx) :
    k0_pay41 C S (k0_pay36 A) (k0_pay37 A) y = tileRotTA A C S (r0_20.emb y) := by
  obtain ⟨d, i, rfl⟩ : ∃ (d : Fin 128) (i : Fin 512), y = ix2 d i := ⟨y 0, y 1, eq_ix2 y⟩
  refine Eq.trans ?_ ((rotT_odd A C S i ⟨640 + d.val, by omega⟩ ⟨512 + d.val, by omega⟩ ⟨640 + d.val, by omega⟩ d
    (by simp only []; omega) (by simp only []; omega) (by simp only []; omega)
    (by simp only []; omega)).trans (congrArg (tileRotTA A C S) (ek5 d i)).symm)
  unfold k0_pay41 k0_pay36 k0_pay37
  pointwise
  try rfl
theorem ek6 (d : Fin 128) (i : Fin 512) : (r0_21.emb (ix2 d i) : S1024x512.Idx) = ix2 ⟨768 + d.val, by omega⟩ i := by
  funext a
  apply Fin.ext
  fin_cases a <;> blk_simp <;> rfl
theorem k6 (A : FVec Ideal S1024x512 .f32) (C : FVec Ideal S128x512 .f32) (S : FVec Ideal S128x512 .f32) (y : S128x512.Idx) :
    k0_pay44 A C S y = tileRotTA A C S (r0_21.emb y) := by
  obtain ⟨d, i, rfl⟩ : ∃ (d : Fin 128) (i : Fin 512), y = ix2 d i := ⟨y 0, y 1, eq_ix2 y⟩
  refine Eq.trans ?_ ((rotT_even A C S i ⟨768 + d.val, by omega⟩ ⟨768 + d.val, by omega⟩ ⟨896 + d.val, by omega⟩ d
    (by simp only []; omega) (by simp only []; omega) (by simp only []; omega)
    (by simp only []; omega)).trans (congrArg (tileRotTA A C S) (ek6 d i)).symm)
  unfold k0_pay44 k0_pay42 k0_pay43
  pointwise
  try rfl
theorem ek7 (d : Fin 128) (i : Fin 512) : (r0_22.emb (ix2 d i) : S1024x512.Idx) = ix2 ⟨896 + d.val, by omega⟩ i := by
  funext a
  apply Fin.ext
  fin_cases a <;> blk_simp <;> rfl
theorem k7 (A : FVec Ideal S1024x512 .f32) (C : FVec Ideal S128x512 .f32) (S : FVec Ideal S128x512 .f32) (y : S128x512.Idx) :
    k0_pay45 A C S y = tileRotTA A C S (r0_22.emb y) := by
  obtain ⟨d, i, rfl⟩ : ∃ (d : Fin 128) (i : Fin 512), y = ix2 d i := ⟨y 0, y 1, eq_ix2 y⟩
  refine Eq.trans ?_ ((rotT_odd A C S i ⟨896 + d.val, by omega⟩ ⟨768 + d.val, by omega⟩ ⟨896 + d.val, by omega⟩ d
    (by simp only []; omega) (by simp only []; omega) (by simp only []; omega)
    (by simp only []; omega)).trans (congrArg (tileRotTA A C S) (ek7 d i)).symm)
  unfold k0_pay45 k0_pay42 k0_pay43
  pointwise
  try rfl

/-! ## The body's results -/

variable {x0 : Vec Ideal S512x1024 .f32} {x1 : Vec Ideal S1x1024 .f32} {x2 x3 : Vec Ideal S512x128 .f32} {x4 x5 : Vec Ideal S1x1x128 .f32}
    {x6 x7 : Vec Ideal S128x512 .f32} {x8 x9 : Vec Ideal S1x128x128 .f32} {x10 x11 : Vec Ideal S1024x1024 .bf16} {x12 x13 : Vec Ideal S1024x2048 .bf16}

/-- The normed tile's projection on column `j` of `w`. -/
theorem accq (i : Fin 512) (j : Fin 1024) : k0_pay49 x0 x1 x2 x3 x4 x5 x6 x7 x8 x9 x10 x11 x12 x13 (ix2 i j)
    = proj (fun k => x0 (ix2 i k)) (fun k => x1 (ix2 0 k)) (fun k => x10 (ix2 k j)) := by
  unfold k0_pay49
  rw [View.ld_unit_zero z0, View.ld_unit_zero z0, View.ld_unit_zero z0]
  unfold k0_pay3 k0_pay2
  pointwise
  rfl
/-- The same, transposed: the weight's rows against the normed rows. -/
theorem acck (j : Fin 1024) (i : Fin 512) : k0_pay53 x0 x1 x2 x3 x4 x5 x6 x7 x8 x9 x10 x11 x12 x13 (ix2 j i)
    = proj (fun k => x0 (ix2 i k)) (fun k => x1 (ix2 0 k)) (fun k => x11 (ix2 j k)) := by
  unfold k0_pay53 k0_pay48
  rw [View.ld_unit_zero z0, View.ld_unit_zero z0, View.ld_unit_zero z0]
  unfold k0_pay23 k0_pay2
  pointwise
  exact Finset.sum_congr rfl fun k _ => mul_comm _ _
theorem cosq (i : Fin 512) (d : Fin 128) : k0_pay50 x0 x1 x2 x3 x4 x5 x6 x7 x8 x9 x10 x11 x12 x13 (ix2 i d)
    = x4 (ix3 0 0 d) * x2 (ix2 i d) - x5 (ix3 0 0 d) * x3 (ix2 i d) := by
  unfold k0_pay50
  rw [View.ld_unit_zero z00, View.ld_unit_zero z0, View.ld_unit_zero z00, View.ld_unit_zero z0]
  unfold k0_pay4
  pointwise
  try rfl
theorem sinq (i : Fin 512) (d : Fin 128) : k0_pay52 x0 x1 x2 x3 x4 x5 x6 x7 x8 x9 x10 x11 x12 x13 (ix2 i d)
    = x5 (ix3 0 0 d) * x2 (ix2 i d) + x4 (ix3 0 0 d) * x3 (ix2 i d) := by
  unfold k0_pay52 k0_pay51
  rw [View.ld_unit_zero z00, View.ld_unit_zero z0, View.ld_unit_zero z00, View.ld_unit_zero z0]
  unfold k0_pay6 k0_pay5
  pointwise
  try rfl
/-- Four copies of 128 lanes side by side, read at row `i`. -/
theorem four (f : Fin 128 → EReal) (i : Fin 512) :
    (if h : i.val < 128 then f ⟨i.val, h⟩ else
      if h : i.val - 128 < 128 then f ⟨i.val - 128, h⟩ else
        if h : i.val - 128 - 128 < 128 then f ⟨i.val - 128 - 128, h⟩ else f ⟨i.val - 128 - 128 - 128, by omega⟩) = f (pairI i) := by
  split_ifs <;> exact congrArg f (Fin.ext (by simp only [pairI]; omega))
theorem cosk (d : Fin 128) (i : Fin 512) : k0_pay56 x0 x1 x2 x3 x4 x5 x6 x7 x8 x9 x10 x11 x12 x13 (ix2 d i)
    = x8 (ix3 0 d (pairI i)) * x6 (ix2 d i) - x9 (ix3 0 d (pairI i)) * x7 (ix2 d i) := by
  unfold k0_pay56
  rw [View.ld_unit_zero z00, View.ld_unit_zero z00, View.ld_unit_zero z0, View.ld_unit_zero z0]
  unfold k0_pay26 k0_pay24 k0_pay25
  pointwise
  exact congrArg₂ (· - ·) (congrArg (· * _) (four (fun l => x8 (ix3 0 d l)) i)) (congrArg (· * _) (four (fun l => x9 (ix3 0 d l)) i))
theorem sink (d : Fin 128) (i : Fin 512) : k0_pay57 x0 x1 x2 x3 x4 x5 x6 x7 x8 x9 x10 x11 x12 x13 (ix2 d i)
    = x9 (ix3 0 d (pairI i)) * x6 (ix2 d i) + x8 (ix3 0 d (pairI i)) * x7 (ix2 d i) := by
  unfold k0_pay57 k0_pay54 k0_pay55
  rw [View.ld_unit_zero z00, View.ld_unit_zero z00, View.ld_unit_zero z0, View.ld_unit_zero z0]
  unfold k0_pay27 k0_pay24 k0_pay25
  pointwise
  exact congrArg₂ (· + ·) (congrArg (· * _) (four (fun l => x9 (ix3 0 d l)) i)) (congrArg (· * _) (four (fun l => x8 (ix3 0 d l)) i))
theorem out14_eq (y : S512x1024.Idx) : out0_14 x0 x1 x2 x3 x4 x5 x6 x7 x8 x9 x10 x11 x12 x13 y
    = tileRotA (k0_pay49 x0 x1 x2 x3 x4 x5 x6 x7 x8 x9 x10 x11 x12 x13) (k0_pay50 x0 x1 x2 x3 x4 x5 x6 x7 x8 x9 x10 x11 x12 x13) (k0_pay52 x0 x1 x2 x3 x4 x5 x6 x7 x8 x9 x10 x11 x12 x13) y := by
  unfold out0_14
  refine View.canon_apply_of_pieces (Val := Elt Ideal) (tileRotA (k0_pay49 x0 x1 x2 x3 x4 x5 x6 x7 x8 x9 x10 x11 x12 x13) (k0_pay50 x0 x1 x2 x3 x4 x5 x6 x7 x8 x9 x10 x11 x12 x13) (k0_pay52 x0 x1 x2 x3 x4 x5 x6 x7 x8 x9 x10 x11 x12 x13)) _ ?_ y
    (cover0_14 _ _ _ _ _ _ _ _ y)
  exact List.forall_mem_cons.mpr ⟨q7 _ _ _, List.forall_mem_cons.mpr ⟨q6 _ _ _, List.forall_mem_cons.mpr ⟨q5 _ _ _, List.forall_mem_cons.mpr ⟨q4 _ _ _ _ _ _, List.forall_mem_cons.mpr ⟨q3 _ _ _ _ _ _, List.forall_mem_cons.mpr ⟨q2 _ _ _ _ _ _, List.forall_mem_cons.mpr ⟨q1 _ _ _ _ _ _, List.forall_mem_cons.mpr ⟨q0 _ _ _ _ _ _, List.forall_mem_nil _⟩⟩⟩⟩⟩⟩⟩⟩
theorem out15_eq (y : S1024x512.Idx) : out0_15 x0 x1 x2 x3 x4 x5 x6 x7 x8 x9 x10 x11 x12 x13 y
    = tileRotTA (k0_pay53 x0 x1 x2 x3 x4 x5 x6 x7 x8 x9 x10 x11 x12 x13) (k0_pay56 x0 x1 x2 x3 x4 x5 x6 x7 x8 x9 x10 x11 x12 x13) (k0_pay57 x0 x1 x2 x3 x4 x5 x6 x7 x8 x9 x10 x11 x12 x13) y := by
  unfold out0_15
  refine View.canon_apply_of_pieces (Val := Elt Ideal) (tileRotTA (k0_pay53 x0 x1 x2 x3 x4 x5 x6 x7 x8 x9 x10 x11 x12 x13) (k0_pay56 x0 x1 x2 x3 x4 x5 x6 x7 x8 x9 x10 x11 x12 x13) (k0_pay57 x0 x1 x2 x3 x4 x5 x6 x7 x8 x9 x10 x11 x12 x13)) _ ?_ y
    (cover0_15 _ _ _ _ _ _ _ _ y)
  exact List.forall_mem_cons.mpr ⟨k7 _ _ _, List.forall_mem_cons.mpr ⟨k6 _ _ _, List.forall_mem_cons.mpr ⟨k5 _ _ _, List.forall_mem_cons.mpr ⟨k4 _ _ _ _ _ _, List.forall_mem_cons.mpr ⟨k3 _ _ _ _ _ _, List.forall_mem_cons.mpr ⟨k2 _ _ _ _ _ _, List.forall_mem_cons.mpr ⟨k1 _ _ _ _ _ _, List.forall_mem_cons.mpr ⟨k0 _ _ _ _ _ _, List.forall_mem_nil _⟩⟩⟩⟩⟩⟩⟩⟩
theorem out16_eq (i : Fin 512) (j : Fin 2048) : out0_16 x0 x1 x2 x3 x4 x5 x6 x7 x8 x9 x10 x11 x12 x13 (ix2 i j)
    = proj (fun k => x0 (ix2 i k)) (fun k => x1 (ix2 0 k)) (fun k => x12 (ix2 k j)) := by
  unfold out0_16
  rw [View.canon_unit_zero z0]
  unfold k0_pay48
  repeat rw [View.ld_unit_zero z0]
  unfold k0_pay46 k0_pay2
  pointwise
  rfl
theorem out17_eq (i : Fin 512) (j : Fin 2048) : out0_17 x0 x1 x2 x3 x4 x5 x6 x7 x8 x9 x10 x11 x12 x13 (ix2 i j)
    = proj (fun k => x0 (ix2 i k)) (fun k => x1 (ix2 0 k)) (fun k => x13 (ix2 k j)) := by
  unfold out0_17
  rw [View.canon_unit_zero z0]
  unfold k0_pay48
  repeat rw [View.ld_unit_zero z0]
  unfold k0_pay1 k0_pay47 k0_pay2
  pointwise
  rfl

end Cert.Kernel2Ideal.Proj
-- ==== Proof.Proj.Kernel.lean ====
module

public import proofs.«01_k».proof.Proof.Proj.Body
public import proofs.«01_k».proof.Proof.Gen.Kernel2Ideal.Value
public import Idealize.ShloMosaic.Lib.Pointwise
public import Idealize.ShloMosaic.Lib.Pipeline.ValueKit
public import Idealize.ShloMosaic.Lib.Pipeline.ValueKit.Point

@[expose] public section

/-! The second call: the queries, keys, values and gates of the normed stream, the queries and keys rotated by their positions. -/

set_option maxRecDepth 16384

noncomputable section

namespace Cert.Kernel2Ideal.Proj

open Idealize.ShloMosaic Idealize.ShloMosaic.TcCoe Idealize.ShloMosaic.Tactic
open Idealize.SL.Sem
open Cert.Kernel2Ideal Cert.Kernel2Ideal.Gen Cert.RetForm Cert.NormForm Cert.ProjForm

variable (m : (ℓ : Loc nD τ sig) → Buf (Elt Ideal) ℓ)

/-- The stream, the norm's scale and the weights, as launched. -/
def Xa (c : Dev nD) : S32768x1024.Idx → EReal := m (c, Proc.tc.devRef main_arg0)
def Na (c : Dev nD) : S1024.Idx → EReal := m (c, Proc.tc.devRef main_arg1)
def Wa (c : Dev nD) : S1024x6144.Idx → EReal := m (c, Proc.tc.devRef main_arg2)

/-- Each window's block index at point `t`. -/
theorem idx : ∀ t : Fin cfg0.N, win0_0.index t = ![t.val, 0] ∧ win0_1.index t = ![0, 0] ∧ win0_2.index t = ![0, 0]
    ∧ win0_3.index t = ![0, 0] ∧ win0_4.index t = ![t.val % 32, 0, 0] ∧ win0_5.index t = ![t.val % 32, 0, 0]
    ∧ win0_6.index t = ![0, 0] ∧ win0_7.index t = ![0, 0] ∧ win0_8.index t = ![t.val % 32, 0, 0] ∧ win0_9.index t = ![t.val % 32, 0, 0]
    ∧ win0_10.index t = ![0, 0] ∧ win0_11.index t = ![0, 0] ∧ win0_12.index t = ![0, 0] ∧ win0_13.index t = ![0, 0]
    ∧ win0_14.index t = ![t.val, 0] ∧ win0_15.index t = ![0, t.val] ∧ win0_16.index t = ![t.val, 0] ∧ win0_17.index t = ![t.val, 0] :=
  (by decide +kernel : ∀ t : Fin grid0.N, _)

theorem t64 (t : Fin cfg0.N) : t.val < 64 := Nat.lt_of_lt_of_eq t.isLt N_0

/-- Row `i` of point `t`'s tile. -/
def trow (t : Fin cfg0.N) (i : Fin 512) : Fin 32768 := ⟨512 * t.val + i.val, by have := t64 t; omega⟩

/-- The point's tile within its sequence. -/
def tseq (t : Fin cfg0.N) : Fin 32 := ⟨t.val % 32, Nat.mod_lt _ (by decide)⟩

/-! ## Where a block lies in its array -/

theorem e0 (t : Fin cfg0.N) (i : Fin 512) (d : Fin 1024) :
    ((win0_0.blk t).view.emb (ix2 i d) : S32768x1024.Idx) = ix2 (trow t i) d := by
  funext a
  apply Fin.ext
  fin_cases a
  · blk_simp [idx t]; exact congrArg (· + i.val) (Nat.mul_comm _ _)
  · blk_simp [idx t]; rfl
theorem e14 (t : Fin cfg0.N) (i : Fin 512) (d : Fin 1024) :
    ((win0_14.blk t).view.emb (ix2 i d) : S32768x1024.Idx) = ix2 (trow t i) d := by
  funext a
  apply Fin.ext
  fin_cases a
  · blk_simp [idx t]; exact congrArg (· + i.val) (Nat.mul_comm _ _)
  · blk_simp [idx t]; rfl
theorem e16 (t : Fin cfg0.N) (i : Fin 512) (d : Fin 2048) :
    ((win0_16.blk t).view.emb (ix2 i d) : S32768x2048.Idx) = ix2 (trow t i) d := by
  funext a
  apply Fin.ext
  fin_cases a
  · blk_simp [idx t]; exact congrArg (· + i.val) (Nat.mul_comm _ _)
  · blk_simp [idx t]; rfl
theorem e17 (t : Fin cfg0.N) (i : Fin 512) (d : Fin 2048) :
    ((win0_17.blk t).view.emb (ix2 i d) : S32768x2048.Idx) = ix2 (trow t i) d := by
  funext a
  apply Fin.ext
  fin_cases a
  · blk_simp [idx t]; exact congrArg (· + i.val) (Nat.mul_comm _ _)
  · blk_simp [idx t]; rfl
theorem e15 (t : Fin cfg0.N) (d : Fin 1024) (i : Fin 512) :
    ((win0_15.blk t).view.emb (ix2 d i) : S1024x32768.Idx) = ix2 d (trow t i) := by
  funext a
  apply Fin.ext
  fin_cases a
  · blk_simp [idx t]; rfl
  · blk_simp [idx t]; exact congrArg (· + i.val) (Nat.mul_comm _ _)
theorem e1 (t : Fin cfg0.N) (x : Fin 1) (y : Fin 1024) :
    ((win0_1.blk t).view.emb (ix2 x y) : S1x1024.Idx) = ix2 x y := by
  funext a
  apply Fin.ext
  fin_cases a <;> blk_simp [idx t]
theorem e2 (t : Fin cfg0.N) (x : Fin 512) (y : Fin 128) :
    ((win0_2.blk t).view.emb (ix2 x y) : S512x128.Idx) = ix2 x y := by
  funext a
  apply Fin.ext
  fin_cases a <;> blk_simp [idx t]
theorem e3 (t : Fin cfg0.N) (x : Fin 512) (y : Fin 128) :
    ((win0_3.blk t).view.emb (ix2 x y) : S512x128.Idx) = ix2 x y := by
  funext a
  apply Fin.ext
  fin_cases a <;> blk_simp [idx t]
theorem e6 (t : Fin cfg0.N) (x : Fin 128) (y : Fin 512) :
    ((win0_6.blk t).view.emb (ix2 x y) : S128x512.Idx) = ix2 x y := by
  funext a
  apply Fin.ext
  fin_cases a <;> blk_simp [idx t]
theorem e7 (t : Fin cfg0.N) (x : Fin 128) (y : Fin 512) :
    ((win0_7.blk t).view.emb (ix2 x y) : S128x512.Idx) = ix2 x y := by
  funext a
  apply Fin.ext
  fin_cases a <;> blk_simp [idx t]
theorem e10 (t : Fin cfg0.N) (x : Fin 1024) (y : Fin 1024) :
    ((win0_10.blk t).view.emb (ix2 x y) : S1024x1024.Idx) = ix2 x y := by
  funext a
  apply Fin.ext
  fin_cases a <;> blk_simp [idx t]
theorem e11 (t : Fin cfg0.N) (x : Fin 1024) (y : Fin 1024) :
    ((win0_11.blk t).view.emb (ix2 x y) : S1024x1024.Idx) = ix2 x y := by
  funext a
  apply Fin.ext
  fin_cases a <;> blk_simp [idx t]
theorem e12 (t : Fin cfg0.N) (x : Fin 1024) (y : Fin 2048) :
    ((win0_12.blk t).view.emb (ix2 x y) : S1024x2048.Idx) = ix2 x y := by
  funext a
  apply Fin.ext
  fin_cases a <;> blk_simp [idx t]
theorem e13 (t : Fin cfg0.N) (x : Fin 1024) (y : Fin 2048) :
    ((win0_13.blk t).view.emb (ix2 x y) : S1024x2048.Idx) = ix2 x y := by
  funext a
  apply Fin.ext
  fin_cases a <;> blk_simp [idx t]
theorem e4 (t : Fin cfg0.N) (z : Fin 1) (x : Fin 1) (y : Fin 128) :
    ((win0_4.blk t).view.emb (ix3 z x y) : S32x1x128.Idx) = ix3 (tseq t) x y := by
  obtain rfl : z = 0 := Subsingleton.elim _ _
  funext a
  apply Fin.ext
  fin_cases a <;> blk_simp [idx t, tseq] <;> rfl
theorem e5 (t : Fin cfg0.N) (z : Fin 1) (x : Fin 1) (y : Fin 128) :
    ((win0_5.blk t).view.emb (ix3 z x y) : S32x1x128.Idx) = ix3 (tseq t) x y := by
  obtain rfl : z = 0 := Subsingleton.elim _ _
  funext a
  apply Fin.ext
  fin_cases a <;> blk_simp [idx t, tseq] <;> rfl
theorem e8 (t : Fin cfg0.N) (z : Fin 1) (x : Fin 128) (y : Fin 128) :
    ((win0_8.blk t).view.emb (ix3 z x y) : S32x128x128.Idx) = ix3 (tseq t) x y := by
  obtain rfl : z = 0 := Subsingleton.elim _ _
  funext a
  apply Fin.ext
  fin_cases a <;> blk_simp [idx t, tseq] <;> rfl
theorem e9 (t : Fin cfg0.N) (z : Fin 1) (x : Fin 128) (y : Fin 128) :
    ((win0_9.blk t).view.emb (ix3 z x y) : S32x128x128.Idx) = ix3 (tseq t) x y := by
  obtain rfl : z = 0 := Subsingleton.elim _ _
  funext a
  apply Fin.ext
  fin_cases a <;> blk_simp [idx t, tseq] <;> rfl

/-! ## What the host prepares -/

section Host
variable (W : Valuation τ sig (Elt Ideal))

/-- The evenly spaced numbers. -/
theorem lin_of (d : Fin 128) (hz : W (Proc.devRef .tc main_cst) = constant (F := Ideal) S_ .f32 0x00000000#32)
    (h1 : W (Proc.devRef .tc main_cst_0) = constant (F := Ideal) S_ .f32 0x3F800000#32) :
    (StableHlo.after hostOps0_1 W (Proc.devRef .tc main_v15) : S128.Idx → EReal) (ix1 d) = spaced d.val := by
  simp only [hostOps0_1, StableHlo.after_cons, StableHlo.after_nil, StableHlo.TRef.binary, StableHlo.TRef.nullary, StableHlo.TRef.reshape,
    StableHlo.TRef.unary, StableHlo.TRef.toBuf, StableHlo.TRef.ofBuf, cast_eq]
  after_results_simp
  pointwise
  by_cases h : d.val < 127
  · rw [dif_pos h, hz, h1]
    unfold spaced
    rw [if_pos h]
    rfl
  · rw [dif_neg h, h1]
    unfold spaced
    rw [if_neg h]
    rfl

theorem main_v34_of (h : ∀ d : Fin 128, (W (Proc.devRef .tc main_v15) : S128.Idx → EReal) (ix1 d) = spaced d.val) (i : Fin 512) (d : Fin 128) :
    (StableHlo.after hostOps0_2 W (Proc.devRef .tc main_v34) : S512x128.Idx → EReal) (ix2 i d) = ((Real.cos (angle i.val d.val) : ℝ) : EReal) := by
  simp only [hostOps0_2, StableHlo.after_cons, StableHlo.after_nil]
  after_results_simp
  pointwise
  refine (congrArg (fun l => Ideal.cos (FloatOps.sitofp (F := Ideal) .f32 (BitVec.ofNat 32 i.val) * Ideal.div 1 (Ideal.pow (Ideal.ofBits .f32 1176256512#32) l))) (h d)).trans ?_
  exact congrArg Ideal.cos (angle_eq i.val d.val (by omega) d.isLt)

theorem main_v35_of (h : ∀ d : Fin 128, (W (Proc.devRef .tc main_v15) : S128.Idx → EReal) (ix1 d) = spaced d.val) (i : Fin 512) (d : Fin 128) :
    (StableHlo.after hostOps0_2 W (Proc.devRef .tc main_v35) : S512x128.Idx → EReal) (ix2 i d) = ((Real.sin (angle i.val d.val) : ℝ) : EReal) := by
  simp only [hostOps0_2, StableHlo.after_cons, StableHlo.after_nil]
  after_results_simp
  pointwise
  refine (congrArg (fun l => Ideal.sin (FloatOps.sitofp (F := Ideal) .f32 (BitVec.ofNat 32 i.val) * Ideal.div 1 (Ideal.pow (Ideal.ofBits .f32 1176256512#32) l))) (h d)).trans ?_
  exact congrArg Ideal.sin (angle_eq i.val d.val (by omega) d.isLt)

theorem main_v47_of (h : ∀ d : Fin 128, (W (Proc.devRef .tc main_v15) : S128.Idx → EReal) (ix1 d) = spaced d.val) (d : Fin 128) (i : Fin 512) :
    (StableHlo.after hostOps0_2 W (Proc.devRef .tc main_v47) : S128x512.Idx → EReal) (ix2 d i) = ((Real.cos (angle i.val d.val) : ℝ) : EReal) := by
  simp only [hostOps0_2, StableHlo.after_cons, StableHlo.after_nil]
  after_results_simp
  pointwise
  refine (congrArg (fun l => Ideal.cos (FloatOps.sitofp (F := Ideal) .f32 (BitVec.ofNat 32 i.val) * Ideal.div 1 (Ideal.pow (Ideal.ofBits .f32 1176256512#32) l))) (h d)).trans ?_
  exact congrArg Ideal.cos (angle_eq i.val d.val (by omega) d.isLt)

theorem main_v48_of (h : ∀ d : Fin 128, (W (Proc.devRef .tc main_v15) : S128.Idx → EReal) (ix1 d) = spaced d.val) (d : Fin 128) (i : Fin 512) :
    (StableHlo.after hostOps0_2 W (Proc.devRef .tc main_v48) : S128x512.Idx → EReal) (ix2 d i) = ((Real.sin (angle i.val d.val) : ℝ) : EReal) := by
  simp only [hostOps0_2, StableHlo.after_cons, StableHlo.after_nil]
  after_results_simp
  pointwise
  refine (congrArg (fun l => Ideal.sin (FloatOps.sitofp (F := Ideal) .f32 (BitVec.ofNat 32 i.val) * Ideal.div 1 (Ideal.pow (Ideal.ofBits .f32 1176256512#32) l))) (h d)).trans ?_
  exact congrArg Ideal.sin (angle_eq i.val d.val (by omega) d.isLt)

theorem main_v37_of (h : ∀ d : Fin 128, (W (Proc.devRef .tc main_v15) : S128.Idx → EReal) (ix1 d) = spaced d.val) (b : Fin 32) (z : Fin 1) (d : Fin 128) :
    (StableHlo.after hostOps0_2 W (Proc.devRef .tc main_v37) : S32x1x128.Idx → EReal) (ix3 b z d) = ((Real.cos (angle (512 * b.val) d.val) : ℝ) : EReal) := by
  simp only [hostOps0_2, StableHlo.after_cons, StableHlo.after_nil]
  after_results_simp
  pointwise
  refine (congrArg (fun l => Ideal.cos (FloatOps.sitofp (F := Ideal) .f32 (BitVec.ofNat 32 b.val) * Ideal.ofBits .f32 1140850688#32 * Ideal.div 1 (Ideal.pow (Ideal.ofBits .f32 1176256512#32) l))) (h d)).trans ?_
  exact congrArg Ideal.cos (base_eq b.val d.val b.isLt d.isLt)

theorem main_v39_of (h : ∀ d : Fin 128, (W (Proc.devRef .tc main_v15) : S128.Idx → EReal) (ix1 d) = spaced d.val) (b : Fin 32) (z : Fin 1) (d : Fin 128) :
    (StableHlo.after hostOps0_2 W (Proc.devRef .tc main_v39) : S32x1x128.Idx → EReal) (ix3 b z d) = ((Real.sin (angle (512 * b.val) d.val) : ℝ) : EReal) := by
  simp only [hostOps0_2, StableHlo.after_cons, StableHlo.after_nil]
  after_results_simp
  pointwise
  refine (congrArg (fun l => Ideal.sin (FloatOps.sitofp (F := Ideal) .f32 (BitVec.ofNat 32 b.val) * Ideal.ofBits .f32 1140850688#32 * Ideal.div 1 (Ideal.pow (Ideal.ofBits .f32 1176256512#32) l))) (h d)).trans ?_
  exact congrArg Ideal.sin (base_eq b.val d.val b.isLt d.isLt)

theorem main_v42_of (h : ∀ d : Fin 128, (W (Proc.devRef .tc main_v15) : S128.Idx → EReal) (ix1 d) = spaced d.val) (b : Fin 32) (d e : Fin 128) :
    (StableHlo.after hostOps0_2 W (Proc.devRef .tc main_v42) : S32x128x128.Idx → EReal) (ix3 b d e) = ((Real.cos (angle (512 * b.val) d.val) : ℝ) : EReal) := by
  simp only [hostOps0_2, StableHlo.after_cons, StableHlo.after_nil]
  after_results_simp
  pointwise
  refine (congrArg (fun l => Ideal.cos (FloatOps.sitofp (F := Ideal) .f32 (BitVec.ofNat 32 b.val) * Ideal.ofBits .f32 1140850688#32 * Ideal.div 1 (Ideal.pow (Ideal.ofBits .f32 1176256512#32) l))) (h d)).trans ?_
  exact congrArg Ideal.cos (base_eq b.val d.val b.isLt d.isLt)

theorem main_v45_of (h : ∀ d : Fin 128, (W (Proc.devRef .tc main_v15) : S128.Idx → EReal) (ix1 d) = spaced d.val) (b : Fin 32) (d e : Fin 128) :
    (StableHlo.after hostOps0_2 W (Proc.devRef .tc main_v45) : S32x128x128.Idx → EReal) (ix3 b d e) = ((Real.sin (angle (512 * b.val) d.val) : ℝ) : EReal) := by
  simp only [hostOps0_2, StableHlo.after_cons, StableHlo.after_nil]
  after_results_simp
  pointwise
  refine (congrArg (fun l => Ideal.sin (FloatOps.sitofp (F := Ideal) .f32 (BitVec.ofNat 32 b.val) * Ideal.ofBits .f32 1140850688#32 * Ideal.div 1 (Ideal.pow (Ideal.ofBits .f32 1176256512#32) l))) (h d)).trans ?_
  exact congrArg Ideal.sin (base_eq b.val d.val b.isLt d.isLt)

end Host

/-- The evenly spaced numbers, as the call finds them. -/
theorem lin (c : Dev nD) (d : Fin 128) :
    (StableHlo.after hostOps0_1 (StableHlo.after hostOps0 (fun b => m (c, b))) (Proc.devRef .tc main_v15) : S128.Idx → EReal) (ix1 d) = spaced d.val := by
  refine lin_of _ d ?_ ?_
  · simp only [hostOps0, StableHlo.after_cons, StableHlo.after_nil]
    after_results_simp
  · simp only [hostOps0, StableHlo.after_cons, StableHlo.after_nil]
    after_results_simp

/-! ## What the blocks hold -/

theorem x_blk (c : Dev nD) (t : Fin cfg0.N) (i : Fin 512) (d : Fin 1024) : iblk m c 0 t (ix2 i d) = Xa m c (ix2 (trow t i) d) := by
  blk_simp [iblk]
  rw [e0]
  exact congrFun (V_main_arg0 m c) _
theorem n_blk (c : Dev nD) (t : Fin cfg0.N) (z : Fin 1) (d : Fin 1024) : iblk m c 1 t (ix2 z d) = Na m c (ix1 d) := by
  blk_simp [iblk]
  rw [e1]
  dsimp only [V]
  simp only [List.flatten_cons, List.flatten_nil, List.append_nil, hostOps0, hostOps0_1, hostOps0_2, List.cons_append, List.nil_append,
    StableHlo.after_cons, StableHlo.after_nil]
  after_results_simp
  pointwise
  rfl
/-- The weight's column behind column `j` of the weight with the evens first. -/
def wcolQ (j : Fin 1024) : Fin 1024 := ⟨j.val / 256 * 256 + j.val % 128 * 2 + j.val / 128 % 2, by omega⟩
theorem wq_blk (c : Dev nD) (t : Fin cfg0.N) (z d : Fin 1024) : iblk m c 10 t (ix2 z d) = Wa m c (ix2 z (pcol 0 (by decide) (wcolQ d))) := by
  blk_simp [iblk]
  rw [e10]
  dsimp only [V]
  simp only [List.flatten_cons, List.flatten_nil, List.append_nil, hostOps0, hostOps0_1, hostOps0_2, List.cons_append, List.nil_append,
    StableHlo.after_cons, StableHlo.after_nil]
  after_results_simp
  pointwise
  exact congrArg (Wa m c) (congrArg (ix2 z) (Fin.ext (Nat.zero_add _).symm))
theorem wk_blk (c : Dev nD) (t : Fin cfg0.N) (d z : Fin 1024) : iblk m c 11 t (ix2 d z) = Wa m c (ix2 z (pcol 1024 (by decide) (wcolQ d))) := by
  blk_simp [iblk]
  rw [e11]
  dsimp only [V]
  simp only [List.flatten_cons, List.flatten_nil, List.append_nil, hostOps0, hostOps0_1, hostOps0_2, List.cons_append, List.nil_append,
    StableHlo.after_cons, StableHlo.after_nil]
  after_results_simp
  pointwise
  rfl
theorem wv_blk (c : Dev nD) (t : Fin cfg0.N) (z : Fin 1024) (d : Fin 2048) : iblk m c 12 t (ix2 z d) = Wa m c (ix2 z (pcol 2048 (by decide) d)) := by
  blk_simp [iblk]
  rw [e12]
  dsimp only [V]
  simp only [List.flatten_cons, List.flatten_nil, List.append_nil, hostOps0, hostOps0_1, hostOps0_2, List.cons_append, List.nil_append,
    StableHlo.after_cons, StableHlo.after_nil]
  after_results_simp
  pointwise
  rfl
theorem wg_blk (c : Dev nD) (t : Fin cfg0.N) (z : Fin 1024) (d : Fin 2048) : iblk m c 13 t (ix2 z d) = Wa m c (ix2 z (pcol 4096 (by decide) d)) := by
  blk_simp [iblk]
  rw [e13]
  dsimp only [V]
  simp only [List.flatten_cons, List.flatten_nil, List.append_nil, hostOps0, hostOps0_1, hostOps0_2, List.cons_append, List.nil_append,
    StableHlo.after_cons, StableHlo.after_nil]
  after_results_simp
  pointwise
  rfl
theorem b2 (c : Dev nD) (t : Fin cfg0.N) (i : Fin 512) (d : Fin 128) : iblk m c 2 t (ix2 i d) = ((Real.cos (angle i.val d.val) : ℝ) : EReal) := by
  blk_simp [iblk]
  rw [e2]
  exact main_v34_of _ (lin m c) i d
theorem b3 (c : Dev nD) (t : Fin cfg0.N) (i : Fin 512) (d : Fin 128) : iblk m c 3 t (ix2 i d) = ((Real.sin (angle i.val d.val) : ℝ) : EReal) := by
  blk_simp [iblk]
  rw [e3]
  exact main_v35_of _ (lin m c) i d
theorem b6 (c : Dev nD) (t : Fin cfg0.N) (d : Fin 128) (i : Fin 512) : iblk m c 6 t (ix2 d i) = ((Real.cos (angle i.val d.val) : ℝ) : EReal) := by
  blk_simp [iblk]
  rw [e6]
  exact main_v47_of _ (lin m c) d i
theorem b7 (c : Dev nD) (t : Fin cfg0.N) (d : Fin 128) (i : Fin 512) : iblk m c 7 t (ix2 d i) = ((Real.sin (angle i.val d.val) : ℝ) : EReal) := by
  blk_simp [iblk]
  rw [e7]
  exact main_v48_of _ (lin m c) d i
theorem b4 (c : Dev nD) (t : Fin cfg0.N) (z : Fin 1) (d : Fin 128) : iblk m c 4 t (ix3 z 0 d) = ((Real.cos (angle (512 * (tseq t).val) d.val) : ℝ) : EReal) := by
  blk_simp [iblk]
  rw [e4]
  exact main_v37_of _ (lin m c) (tseq t) 0 d
theorem b5 (c : Dev nD) (t : Fin cfg0.N) (z : Fin 1) (d : Fin 128) : iblk m c 5 t (ix3 z 0 d) = ((Real.sin (angle (512 * (tseq t).val) d.val) : ℝ) : EReal) := by
  blk_simp [iblk]
  rw [e5]
  exact main_v39_of _ (lin m c) (tseq t) 0 d
theorem b8 (c : Dev nD) (t : Fin cfg0.N) (z : Fin 1) (d e : Fin 128) : iblk m c 8 t (ix3 z d e) = ((Real.cos (angle (512 * (tseq t).val) d.val) : ℝ) : EReal) := by
  blk_simp [iblk]
  rw [e8]
  exact main_v42_of _ (lin m c) (tseq t) d e
theorem b9 (c : Dev nD) (t : Fin cfg0.N) (z : Fin 1) (d e : Fin 128) : iblk m c 9 t (ix3 z d e) = ((Real.sin (angle (512 * (tseq t).val) d.val) : ℝ) : EReal) := by
  blk_simp [iblk]
  rw [e9]
  exact main_v45_of _ (lin m c) (tseq t) d e

/-! ## The result arrays -/

/-- A row's position within its sequence. -/
theorem trow_mod (t : Fin cfg0.N) (i : Fin 512) : (trow t i).val % 16384 = 512 * (tseq t).val + i.val := by
  have := t64 t
  have := i.isLt
  simp only [trow, tseq]
  omega
/-- The weight's column behind a half's column. -/
theorem wcolQ_half (p : Fin 2) (j : Fin 1024) : wcolQ (half p j) = pairCol p j := by
  have := p.isLt
  have := j.isLt
  apply Fin.ext
  simp only [wcolQ, half, pairCol]
  omega

def res14 (c : Dev nD) : S32768x1024.Idx → EReal := fun y => rotAt 0 (by decide) (Xa m c) (Na m c) (Wa m c) (y 0 : Fin 32768) (y 1 : Fin 1024)
def res15 (c : Dev nD) : S1024x32768.Idx → EReal := fun y => rotAt 1024 (by decide) (Xa m c) (Na m c) (Wa m c) (y 1 : Fin 32768) (y 0 : Fin 1024) * kscale
def res16 (c : Dev nD) : S32768x2048.Idx → EReal := fun y => projAt 2048 (by decide) (Xa m c) (Na m c) (Wa m c) (y 0 : Fin 32768) (y 1 : Fin 2048)
def res17 (c : Dev nD) : S32768x2048.Idx → EReal := fun y => projAt 4096 (by decide) (Xa m c) (Na m c) (Wa m c) (y 0 : Fin 32768) (y 1 : Fin 2048)

theorem arr14 (c : Dev nD) : (dats m 0 c).arrAt 14 cfg0.N = res14 m c := by
  refine (dats m 0 c).arrAt_eq_of_covers 14 _ (by decide +kernel) fun t hf y => ?_
  blk_simp
  rw [after0_14]
  obtain ⟨i, j, rfl⟩ : ∃ (i : Fin 512) (j : Fin 1024), y = ix2 i j := ⟨y 0, y 1, eq_ix2 y⟩
  refine (out14_eq _).trans (Eq.trans ?_ (congrArg (res14 m c) (e14 t i j)).symm)
  show tileRot _ _ _ i j = rotAt 0 _ (Xa m c) (Na m c) (Wa m c) (trow t i) j
  unfold tileRot rotAt
  rw [accq, accq, cosq, sinq, trow_mod]
  simp only [x_blk, n_blk, wq_blk, b2, b3, b4, b5, wcolQ_half, cos_sum, sin_sum, pair]
  rfl
theorem arr15 (c : Dev nD) : (dats m 0 c).arrAt 15 cfg0.N = res15 m c := by
  refine (dats m 0 c).arrAt_eq_of_covers 15 _ (by decide +kernel) fun t hf y => ?_
  blk_simp
  rw [after0_15]
  obtain ⟨j, i, rfl⟩ : ∃ (j : Fin 1024) (i : Fin 512), y = ix2 j i := ⟨y 0, y 1, eq_ix2 y⟩
  refine (out15_eq _).trans (Eq.trans ?_ (congrArg (res15 m c) (e15 t j i)).symm)
  show tileRotT _ _ _ j i = rotAt 1024 _ (Xa m c) (Na m c) (Wa m c) (trow t i) j * kscale
  unfold tileRotT rotAt
  rw [acck, acck, cosk, sink, trow_mod]
  simp only [x_blk, n_blk, wk_blk, b6, b7, b8, b9, wcolQ_half, cos_sum, sin_sum, pair]
  rfl
theorem arr16 (c : Dev nD) : (dats m 0 c).arrAt 16 cfg0.N = res16 m c := by
  refine (dats m 0 c).arrAt_eq_of_covers 16 _ (by decide +kernel) fun t hf y => ?_
  blk_simp
  rw [after0_16]
  obtain ⟨i, j, rfl⟩ : ∃ (i : Fin 512) (j : Fin 2048), y = ix2 i j := ⟨y 0, y 1, eq_ix2 y⟩
  refine (out16_eq i j).trans (Eq.trans ?_ (congrArg (res16 m c) (e16 t i j)).symm)
  simp only [x_blk, n_blk, wv_blk]
  rfl
theorem arr17 (c : Dev nD) : (dats m 0 c).arrAt 17 cfg0.N = res17 m c := by
  refine (dats m 0 c).arrAt_eq_of_covers 17 _ (by decide +kernel) fun t hf y => ?_
  blk_simp
  rw [after0_17]
  obtain ⟨i, j, rfl⟩ : ∃ (i : Fin 512) (j : Fin 2048), y = ix2 i j := ⟨y 0, y 1, eq_ix2 y⟩
  refine (out17_eq i j).trans (Eq.trans ?_ (congrArg (res17 m c) (e17 t i j)).symm)
  simp only [x_blk, n_blk, wg_blk]
  rfl

/-- The kernel ends with its four results the rotated queries and keys, the values and the gates. -/
theorem kernel_runs (g : Dev nD → PrngReg) :
    θ_run (defs (F := Ideal)) (onTc (τ := τ) (main (F := Ideal))) ⟨m, fun _ => 0, g⟩ (fun r => ∀ c : Dev nD,
        r.2.mem ((c.tc : Thread nD τ).loc main_v49_0) = res14 m c ∧ r.2.mem ((c.tc : Thread nD τ).loc main_v49_1) = res15 m c
        ∧ r.2.mem ((c.tc : Thread nD τ).loc main_v49_2) = res16 m c ∧ r.2.mem ((c.tc : Thread nD τ).loc main_v49_3) = res17 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run _ _ _).mono (fun r h c => ⟨(h c).1.trans (arr14 m c), (h c).2.1.trans (arr15 m c), (h c).2.2.1.trans (arr16 m c),
    (h c).2.2.2.1.trans (arr17 m c), (h c).2.2.2.2⟩) (Cert.Kernel2Ideal.Value.run_blocks m g)

end Cert.Kernel2Ideal.Proj
-- ==== Proof.Proj.Parts.lean ====
module

public import proofs.«01_k».proof.Proof.Proj.Form
public import proofs.«01_k».proof.Proof.Gen.Reference2Ideal.Run
public import Idealize.ShloMosaic.Lib.Pointwise

@[expose] public section

/-! The second call's projections, as the reference computes them. -/

set_option maxRecDepth 16384

noncomputable section

namespace Cert.Reference2Ideal.Proj

open Idealize.ShloMosaic Idealize.ShloMosaic.TcCoe Idealize.ShloMosaic.Tactic
open Idealize.SL.Sem
open Cert.Reference2Ideal Cert.Reference2Ideal.Gen Cert.RetForm Cert.NormForm Cert.ProjForm

/-- The tables of cosines or sines, one per position and coordinate, beside every head. -/
def overHeads (C : FVec Ideal S16384x256 .f32) : FVec Ideal S2x16384x4x256 .f32 :=
  broadcastInDim S2x16384x4x256 ![0, 1, 2, 3] bcast_S1x16384x1x256_S2x16384x4x256_0_1_2_3
    (broadcastInDim S1x16384x1x256 ![1, 2, 3] bcast_S16384x1x256_S1x16384x1x256_1_2_3
      (broadcastInDim S16384x1x256 ![0, 2] bcast_S16384x256_S16384x1x256_0_2 C))
/-- Each pair (even, odd) of coordinates replaced by (−odd, even). -/
def turned (x : FVec Ideal S2x16384x4x256 .f32) : FVec Ideal S2x16384x4x256 .f32 :=
  shapeCast _ (Cert.Reference2Ideal.Value.fn_main_v43 (F := Ideal)
    (broadcastInDim S2x16384x4x128x1 ![0, 1, 2, 3] bcast_S2x16384x4x128_S2x16384x4x128x1_0_1_2_3
      (Host.negf (Host.slice S2x16384x4x128 ![0, 0, 0, 1] ![1, 1, 1, 2] x slicesBy_S2x16384x4x256_S2x16384x4x128_0s1_0s1_0s1_1s2)))
    (broadcastInDim S2x16384x4x128x1 ![0, 1, 2, 3] bcast_S2x16384x4x128_S2x16384x4x128x1_0_1_2_3
      (Host.slice S2x16384x4x128 ![0, 0, 0, 0] ![1, 1, 1, 2] x slicesBy_S2x16384x4x256_S2x16384x4x128_0s1_0s1_0s1_0s2)))
    shapeCasts_S2x16384x4x128x2_S2x16384x4x256
/-- Every pair of coordinates rotated by its angle. -/
def rotated (x : FVec Ideal S2x16384x4x256 .f32) (C S : FVec Ideal S16384x256 .f32) : FVec Ideal S2x16384x4x256 .f32 :=
  addf (mulf x (overHeads C)) (mulf (turned x) (overHeads S))
/-- Even coordinates of each head before its odd ones, and the two sequences one under the other. -/
def evens (x : FVec Ideal S2x16384x4x256 .f32) : FVec Ideal S32768x1024 .f32 :=
  shapeCast _ (transpose S2x16384x4x2x128 [0, 1, 2, 4, 3] (shapeCast _ x shapeCasts_S2x16384x4x256_S2x16384x4x128x2)
    transposes_S2x16384x4x128x2_S2x16384x4x2x128_0_1_2_4_3) shapeCasts_S2x16384x4x2x128_S32768x1024

/-- The stream, its rows normed and scaled. -/
def normed (X : FVec Ideal S32768x1024 .f32) (N : FVec Ideal S1024 .f32) : FVec Ideal S2x16384x1024 .f32 :=
  mulf (mulf (shapeCast _ X shapeCasts_S32768x1024_S2x16384x1024)
    (broadcastInDim S2x16384x1024 ![0, 1, 2] bcast_S2x16384x1_S2x16384x1024_0_1_2 (Host.rsqrt (addf
      (Host.divf (broadcastInDim S2x16384x1 ![0, 1] bcast_S2x16384_S2x16384x1_0_1
          (Host.reduceAdd (mulf (shapeCast _ X shapeCasts_S32768x1024_S2x16384x1024) (shapeCast _ X shapeCasts_S32768x1024_S2x16384x1024))
            (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 N))
/-- The normed rows against the whole weight. -/
def whole (X : FVec Ideal S32768x1024 .f32) (N : FVec Ideal S1024 .f32) (W : FVec Ideal S1024x6144 .f32) : FVec Ideal S2x16384x6144 .f32 :=
  Host.dotGeneral dot_S2x16384x1024_S1024x6144_S2x16384x6144_2_0_01_1_n_n none (normed X N) W
/-- The query columns, head by head. -/
def qHeads (p : FVec Ideal S2x16384x6144 .f32) : FVec Ideal S2x16384x4x256 .f32 :=
  shapeCast _ (extractStridedSlice S2x16384x1024 ![0, 0, 0] p slices_S2x16384x6144_S2x16384x1024_0_0_0) shapeCasts_S2x16384x1024_S2x16384x4x256
/-- The key columns, head by head. -/
def kHeads (p : FVec Ideal S2x16384x6144 .f32) : FVec Ideal S2x16384x4x256 .f32 :=
  shapeCast _ (extractStridedSlice S2x16384x1024 ![0, 0, 1024] p slices_S2x16384x6144_S2x16384x1024_0_0_1024) shapeCasts_S2x16384x1024_S2x16384x4x256
/-- Each position times each coordinate's frequency. -/
def angles : FVec Ideal S16384x256 .f32 :=
  mulf (broadcastInDim S16384x256 ![0, 1] bcast_S16384x1_S16384x256_0_1 (broadcastInDim S16384x1 ![0] bcast_S16384_S16384x1_0 (sitofp .f32 (iotaInDim S16384 32 0)))) (broadcastInDim S16384x256 ![0, 1] bcast_S1x256_S16384x256_0_1 (broadcastInDim S1x256 ![1] bcast_S256_S1x256_1 (shapeCast _ (broadcastInDim S128x2 ![0] bcast_S128_S128x2_0 (Host.divf (broadcastInDim S128 ![] bcast_S_S128 (constant S_ .f32 0x3F800000#32)) (Host.powf (broadcastInDim S128 ![] bcast_S_S128 (constant S_ .f32 0x461C4000#32)) (concatenate S128 0 [⟨S127, (addf (mulf (broadcastInDim S127 ![0] bcast_S1_S127_0 (shapeCast _ (id (constant S_ .f32 0x00000000#32)) shapeCasts_S_S1)) (subf (broadcastInDim S127 ![] bcast_S_S127 (constant S_ .f32 0x3F800000#32)) (Host.divf (sitofp .f32 (iotaInDim S127 32 0)) (broadcastInDim S127 ![] bcast_S_S127 (constant S_ .f32 0x42FE0000#32))))) (mulf (broadcastInDim S127 ![0] bcast_S1_S127_0 (shapeCast _ (id (constant S_ .f32 0x3F800000#32)) shapeCasts_S_S1)) (Host.divf (sitofp .f32 (iotaInDim S127 32 0)) (broadcastInDim S127 ![] bcast_S_S127 (constant S_ .f32 0x42FE0000#32)))))⟩, ⟨S1, (broadcastInDim S1 ![] bcast_S_S1 (id (constant S_ .f32 0x3F800000#32)))⟩] concatenates_S127_S1_S128_d0)))) shapeCasts_S128x2_S256)))

theorem turned_at (x : FVec Ideal S2x16384x4x256 .f32) (b : Fin 2) (s : Fin 16384) (h : Fin 4) (f : Fin 256) :
    (turned x (ix4 b s h f) : EReal)
      = if f.val % 2 < 1 then -(x (ix4 b s h ⟨1 + 2 * (f.val / 2), by omega⟩) : EReal) else x (ix4 b s h ⟨2 * (f.val / 2), by omega⟩) := by
  unfold turned Cert.Reference2Ideal.Value.fn_main_v43
  pointwise
  rfl
theorem overHeads_at (x : FVec Ideal S16384x256 .f32) (b : Fin 2) (s : Fin 16384) (h : Fin 4) (f : Fin 256) :
    (overHeads x (ix4 b s h f) : EReal) = x (ix2 s f) := by
  unfold overHeads
  pointwise
  try rfl
theorem evens_at (x : FVec Ideal S2x16384x4x256 .f32) (r : Fin 32768) (j : Fin 1024) :
    (evens x (ix2 r j) : EReal) = x (ix4 ⟨r.val / 16384, by omega⟩ ⟨r.val % 16384, by omega⟩ ⟨j.val / 256, by omega⟩
      ⟨j.val % 128 * 2 + j.val / 128 % 2, by omega⟩) := by
  unfold evens
  pointwise
  try rfl
theorem angles_at (s : Fin 16384) (f : Fin 256) : (angles (ix2 s f) : EReal) = ((angle s.val (f.val / 2) : ℝ) : EReal) := by
  refine Eq.trans ?_ (angle_eq s.val (f.val / 2) (by omega) (by omega))
  unfold angles
  pointwise
  unfold spaced
  by_cases h : f.val / 2 < 127
  · rw [dif_pos h, if_pos h]; rfl
  · rw [dif_neg h, if_neg h]; rfl
theorem whole_at (X : FVec Ideal S32768x1024 .f32) (N : FVec Ideal S1024 .f32) (W : FVec Ideal S1024x6144 .f32) (b : Fin 2) (s : Fin 16384) (j : Fin 6144)
    (r : Fin 32768) (h : r.val = b.val * 16384 + s.val) :
    (whole X N W (ix3 b s j) : EReal) = proj (fun k => X (ix2 r k)) (fun k => N (ix1 k)) (fun k => W (ix2 k j)) := by
  have e : (⟨b.val * 16384 + s.val, by omega⟩ : Fin 32768) = r := Fin.ext h.symm
  refine Eq.trans ?_ (congrArg (fun t => proj (fun k => X (ix2 t k)) (fun k => N (ix1 k)) (fun k => W (ix2 k j))) e)
  unfold whole normed
  pointwise
  rfl
theorem qHeads_at (p : FVec Ideal S2x16384x6144 .f32) (b : Fin 2) (s : Fin 16384) (h : Fin 4) (f : Fin 256) :
    (qHeads p (ix4 b s h f) : EReal) = p (ix3 b s ⟨h.val * 256 + f.val, by omega⟩) := by
  unfold qHeads
  pointwise
  try rfl
theorem kHeads_at (p : FVec Ideal S2x16384x6144 .f32) (b : Fin 2) (s : Fin 16384) (h : Fin 4) (f : Fin 256) :
    (kHeads p (ix4 b s h f) : EReal) = p (ix3 b s ⟨1024 + (h.val * 256 + f.val), by omega⟩) := by
  unfold kHeads
  pointwise
  try rfl

/-- The cosines and sines of the angles. -/
theorem cos_at (s : Fin 16384) (f : Fin 256) : (Host.cos angles (ix2 s f) : EReal) = ((Real.cos (angle s.val (f.val / 2)) : ℝ) : EReal) :=
  (congrArg Ideal.cos (angles_at s f)).trans rfl
theorem sin_at (s : Fin 16384) (f : Fin 256) : (Host.sin angles (ix2 s f) : EReal) = ((Real.sin (angle s.val (f.val / 2)) : ℝ) : EReal) :=
  (congrArg Ideal.sin (angles_at s f)).trans rfl
/-- A sum of two products of arrays, at one place. -/
theorem mix_at {S : Shape} (a b c d : FVec Ideal S .f32) (i : S.Idx) :
    (addf (mulf a b) (mulf c d) i : EReal) = (a i : EReal) * b i + (c i : EReal) * d i := rfl
theorem rotated_at (x : FVec Ideal S2x16384x4x256 .f32) (C S : FVec Ideal S16384x256 .f32) (b : Fin 2) (s : Fin 16384) (h : Fin 4) (f : Fin 256) :
    (rotated x C S (ix4 b s h f) : EReal) = x (ix4 b s h f) * C (ix2 s f)
      + (if f.val % 2 < 1 then -(x (ix4 b s h ⟨1 + 2 * (f.val / 2), by omega⟩) : EReal) else x (ix4 b s h ⟨2 * (f.val / 2), by omega⟩)) * S (ix2 s f) := by
  unfold rotated
  rw [mix_at, overHeads_at, overHeads_at, turned_at]
/-- A head's coordinate `2 d + p`, rotated with its partner. -/
theorem even_at (x : FVec Ideal S2x16384x4x256 .f32) (C S : FVec Ideal S16384x256 .f32) (b : Fin 2) (s : Fin 16384) (h : Fin 4) (f g : Fin 256)
    (hf : f.val % 2 < 1) (hg : g.val = f.val + 1) :
    (rotated x C S (ix4 b s h f) : EReal) = x (ix4 b s h f) * C (ix2 s f) - x (ix4 b s h g) * S (ix2 s f) := by
  have e : (⟨1 + 2 * (f.val / 2), by omega⟩ : Fin 256) = g := Fin.ext (by show 1 + 2 * (f.val / 2) = g.val; omega)
  rw [rotated_at, if_pos hf, e, EReal.neg_mul, ← sub_eq_add_neg]
theorem odd_at (x : FVec Ideal S2x16384x4x256 .f32) (C S : FVec Ideal S16384x256 .f32) (b : Fin 2) (s : Fin 16384) (h : Fin 4) (f g : Fin 256)
    (hf : ¬ f.val % 2 < 1) (hg : f.val = g.val + 1) :
    (rotated x C S (ix4 b s h f) : EReal) = x (ix4 b s h f) * C (ix2 s f) + x (ix4 b s h g) * S (ix2 s f) := by
  have e : (⟨2 * (f.val / 2), by omega⟩ : Fin 256) = g := Fin.ext (by show 2 * (f.val / 2) = g.val; omega)
  rw [rotated_at, if_neg hf, e]
/-- A rotated array with the evens first: output column `j` is one coordinate of its rotated pair. -/
theorem pair_at (x : FVec Ideal S2x16384x4x256 .f32) (r : Fin 32768) (j : Fin 1024) :
    (evens (rotated x (Host.cos angles) (Host.sin angles)) (ix2 r j) : EReal)
      = turn (isEven j)
          (x (ix4 ⟨r.val / 16384, by omega⟩ ⟨r.val % 16384, by omega⟩ ⟨j.val / 256, by omega⟩ ⟨j.val % 128 * 2, by omega⟩))
          (x (ix4 ⟨r.val / 16384, by omega⟩ ⟨r.val % 16384, by omega⟩ ⟨j.val / 256, by omega⟩ ⟨j.val % 128 * 2 + 1, by omega⟩))
          ((Real.cos (angle (r.val % 16384) (j.val % 128)) : ℝ) : EReal) ((Real.sin (angle (r.val % 16384) (j.val % 128)) : ℝ) : EReal) := by
  rw [evens_at]
  generalize hx : (⟨j.val % 128 * 2 + j.val / 128 % 2, by omega⟩ : Fin 256) = f
  have hv : f.val = j.val % 128 * 2 + j.val / 128 % 2 := (congrArg Fin.val hx).symm
  have hd : f.val / 2 = j.val % 128 := by omega
  by_cases hj : j.val / 128 % 2 < 1
  · have e : f = ⟨j.val % 128 * 2, by omega⟩ := Fin.ext (by show f.val = j.val % 128 * 2; omega)
    rw [even_at x _ _ _ _ _ f ⟨j.val % 128 * 2 + 1, by omega⟩ (by omega) (by show j.val % 128 * 2 + 1 = _; omega), cos_at, sin_at, hd, ← e]
    exact (if_pos hj).symm
  · have e : f = ⟨j.val % 128 * 2 + 1, by omega⟩ := Fin.ext (by show f.val = j.val % 128 * 2 + 1; omega)
    rw [odd_at x _ _ _ _ _ f ⟨j.val % 128 * 2, by omega⟩ (by omega) (by show f.val = j.val % 128 * 2 + 1; omega), cos_at, sin_at, hd, ← e]
    exact (if_neg hj).symm

variable (X : FVec Ideal S32768x1024 .f32) (N : FVec Ideal S1024 .f32) (W : FVec Ideal S1024x6144 .f32)

/-- A row's sequence and position. -/
theorem row_split (r : Fin 32768) : r.val = (⟨r.val / 16384, by omega⟩ : Fin 2).val * 16384 + (⟨r.val % 16384, by omega⟩ : Fin 16384).val := by
  show r.val = r.val / 16384 * 16384 + r.val % 16384
  omega
theorem q_col (p : Fin 2) (j : Fin 1024) (h) : (⟨j.val / 256 * 256 + (j.val % 128 * 2 + p.val), h⟩ : Fin 6144) = pcol 0 (by decide) (pairCol p j) := by
  apply Fin.ext
  show j.val / 256 * 256 + (j.val % 128 * 2 + p.val) = 0 + (j.val / 256 * 256 + j.val % 128 * 2 + p.val)
  omega
theorem k_col (p : Fin 2) (j : Fin 1024) (h) :
    (⟨1024 + (j.val / 256 * 256 + (j.val % 128 * 2 + p.val)), h⟩ : Fin 6144) = pcol 1024 (by decide) (pairCol p j) := by
  apply Fin.ext
  show 1024 + (j.val / 256 * 256 + (j.val % 128 * 2 + p.val)) = 1024 + (j.val / 256 * 256 + j.val % 128 * 2 + p.val)
  omega

/-- The queries. -/
theorem q_at (r : Fin 32768) (j : Fin 1024) :
    (evens (rotated (qHeads (whole X N W)) (Host.cos angles) (Host.sin angles)) (ix2 r j) : EReal) = rotAt 0 (by decide) X N W r j := by
  rw [pair_at, qHeads_at, qHeads_at, whole_at X N W _ _ _ r (row_split r), whole_at X N W _ _ _ r (row_split r)]
  unfold rotAt ProjForm.projAt
  rw [← q_col 0 j (by have := j.isLt; show _ + (_ + 0) < _; omega), ← q_col 1 j (by have := j.isLt; show _ + (_ + 1) < _; omega)]
  rfl
/-- The keys before their scale. -/
theorem k_at (r : Fin 32768) (j : Fin 1024) :
    (evens (rotated (kHeads (whole X N W)) (Host.cos angles) (Host.sin angles)) (ix2 r j) : EReal) = rotAt 1024 (by decide) X N W r j := by
  rw [pair_at, kHeads_at, kHeads_at, whole_at X N W _ _ _ r (row_split r), whole_at X N W _ _ _ r (row_split r)]
  unfold rotAt ProjForm.projAt
  rw [← k_col 0 j (by have := j.isLt; show _ + (_ + (_ + 0)) < _; omega), ← k_col 1 j (by have := j.isLt; show _ + (_ + (_ + 1)) < _; omega)]
  rfl

end Cert.Reference2Ideal.Proj
-- ==== Proof.Proj.Ref.lean ====
module

public import proofs.«01_k».proof.Proof.Proj.Parts

@[expose] public section

/-! The second call's four results, as the reference computes them. -/

set_option maxRecDepth 16384

noncomputable section

namespace Cert.Reference2Ideal.Proj

open Idealize.ShloMosaic Idealize.ShloMosaic.TcCoe Idealize.ShloMosaic.Tactic
open Idealize.SL.Sem
open Cert.Reference2Ideal Cert.Reference2Ideal.Gen Cert.RetForm Cert.NormForm Cert.ProjForm

/-- The value columns of the whole product, the two sequences one under the other. -/
theorem v_at (X : FVec Ideal S32768x1024 .f32) (N : FVec Ideal S1024 .f32) (W : FVec Ideal S1024x6144 .f32) (r : Fin 32768) (j : Fin 2048) :
    ((shapeCast S32768x2048 (extractStridedSlice S2x16384x2048 ![0, 0, 2048] (whole X N W) slices_S2x16384x6144_S2x16384x2048_0_0_2048)
      shapeCasts_S2x16384x2048_S32768x2048 : FVec Ideal S32768x2048 .f32) (ix2 r j) : EReal) = ProjForm.projAt 2048 (by decide) X N W r j := by
  have e : ((shapeCast S32768x2048 (extractStridedSlice S2x16384x2048 ![0, 0, 2048] (whole X N W) slices_S2x16384x6144_S2x16384x2048_0_0_2048)
      shapeCasts_S2x16384x2048_S32768x2048 : FVec Ideal S32768x2048 .f32) (ix2 r j) : EReal)
      = whole X N W (ix3 ⟨r.val / 16384, by omega⟩ ⟨r.val % 16384, by omega⟩ ⟨2048 + j.val, by omega⟩) := by
    generalize whole X N W = p
    pointwise
    try rfl
  rw [e, whole_at X N W _ _ _ r (row_split r)]
  rfl
/-- The gate columns. -/
theorem g_at (X : FVec Ideal S32768x1024 .f32) (N : FVec Ideal S1024 .f32) (W : FVec Ideal S1024x6144 .f32) (r : Fin 32768) (j : Fin 2048) :
    ((shapeCast S32768x2048 (extractStridedSlice S2x16384x2048 ![0, 0, 4096] (whole X N W) slices_S2x16384x6144_S2x16384x2048_0_0_4096)
      shapeCasts_S2x16384x2048_S32768x2048 : FVec Ideal S32768x2048 .f32) (ix2 r j) : EReal) = ProjForm.projAt 4096 (by decide) X N W r j := by
  have e : ((shapeCast S32768x2048 (extractStridedSlice S2x16384x2048 ![0, 0, 4096] (whole X N W) slices_S2x16384x6144_S2x16384x2048_0_0_4096)
      shapeCasts_S2x16384x2048_S32768x2048 : FVec Ideal S32768x2048 .f32) (ix2 r j) : EReal)
      = whole X N W (ix3 ⟨r.val / 16384, by omega⟩ ⟨r.val % 16384, by omega⟩ ⟨4096 + j.val, by omega⟩) := by
    generalize whole X N W = p
    pointwise
    try rfl
  rw [e, whole_at X N W _ _ _ r (row_split r)]
  rfl

/-- The scaled keys, a row per position. -/
def scaled (x : FVec Ideal S2x16384x4x256 .f32) : FVec Ideal S2x16384x4x256 .f32 :=
  mulf x (broadcastInDim S2x16384x4x256 ![] bcast_S_S2x16384x4x256 (constant S_ .f32 0x3D800000#32))
theorem scaled_at (x : FVec Ideal S2x16384x4x256 .f32) (r : Fin 32768) (j : Fin 1024) :
    (evens (scaled x) (ix2 r j) : EReal) = evens x (ix2 r j) * kscale := by
  rw [evens_at, evens_at]
  unfold scaled
  pointwise
  try rfl
/-- The keys, a column per position. -/
theorem kt_at (y : FVec Ideal S32768x1024 .f32) (j : Fin 1024) (r : Fin 32768) :
    ((transpose S1024x32768 [1, 0] y transposes_S32768x1024_S1024x32768_1_0 : FVec Ideal S1024x32768 .f32) (ix2 j r) : EReal) = y (ix2 r j) := by
  pointwise
  try rfl

variable (m : (ℓ : Loc nD τ sig) → Buf (Elt Ideal) ℓ)

/-- The stream, the norm's scale and the weights, as launched. -/
def Xa (c : Dev nD) : S32768x1024.Idx → EReal := m (c, Proc.tc.devRef main_arg0)
def Na (c : Dev nD) : S1024.Idx → EReal := m (c, Proc.tc.devRef main_arg1)
def Wa (c : Dev nD) : S1024x6144.Idx → EReal := m (c, Proc.tc.devRef main_arg2)

def res14 (c : Dev nD) : S32768x1024.Idx → EReal := fun y => rotAt 0 (by decide) (Xa m c) (Na m c) (Wa m c) (y 0 : Fin 32768) (y 1 : Fin 1024)
def res15 (c : Dev nD) : S1024x32768.Idx → EReal := fun y => rotAt 1024 (by decide) (Xa m c) (Na m c) (Wa m c) (y 1 : Fin 32768) (y 0 : Fin 1024) * kscale
def res16 (c : Dev nD) : S32768x2048.Idx → EReal := fun y => ProjForm.projAt 2048 (by decide) (Xa m c) (Na m c) (Wa m c) (y 0 : Fin 32768) (y 1 : Fin 2048)
def res17 (c : Dev nD) : S32768x2048.Idx → EReal := fun y => ProjForm.projAt 4096 (by decide) (Xa m c) (Na m c) (Wa m c) (y 0 : Fin 32768) (y 1 : Fin 2048)

/-- The queries are the rotated query columns. -/
theorem q_form (c : Dev nD) : Cert.Reference2Ideal.Value.res_main_v75 m c
    = truncf .bf16 (evens (rotated (qHeads (whole (Xa m c) (Na m c) (Wa m c))) (Host.cos angles) (Host.sin angles))) bitsLt_bf16_f32 := by
  unfold Cert.Reference2Ideal.Value.res_main_v75 evens rotated turned overHeads qHeads whole normed angles Xa Na Wa
  rfl
/-- The keys are the rotated and scaled key columns, transposed. -/
theorem k_form (c : Dev nD) : Cert.Reference2Ideal.Value.res_main_v80 m c
    = truncf .bf16 (transpose S1024x32768 [1, 0] (evens (scaled (rotated (kHeads (whole (Xa m c) (Na m c) (Wa m c))) (Host.cos angles) (Host.sin angles))))
        transposes_S32768x1024_S1024x32768_1_0) bitsLt_bf16_f32 := by
  unfold Cert.Reference2Ideal.Value.res_main_v80 evens scaled rotated turned overHeads kHeads whole normed angles Xa Na Wa
  rfl

/-- The reference ends with the rotated queries, the rotated and scaled keys, the values and the gates. -/
theorem reference_runs (g : Dev nD → PrngReg) :
    θ_run (defs (F := Ideal)) (onTc (τ := τ) (main (F := Ideal))) ⟨m, fun _ => 0, g⟩ (fun r => ∀ c : Dev nD,
        r.2.mem ((c.tc : Thread nD τ).loc main_v75) = res14 m c ∧ r.2.mem ((c.tc : Thread nD τ).loc main_v80) = res15 m c
        ∧ r.2.mem ((c.tc : Thread nD τ).loc main_v81) = res16 m c ∧ r.2.mem ((c.tc : Thread nD τ).loc main_v82) = res17 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) := by
  refine (θ_run _ _ _).mono (fun r h c => ?_) (Cert.Reference2Ideal.Value.run m g)
  obtain ⟨h6, h7, h8, h9, ha⟩ := h c
  refine ⟨(h6.trans (q_form m c)).trans (funext fun (y : S32768x1024.Idx) => ?_), (h7.trans (k_form m c)).trans (funext fun (y : S1024x32768.Idx) => ?_),
    h8.trans (funext fun (y : S32768x2048.Idx) => ?_), h9.trans (funext fun (y : S32768x2048.Idx) => ?_), ha⟩
  all_goals clear h6 h7 h8 h9 h ha
  all_goals obtain ⟨i, j, rfl⟩ : ∃ (i : Fin _) (j : Fin _), y = ix2 i j := ⟨y 0, y 1, eq_ix2 y⟩
  · exact q_at (Xa m c) (Na m c) (Wa m c) i j
  · exact (kt_at _ i j).trans ((scaled_at _ j i).trans (congrArg (· * kscale) (k_at (Xa m c) (Na m c) (Wa m c) j i)))
  · exact v_at (Xa m c) (Na m c) (Wa m c) i j
  · exact g_at (Xa m c) (Na m c) (Wa m c) i j

end Cert.Reference2Ideal.Proj
-- ==== Proof.Proj.Join.lean ====
module

public import proofs.«01_k».proof.Defs
public import proofs.«01_k».proof.Proof.Proj.Kernel
public import proofs.«01_k».proof.Proof.Proj.Ref
public import Idealize.ShloMosaic.Lib.Claim

@[expose] public section

/-! Kernel and reference compute the same queries, keys, values and gates. -/

set_option maxRecDepth 16384

noncomputable section

namespace Cert.ProjJoin

open Idealize.ShloMosaic Idealize.ShloMosaic.TcCoe Idealize.ShloMosaic.Tactic Idealize.SL.Sem

/-- The value claim. -/
theorem algebraic : Cert.algebraic_Kernel2Ideal_Reference2Ideal (hKernel2Ideal := Cert.Kernel2Ideal.Gen.facts)
    (hReference2Ideal := Cert.Reference2Ideal.Gen.facts) := by
  intro m g m' g' _ hin
  refine ⟨Cert.Kernel2Ideal.Proj.res14 m, Cert.Kernel2Ideal.Proj.res15 m, Cert.Kernel2Ideal.Proj.res16 m, Cert.Kernel2Ideal.Proj.res17 m,
    Cert.Kernel2Ideal.Proj.kernel_runs m g, ?_⟩
  refine (θ_run _ _ _).mono (fun r h c => ?_) (Cert.Reference2Ideal.Proj.reference_runs m' g')
  obtain ⟨e0, e1, e2⟩ := hin c
  have x : Cert.Reference2Ideal.Proj.Xa m' c = Cert.Kernel2Ideal.Proj.Xa m c := e0
  have n : Cert.Reference2Ideal.Proj.Na m' c = Cert.Kernel2Ideal.Proj.Na m c := e1
  have w : Cert.Reference2Ideal.Proj.Wa m' c = Cert.Kernel2Ideal.Proj.Wa m c := e2
  obtain ⟨h6, h7, h8, h9, ha⟩ := h c
  refine ⟨h6.trans ?_, h7.trans ?_, h8.trans ?_, h9.trans ?_, ha⟩
  · unfold Cert.Reference2Ideal.Proj.res14; rw [x, n, w]; rfl
  · unfold Cert.Reference2Ideal.Proj.res15; rw [x, n, w]; rfl
  · unfold Cert.Reference2Ideal.Proj.res16; rw [x, n, w]; rfl
  · unfold Cert.Reference2Ideal.Proj.res17; rw [x, n, w]; rfl

end Cert.ProjJoin
-- ==== Proof.lean ====
/- The claims about the four calls: frames, kept programs, and the equality of kernel and reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Ret.RefFrame
public import proofs.«01_k».proof.Proof.Ret.Kernel.Frame
public import proofs.«01_k».proof.Proof.Ret.KernelIdeal.Frame
public import proofs.«01_k».proof.Proof.Ret.Join
public import proofs.«01_k».proof.Proof.Norm.Join
public import proofs.«01_k».proof.Proof.Post.Join
public import proofs.«01_k».proof.Proof.Proj.RefFrame
public import proofs.«01_k».proof.Proof.Proj.Join
public import Idealize.ShloMosaic.Adequacy
public import Idealize.ShloMosaic.Init

@[expose] public section

noncomputable section

namespace Cert.Proof

open Idealize.ShloMosaic Idealize.SL.Sem Cert.Kernel

/-- The frames, the kept programs, and the value claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.RetFinite.facts,
  fun m ρ _ => Cert.Kernel.Ret.frame_ok m ρ, fun m ρ _ => Cert.KernelIdeal.Ret.frame_ok m ρ, fun m ρ _ => Cert.KernelIdeal.Ret.frame_ok m ρ,
  fun m ρ _ => Cert.ReferenceIdeal.Ret.frame_ok m ρ, fun m ρ _ => Cert.ReferenceIdeal.Ret.frame_ok m ρ,
  fun m ρ _ => Cert.Kernel2.Gen.frame m ρ, fun m ρ _ => Cert.Kernel2Ideal.Gen.frame m ρ, fun m ρ _ => Cert.Reference2Ideal.Proj.frame_ok m ρ,
  fun m ρ _ => Cert.Kernel3.Gen.frame m ρ, fun m ρ _ => Cert.Kernel3Ideal.Gen.frame m ρ, fun m ρ _ => Cert.Reference3Ideal.Norm.frame_ok m ρ,
  fun m ρ _ => Cert.Kernel4.Gen.frame m ρ, fun m ρ _ => Cert.Kernel4Ideal.Gen.frame m ρ, fun m ρ _ => Cert.Reference4Ideal.Post.frame_ok m ρ,
  trivial, Cert.RetJoin.algebraic, trivial, Cert.ProjJoin.algebraic, trivial, Cert.NormJoin.algebraic, trivial, Cert.PostJoin.algebraic⟩

end Cert.Proof

end
